-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Kernel29Ideal_finite_acts [hPre_finite_acts : Cert.Pre_finite_acts.Facts] (m : (ℓ : Loc Cert.Kernel29Ideal.nD Cert.Kernel29Ideal.τ Cert.Kernel29Ideal.sig) → Buf (Elt Ideal) ℓ) : Prop :=
  ∀ c : Dev Cert.Kernel29Ideal.nD,
    (Cert.Pre_finite_acts.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3))).1 = (fun _ => 1#1)
    ∧ (Cert.Pre_finite_acts.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3))).2 = (fun _ => 1#1)

def Pre_Reference29Ideal (m : (ℓ : Loc Cert.Reference29Ideal.nD Cert.Reference29Ideal.τ Cert.Reference29Ideal.sig) → Buf (Elt Ideal) ℓ) : Prop :=
  True

def Pre_Reference29Ideal_finite_acts [hPre_finite_acts : Cert.Pre_finite_acts.Facts] (m : (ℓ : Loc Cert.Reference29Ideal.nD Cert.Reference29Ideal.τ Cert.Reference29Ideal.sig) → Buf (Elt Ideal) ℓ) : Prop :=
  ∀ c : Dev Cert.Reference29Ideal.nD,
    (Cert.Pre_finite_acts.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2)) (m ((c.tc : Thread Cert.Reference29Ideal.nD Cert.Reference29Ideal.τ).loc Cert.Reference29Ideal.main_arg3))).1 = (fun _ => 1#1)
    ∧ (Cert.Pre_finite_acts.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2)) (m ((c.tc : Thread Cert.Reference29Ideal.nD Cert.Reference29Ideal.τ).loc Cert.Reference29Ideal.main_arg3))).2 = (fun _ => 1#1)

def Pre_Kernel30 [hPre_late_core : Cert.Pre_late_core.Facts] (m : (ℓ : Loc Cert.Kernel30.nD Cert.Kernel30.τ Cert.Kernel30.sig) → Buf (Elt Bits) ℓ) : Prop :=
  ∀ c : Dev Cert.Kernel30.nD,
    (Cert.Pre_late_core.fn (F := Bits) (m ((c.tc : Thread Cert.Kernel30.nD Cert.Kernel30.τ).loc Cert.Kernel30.main_arg0)) (m ((c.tc : Thread Cert.Kernel30.nD Cert.Kernel30.τ).loc Cert.Kernel30.main_arg1)) (m ((c.tc : Thread Cert.Kernel30.nD Cert.Kernel30.τ).loc Cert.Kernel30.main_arg2))) = (fun _ => 1#1)

def Pre_Kernel30Ideal [hPre_late_core : Cert.Pre_late_core.Facts] (m : (ℓ : Loc Cert.Kernel30Ideal.nD Cert.Kernel30Ideal.τ Cert.Kernel30Ideal.sig) → Buf (Elt Ideal) ℓ) : Prop :=
  ∀ c : Dev Cert.Kernel30Ideal.nD,
    (Cert.Pre_late_core.fn (F := Ideal) (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2))) = (fun _ => 1#1)

def Pre_Reference30Ideal (m : (ℓ : Loc Cert.Reference30Ideal.nD Cert.Reference30Ideal.τ Cert.Reference30Ideal.sig) → Buf (Elt Ideal) ℓ) : Prop :=
  True

def Pre_Reference30Ideal_late_core [hPre_late_core : Cert.Pre_late_core.Facts] (m : (ℓ : Loc Cert.Reference30Ideal.nD Cert.Reference30Ideal.τ Cert.Reference30Ideal.sig) → Buf (Elt Ideal) ℓ) : Prop :=
  ∀ c : Dev Cert.Reference30Ideal.nD,
    (Cert.Pre_late_core.fn (F := Ideal) (m ((c.tc : Thread Cert.Reference30Ideal.nD Cert.Reference30Ideal.τ).loc Cert.Reference30Ideal.main_arg0)) (m ((c.tc : Thread Cert.Reference30Ideal.nD Cert.Reference30Ideal.τ).loc Cert.Reference30Ideal.main_arg1)) (m ((c.tc : Thread Cert.Reference30Ideal.nD Cert.Reference30Ideal.τ).loc Cert.Reference30Ideal.main_arg2))) = (fun _ => 1#1)

def Pre_Kernel31 [hPre_w_in_core : Cert.Pre_w_in_core.Facts] (m : (ℓ : Loc Cert.Kernel31.nD Cert.Kernel31.τ Cert.Kernel31.sig) → Buf (Elt Bits) ℓ) : Prop :=
  ∀ c : Dev Cert.Kernel31.nD,
    (Cert.Pre_w_in_core.fn (F := Bits) (m ((c.tc : Thread Cert.Kernel31.nD Cert.Kernel31.τ).loc Cert.Kernel31.main_arg0)) (m ((c.tc : Thread Cert.Kernel31.nD Cert.Kernel31.τ).loc Cert.Kernel31.main_arg1)) (m ((c.tc : Thread Cert.Kernel31.nD Cert.Kernel31.τ).loc Cert.Kernel31.main_arg2))) = (fun _ => 1#1)

def Pre_Kernel31Ideal [hPre_w_in_core : Cert.Pre_w_in_core.Facts] (m : (ℓ : Loc Cert.Kernel31Ideal.nD Cert.Kernel31Ideal.τ Cert.Kernel31Ideal.sig) → Buf (Elt Ideal) ℓ) : Prop :=
  ∀ c : Dev Cert.Kernel31Ideal.nD,
    (Cert.Pre_w_in_core.fn (F := Ideal) (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2))) = (fun _ => 1#1)

def Pre_Reference31Ideal (m : (ℓ : Loc Cert.Reference31Ideal.nD Cert.Reference31Ideal.τ Cert.Reference31Ideal.sig) → Buf (Elt Ideal) ℓ) : Prop :=
  True

def Pre_Reference31Ideal_w_in_core [hPre_w_in_core : Cert.Pre_w_in_core.Facts] (m : (ℓ : Loc Cert.Reference31Ideal.nD Cert.Reference31Ideal.τ Cert.Reference31Ideal.sig) → Buf (Elt Ideal) ℓ) : Prop :=
  ∀ c : Dev Cert.Reference31Ideal.nD,
    (Cert.Pre_w_in_core.fn (F := Ideal) (m ((c.tc : Thread Cert.Reference31Ideal.nD Cert.Reference31Ideal.τ).loc Cert.Reference31Ideal.main_arg0)) (m ((c.tc : Thread Cert.Reference31Ideal.nD Cert.Reference31Ideal.τ).loc Cert.Reference31Ideal.main_arg1)) (m ((c.tc : Thread Cert.Reference31Ideal.nD Cert.Reference31Ideal.τ).loc Cert.Reference31Ideal.main_arg2))) = (fun _ => 1#1)

def Pre_Kernel32 [hPre_late_chip : Cert.Pre_late_chip.Facts] (m : (ℓ : Loc Cert.Kernel32.nD Cert.Kernel32.τ Cert.Kernel32.sig) → Buf (Elt Bits) ℓ) : Prop :=
  ∀ c : Dev Cert.Kernel32.nD,
    (Cert.Pre_late_chip.fn (F := Bits) (m ((c.tc : Thread Cert.Kernel32.nD Cert.Kernel32.τ).loc Cert.Kernel32.main_arg0)) (m ((c.tc : Thread Cert.Kernel32.nD Cert.Kernel32.τ).loc Cert.Kernel32.main_arg1)) (m ((c.tc : Thread Cert.Kernel32.nD Cert.Kernel32.τ).loc Cert.Kernel32.main_arg2))) = (fun _ => 1#1)

def Pre_Kernel32Ideal [hPre_late_chip : Cert.Pre_late_chip.Facts] (m : (ℓ : Loc Cert.Kernel32Ideal.nD Cert.Kernel32Ideal.τ Cert.Kernel32Ideal.sig) → Buf (Elt Ideal) ℓ) : Prop :=
  ∀ c : Dev Cert.Kernel32Ideal.nD,
    (Cert.Pre_late_chip.fn (F := Ideal) (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2))) = (fun _ => 1#1)

def Pre_Reference32Ideal (m : (ℓ : Loc Cert.Reference32Ideal.nD Cert.Reference32Ideal.τ Cert.Reference32Ideal.sig) → Buf (Elt Ideal) ℓ) : Prop :=
  True

def Pre_Reference32Ideal_late_chip [hPre_late_chip : Cert.Pre_late_chip.Facts] (m : (ℓ : Loc Cert.Reference32Ideal.nD Cert.Reference32Ideal.τ Cert.Reference32Ideal.sig) → Buf (Elt Ideal) ℓ) : Prop :=
  ∀ c : Dev Cert.Reference32Ideal.nD,
    (Cert.Pre_late_chip.fn (F := Ideal) (m ((c.tc : Thread Cert.Reference32Ideal.nD Cert.Reference32Ideal.τ).loc Cert.Reference32Ideal.main_arg0)) (m ((c.tc : Thread Cert.Reference32Ideal.nD Cert.Reference32Ideal.τ).loc Cert.Reference32Ideal.main_arg1)) (m ((c.tc : Thread Cert.Reference32Ideal.nD Cert.Reference32Ideal.τ).loc Cert.Reference32Ideal.main_arg2))) = (fun _ => 1#1)

def Pre_Kernel33 [hPre_w_in_chip : Cert.Pre_w_in_chip.Facts] (m : (ℓ : Loc Cert.Kernel33.nD Cert.Kernel33.τ Cert.Kernel33.sig) → Buf (Elt Bits) ℓ) : Prop :=
  ∀ c : Dev Cert.Kernel33.nD,
    (Cert.Pre_w_in_chip.fn (F := Bits) (m ((c.tc : Thread Cert.Kernel33.nD Cert.Kernel33.τ).loc Cert.Kernel33.main_arg0)) (m ((c.tc : Thread Cert.Kernel33.nD Cert.Kernel33.τ).loc Cert.Kernel33.main_arg1)) (m ((c.tc : Thread Cert.Kernel33.nD Cert.Kernel33.τ).loc Cert.Kernel33.main_arg2))) = (fun _ => 1#1)

def Pre_Kernel33Ideal [hPre_w_in_chip : Cert.Pre_w_in_chip.Facts] (m : (ℓ : Loc Cert.Kernel33Ideal.nD Cert.Kernel33Ideal.τ Cert.Kernel33Ideal.sig) → Buf (Elt Ideal) ℓ) : Prop :=
  ∀ c : Dev Cert.Kernel33Ideal.nD,
    (Cert.Pre_w_in_chip.fn (F := Ideal) (m ((c.tc : Thread Cert.Kernel33Ideal.nD Cert.Kernel33Ideal.τ).loc Cert.Kernel33Ideal.main_arg0)) (m ((c.tc : Thread Cert.Kernel33Ideal.nD Cert.Kernel33Ideal.τ).loc Cert.Kernel33Ideal.main_arg1)) (m ((c.tc : Thread Cert.Kernel33Ideal.nD Cert.Kernel33Ideal.τ).loc Cert.Kernel33Ideal.main_arg2))) = (fun _ => 1#1)

def Pre_Reference33Ideal (m : (ℓ : Loc Cert.Reference33Ideal.nD Cert.Reference33Ideal.τ Cert.Reference33Ideal.sig) → Buf (Elt Ideal) ℓ) : Prop :=
  True

def Pre_Reference33Ideal_w_in_chip [hPre_w_in_chip : Cert.Pre_w_in_chip.Facts] (m : (ℓ : Loc Cert.Reference33Ideal.nD Cert.Reference33Ideal.τ Cert.Reference33Ideal.sig) → Buf (Elt Ideal) ℓ) : Prop :=
  ∀ c : Dev Cert.Reference33Ideal.nD,
    (Cert.Pre_w_in_chip.fn (F := Ideal) (m ((c.tc : Thread Cert.Reference33Ideal.nD Cert.Reference33Ideal.τ).loc Cert.Reference33Ideal.main_arg0)) (m ((c.tc : Thread Cert.Reference33Ideal.nD Cert.Reference33Ideal.τ).loc Cert.Reference33Ideal.main_arg1)) (m ((c.tc : Thread Cert.Reference33Ideal.nD Cert.Reference33Ideal.τ).loc Cert.Reference33Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Kernel29Ideal_pre_finite_acts [hKernel29Ideal : Cert.Kernel29Ideal.Facts] [hPre_finite_acts : Cert.Pre_finite_acts.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal_finite_acts m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Reference29Ideal_pre_finite_acts [hReference29Ideal : Cert.Reference29Ideal.Facts] [hPre_finite_acts : Cert.Pre_finite_acts.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal_finite_acts m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] [hPre_late_core : Cert.Pre_late_core.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] [hPre_late_core : Cert.Pre_late_core.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Reference30Ideal_pre_late_core [hReference30Ideal : Cert.Reference30Ideal.Facts] [hPre_late_core : Cert.Pre_late_core.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal_late_core m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Kernel31 [hKernel31 : Cert.Kernel31.Facts] [hPre_w_in_core : Cert.Pre_w_in_core.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] [hPre_w_in_core : Cert.Pre_w_in_core.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Reference31Ideal_pre_w_in_core [hReference31Ideal : Cert.Reference31Ideal.Facts] [hPre_w_in_core : Cert.Pre_w_in_core.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal_w_in_core m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Kernel32 [hKernel32 : Cert.Kernel32.Facts] [hPre_late_chip : Cert.Pre_late_chip.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2))
      ∧ r.2.sem = fun _ => 0)

def quiescent_Kernel32Ideal [hKernel32Ideal : Cert.Kernel32Ideal.Facts] [hPre_late_chip : Cert.Pre_late_chip.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2))
      ∧ r.2.sem = fun _ => 0)

def quiescent_Reference32Ideal_pre_late_chip [hReference32Ideal : Cert.Reference32Ideal.Facts] [hPre_late_chip : Cert.Pre_late_chip.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal_late_chip m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2))
      ∧ r.2.sem = fun _ => 0)

def quiescent_Kernel33 [hKernel33 : Cert.Kernel33.Facts] [hPre_w_in_chip : Cert.Pre_w_in_chip.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2))
      ∧ r.2.sem = fun _ => 0)

def quiescent_Kernel33Ideal [hKernel33Ideal : Cert.Kernel33Ideal.Facts] [hPre_w_in_chip : Cert.Pre_w_in_chip.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2))
      ∧ r.2.sem = fun _ => 0)

def quiescent_Reference33Ideal_pre_w_in_chip [hReference33Ideal : Cert.Reference33Ideal.Facts] [hPre_w_in_chip : Cert.Pre_w_in_chip.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal_w_in_chip m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2))
      ∧ r.2.sem = fun _ => 0)

def preserves_Kernel_KernelIdeal : Prop :=
  True

def algebraic_KernelIdeal_ReferenceIdeal_on_gate_columns [hKernelIdeal : Cert.KernelIdeal.Facts] [hReferenceIdeal : Cert.ReferenceIdeal.Facts] [hOn_gate_columns : Cert.On_gate_columns.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 10240]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.KernelIdeal.nD Cert.KernelIdeal.τ).loc Cert.KernelIdeal.main_v0_0) i = v0 c i)
          ∧ (∀ i : (⟨2, ![8192, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.KernelIdeal.nD Cert.KernelIdeal.τ).loc Cert.KernelIdeal.main_v0_1) i = v1 c i)
          ∧ (∀ i : (⟨2, ![8192, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.KernelIdeal.nD Cert.KernelIdeal.τ).loc Cert.KernelIdeal.main_v0_2) i = v2 c i)
          ∧ (∀ i : (⟨2, ![8192, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 i = 1#1 → r.2.mem ((c.tc : Thread Cert.KernelIdeal.nD Cert.KernelIdeal.τ).loc Cert.KernelIdeal.main_v0_3) i = v3 c i)
          ∧ (∀ i : (⟨2, ![8192, 2048]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 i = 1#1 → r.2.mem ((c.tc : Thread Cert.KernelIdeal.nD Cert.KernelIdeal.τ).loc Cert.KernelIdeal.main_v0_4) i = v4 c i)
          ∧ (∀ i : (⟨2, ![2, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 i = 1#1 → r.2.mem ((c.tc : Thread Cert.KernelIdeal.nD Cert.KernelIdeal.τ).loc Cert.KernelIdeal.main_v0_5) i = v5 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8192, 10240]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.ReferenceIdeal.nD Cert.ReferenceIdeal.τ).loc Cert.ReferenceIdeal.main_v65) i = v0 c i)
          ∧ (∀ i : (⟨2, ![8192, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.ReferenceIdeal.nD Cert.ReferenceIdeal.τ).loc Cert.ReferenceIdeal.main_v66) i = v1 c i)
          ∧ (∀ i : (⟨2, ![8192, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.ReferenceIdeal.nD Cert.ReferenceIdeal.τ).loc Cert.ReferenceIdeal.main_v67) i = v2 c i)
          ∧ (∀ i : (⟨2, ![8192, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 i = 1#1 → r.2.mem ((c.tc : Thread Cert.ReferenceIdeal.nD Cert.ReferenceIdeal.τ).loc Cert.ReferenceIdeal.main_v68) i = v3 c i)
          ∧ (∀ i : (⟨2, ![8192, 2048]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 i = 1#1 → r.2.mem ((c.tc : Thread Cert.ReferenceIdeal.nD Cert.ReferenceIdeal.τ).loc Cert.ReferenceIdeal.main_v69) i = v4 c i)
          ∧ (∀ i : (⟨2, ![2, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 i = 1#1 → r.2.mem ((c.tc : Thread Cert.ReferenceIdeal.nD Cert.ReferenceIdeal.τ).loc Cert.ReferenceIdeal.main_v54) i = v5 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v11) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v10) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v34) = v0 c
          ∧ r.2.mem ((c.tc : Thread Cert.Reference19Ideal.nD Cert.Reference19Ideal.τ).loc Cert.Reference19Ideal.main_v17) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v35) = v0 c
          ∧ r.2.mem ((c.tc : Thread Cert.Reference25Ideal.nD Cert.Reference25Ideal.τ).loc Cert.Reference25Ideal.main_v36) = v1 c
          ∧ r.2.mem ((c.tc : Thread Cert.Reference25Ideal.nD Cert.Reference25Ideal.τ).loc Cert.Reference25Ideal.main_v37) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v49) = v0 c
          ∧ r.2.mem ((c.tc : Thread Cert.Reference26Ideal.nD Cert.Reference26Ideal.τ).loc Cert.Reference26Ideal.main_v48) = v1 c
          ∧ r.2.mem ((c.tc : Thread Cert.Reference26Ideal.nD Cert.Reference26Ideal.τ).loc Cert.Reference26Ideal.main_v32) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v12) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v28) = v0 c
          ∧ r.2.mem ((c.tc : Thread Cert.Reference28Ideal.nD Cert.Reference28Ideal.τ).loc Cert.Reference28Ideal.main_v29) = v1 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def preserves_Kernel29_Kernel29Ideal : Prop :=
  True

def algebraic_Kernel29Ideal_Reference29Ideal_pre_finite_acts [hKernel29Ideal : Cert.Kernel29Ideal.Facts] [hReference29Ideal : Cert.Reference29Ideal.Facts] [hPre_finite_acts : Cert.Pre_finite_acts.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal_finite_acts m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v71) = v0 c
          ∧ r.2.mem ((c.tc : Thread Cert.Reference29Ideal.nD Cert.Reference29Ideal.τ).loc Cert.Reference29Ideal.main_v62) = v1 c
          ∧ r.2.mem ((c.tc : Thread Cert.Reference29Ideal.nD Cert.Reference29Ideal.τ).loc Cert.Reference29Ideal.main_v42) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] [hPre_late_core : Cert.Pre_late_core.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v10) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def preserves_Kernel31_Kernel31Ideal : Prop :=
  True

def algebraic_Kernel31Ideal_Reference31Ideal [hKernel31Ideal : Cert.Kernel31Ideal.Facts] [hReference31Ideal : Cert.Reference31Ideal.Facts] [hPre_w_in_core : Cert.Pre_w_in_core.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v10) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def preserves_Kernel32_Kernel32Ideal : Prop :=
  True

def algebraic_Kernel32Ideal_Reference32Ideal [hKernel32Ideal : Cert.Kernel32Ideal.Facts] [hReference32Ideal : Cert.Reference32Ideal.Facts] [hPre_late_chip : Cert.Pre_late_chip.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v29) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2))

def preserves_Kernel33_Kernel33Ideal : Prop :=
  True

def algebraic_Kernel33Ideal_Reference33Ideal [hKernel33Ideal : Cert.Kernel33Ideal.Facts] [hReference33Ideal : Cert.Reference33Ideal.Facts] [hPre_w_in_chip : Cert.Pre_w_in_chip.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v29) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hPre_finite_acts : Cert.Pre_finite_acts.Facts) (hPre_late_core : Cert.Pre_late_core.Facts) (hPre_w_in_core : Cert.Pre_w_in_core.Facts) (hPre_late_chip : Cert.Pre_late_chip.Facts) (hPre_w_in_chip : Cert.Pre_w_in_chip.Facts) (hOn_gate_columns : Cert.On_gate_columns.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Kernel29Ideal_pre_finite_acts (hKernel29Ideal := hKernel29Ideal) (hPre_finite_acts := hPre_finite_acts)
    ∧ quiescent_Reference29Ideal (hReference29Ideal := hReference29Ideal)
    ∧ quiescent_Reference29Ideal_pre_finite_acts (hReference29Ideal := hReference29Ideal) (hPre_finite_acts := hPre_finite_acts)
    ∧ quiescent_Kernel30 (hKernel30 := hKernel30) (hPre_late_core := hPre_late_core)
    ∧ quiescent_Kernel30Ideal (hKernel30Ideal := hKernel30Ideal) (hPre_late_core := hPre_late_core)
    ∧ quiescent_Reference30Ideal (hReference30Ideal := hReference30Ideal)
    ∧ quiescent_Reference30Ideal_pre_late_core (hReference30Ideal := hReference30Ideal) (hPre_late_core := hPre_late_core)
    ∧ quiescent_Kernel31 (hKernel31 := hKernel31) (hPre_w_in_core := hPre_w_in_core)
    ∧ quiescent_Kernel31Ideal (hKernel31Ideal := hKernel31Ideal) (hPre_w_in_core := hPre_w_in_core)
    ∧ quiescent_Reference31Ideal (hReference31Ideal := hReference31Ideal)
    ∧ quiescent_Reference31Ideal_pre_w_in_core (hReference31Ideal := hReference31Ideal) (hPre_w_in_core := hPre_w_in_core)
    ∧ quiescent_Kernel32 (hKernel32 := hKernel32) (hPre_late_chip := hPre_late_chip)
    ∧ quiescent_Kernel32Ideal (hKernel32Ideal := hKernel32Ideal) (hPre_late_chip := hPre_late_chip)
    ∧ quiescent_Reference32Ideal (hReference32Ideal := hReference32Ideal)
    ∧ quiescent_Reference32Ideal_pre_late_chip (hReference32Ideal := hReference32Ideal) (hPre_late_chip := hPre_late_chip)
    ∧ quiescent_Kernel33 (hKernel33 := hKernel33) (hPre_w_in_chip := hPre_w_in_chip)
    ∧ quiescent_Kernel33Ideal (hKernel33Ideal := hKernel33Ideal) (hPre_w_in_chip := hPre_w_in_chip)
    ∧ quiescent_Reference33Ideal (hReference33Ideal := hReference33Ideal)
    ∧ quiescent_Reference33Ideal_pre_w_in_chip (hReference33Ideal := hReference33Ideal) (hPre_w_in_chip := hPre_w_in_chip)
    ∧ preserves_Kernel_KernelIdeal
    ∧ algebraic_KernelIdeal_ReferenceIdeal_on_gate_columns (hKernelIdeal := hKernelIdeal) (hReferenceIdeal := hReferenceIdeal) (hOn_gate_columns := hOn_gate_columns)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal_pre_finite_acts (hKernel29Ideal := hKernel29Ideal) (hReference29Ideal := hReference29Ideal) (hPre_finite_acts := hPre_finite_acts)
    ∧ preserves_Kernel30_Kernel30Ideal
    ∧ algebraic_Kernel30Ideal_Reference30Ideal (hKernel30Ideal := hKernel30Ideal) (hReference30Ideal := hReference30Ideal) (hPre_late_core := hPre_late_core)
    ∧ preserves_Kernel31_Kernel31Ideal
    ∧ algebraic_Kernel31Ideal_Reference31Ideal (hKernel31Ideal := hKernel31Ideal) (hReference31Ideal := hReference31Ideal) (hPre_w_in_core := hPre_w_in_core)
    ∧ preserves_Kernel32_Kernel32Ideal
    ∧ algebraic_Kernel32Ideal_Reference32Ideal (hKernel32Ideal := hKernel32Ideal) (hReference32Ideal := hReference32Ideal) (hPre_late_chip := hPre_late_chip)
    ∧ preserves_Kernel33_Kernel33Ideal
    ∧ algebraic_Kernel33Ideal_Reference33Ideal (hKernel33Ideal := hKernel33Ideal) (hReference33Ideal := hReference33Ideal) (hPre_w_in_chip := hPre_w_in_chip)
-- ==== On_gate_columns.lean ====
abbrev S8192x1024 : Shape := ⟨2, ![8192, 1024]⟩
abbrev S8192x9216 : Shape := ⟨2, ![8192, 9216]⟩
abbrev S2x1024 : Shape := ⟨2, ![2, 1024]⟩
abbrev S1024x1024 : Shape := ⟨2, ![1024, 1024]⟩
abbrev S2048x1024 : Shape := ⟨2, ![2048, 1024]⟩
abbrev S8192x10240 : Shape := ⟨2, ![8192, 10240]⟩
abbrev S_ : Shape := ⟨0, ![]⟩
abbrev S8192x2048 : Shape := ⟨2, ![8192, 2048]⟩

class Facts : Prop where
  bcast_S_S8192x10240 : S_.BroadcastsInDim S8192x10240 (![] : Fin 0 → Fin S8192x10240.rank)
  bcast_S_S8192x1024 : S_.BroadcastsInDim S8192x1024 (![] : Fin 0 → Fin S8192x1024.rank)
  bcast_S_S8192x2048 : S_.BroadcastsInDim S8192x2048 (![] : Fin 0 → Fin S8192x2048.rank)
  bcast_S_S2x1024 : S_.BroadcastsInDim S2x1024 (![] : Fin 0 → Fin S2x1024.rank)

variable [Facts]

def fn {F : FTy → Type} [FloatOps F] (main_arg0 : FVec F S8192x1024 .bf16) (main_arg1 : FVec F S8192x9216 .bf16) (main_arg2 : FVec F S2x1024 .f32) (main_arg3 : FVec F S8192x1024 .bf16) (main_arg4 : FVec F S8192x1024 .bf16) (main_arg5 : FVec F S1024x1024 .bf16) (main_arg6 : FVec F S2048x1024 .bf16) : IVec S8192x10240 1 × IVec S8192x1024 1 × IVec S8192x1024 1 × IVec S8192x1024 1 × IVec S8192x2048 1 × IVec S2x1024 1 :=
  let main_v0 : IVec S8192x10240 32 := iotaInDim S8192x10240 32 1
  let main_c : IVec S_ 32 := constantI S_ 32 2048#32
  let main_v1 : IVec S8192x10240 32 := broadcastInDim S8192x10240 ![] bcast_S_S8192x10240 main_c
  let main_v2 : IVec S8192x10240 1 := cmpi .slt main_v0 main_v1
  let main_v3 : IVec S8192x1024 32 := iotaInDim S8192x1024 32 0
  let main_c_0 : IVec S_ 32 := constantI S_ 32 0#32
  let main_v4 : IVec S8192x1024 32 := broadcastInDim S8192x1024 ![] bcast_S_S8192x1024 main_c_0
  let main_v5 : IVec S8192x1024 1 := cmpi .sge main_v3 main_v4
  let main_v6 : IVec S8192x1024 32 := iotaInDim S8192x1024 32 0
  let main_c_1 : IVec S_ 32 := constantI S_ 32 0#32
  let main_v7 : IVec S8192x1024 32 := broadcastInDim S8192x1024 ![] bcast_S_S8192x1024 main_c_1
  let main_v8 : IVec S8192x1024 1 := cmpi .sge main_v6 main_v7
  let main_v9 : IVec S8192x1024 32 := iotaInDim S8192x1024 32 0
  let main_c_2 : IVec S_ 32 := constantI S_ 32 0#32
  let main_v10 : IVec S8192x1024 32 := broadcastInDim S8192x1024 ![] bcast_S_S8192x1024 main_c_2
  let main_v11 : IVec S8192x1024 1 := cmpi .sge main_v9 main_v10
  let main_v12 : IVec S8192x2048 32 := iotaInDim S8192x2048 32 0
  let main_c_3 : IVec S_ 32 := constantI S_ 32 0#32
  let main_v13 : IVec S8192x2048 32 := broadcastInDim S8192x2048 ![] bcast_S_S8192x2048 main_c_3
  let main_v14 : IVec S8192x2048 1 := cmpi .sge main_v12 main_v13
  let main_v15 : IVec S2x1024 32 := iotaInDim S2x1024 32 0
  let main_c_4 : IVec S_ 32 := constantI S_ 32 0#32
  let main_v16 : IVec S2x1024 32 := broadcastInDim S2x1024 ![] bcast_S_S2x1024 main_c_4
  let main_v17 : IVec S2x1024 1 := cmpi .sge main_v15 main_v16
  (main_v2, main_v5, main_v8, main_v11, main_v14, main_v17)
-- ==== Pre_finite_acts.lean ====
abbrev S8192x5632 : Shape := ⟨2, ![8192, 5632]⟩
abbrev S8192x2816 : Shape := ⟨2, ![8192, 2816]⟩
abbrev S3x5632 : Shape := ⟨2, ![3, 5632]⟩
abbrev S_ : Shape := ⟨0, ![]⟩

class Facts : Prop where
  bitsLt_bf16_f32 : FTy.bits .bf16 < FTy.bits .f32
  bcast_S_S8192x5632 : S_.BroadcastsInDim S8192x5632 (![] : Fin 0 → Fin S8192x5632.rank)
  bcast_S_S8192x2816 : S_.BroadcastsInDim S8192x2816 (![] : Fin 0 → Fin S8192x2816.rank)

variable [Facts]

def fn {F : FTy → Type} [FloatOps F] (main_arg0 : FVec F S8192x5632 .bf16) (main_arg1 : FVec F S8192x5632 .bf16) (main_arg2 : FVec F S8192x2816 .bf16) (main_arg3 : FVec F S3x5632 .f32) : IVec S8192x5632 1 × IVec S8192x2816 1 :=
  let main_v0 : FVec F S8192x5632 .f32 := (extf .f32 · bitsLt_bf16_f32) main_arg1
  let main_v1 : FVec F S8192x5632 .f32 := Host.absf main_v0
  let main_cst : FVec F S_ .f32 := constant S_ .f32 0x7F800000#32
  let main_v2 : FVec F S8192x5632 .f32 := broadcastInDim S8192x5632 ![] bcast_S_S8192x5632 main_cst
  let main_v3 : IVec S8192x5632 1 := cmpf .olt main_v1 main_v2
  let main_v4 : FVec F S8192x2816 .f32 := (extf .f32 · bitsLt_bf16_f32) main_arg2
  let main_v5 : FVec F S8192x2816 .f32 := Host.absf main_v4
  let main_cst_0 : FVec F S_ .f32 := constant S_ .f32 0x7F800000#32
  let main_v6 : FVec F S8192x2816 .f32 := broadcastInDim S8192x2816 ![] bcast_S_S8192x2816 main_cst_0
  let main_v7 : IVec S8192x2816 1 := cmpf .olt main_v5 main_v6
  (main_v3, main_v7)
-- ==== Pre_late_chip.lean ====
abbrev S1 : Shape := ⟨1, ![1]⟩
abbrev S4x1568x1024 : Shape := ⟨3, ![4, 1568, 1024]⟩
abbrev S3x1568x1024 : Shape := ⟨3, ![3, 1568, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S4x1568x1024 .bf16) (main_arg2 : FVec F S3x1568x1024 .bf16) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_late_core.lean ====
abbrev S1 : Shape := ⟨1, ![1]⟩
abbrev S4x2x1568x1024 : Shape := ⟨4, ![4, 2, 1568, 1024]⟩
abbrev S4x1568x1024 : Shape := ⟨3, ![4, 1568, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S4x2x1568x1024 .bf16) (main_arg2 : FVec F S4x1568x1024 .bf16) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 2#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_w_in_chip.lean ====
abbrev S1 : Shape := ⟨1, ![1]⟩
abbrev S4x1168x1024 : Shape := ⟨3, ![4, 1168, 1024]⟩
abbrev S3x1168x1024 : Shape := ⟨3, ![3, 1168, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S4x1168x1024 .bf16) (main_arg2 : FVec F S3x1168x1024 .bf16) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_w_in_core.lean ====
abbrev S1 : Shape := ⟨1, ![1]⟩
abbrev S4x2x1168x1024 : Shape := ⟨4, ![4, 2, 1168, 1024]⟩
abbrev S4x1168x1024 : Shape := ⟨3, ![4, 1168, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S4x2x1168x1024 .bf16) (main_arg2 : FVec F S4x1168x1024 .bf16) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 2#32
  let main_v2 : IVec S1 32 := broadcastInDim S1 ![] bcast_S_S1 main_c_0
  let main_v3 : IVec S1 1 := cmpi .slt main_arg0 main_v2
  let main_v4 : IVec S1 1 := andi main_v1 main_v3
  main_v4
-- ==== Kernel.lean ====
abbrev S8192x1024 : Shape := ⟨2, ![8192, 1024]⟩
abbrev S8192x9216 : Shape := ⟨2, ![8192, 9216]⟩
abbrev S2x1024 : Shape := ⟨2, ![2, 1024]⟩
abbrev S1024x1024 : Shape := ⟨2, ![1024, 1024]⟩
abbrev S2048x1024 : Shape := ⟨2, ![2048, 1024]⟩
abbrev S8192x10240 : Shape := ⟨2, ![8192, 10240]⟩
abbrev S8192x2048 : Shape := ⟨2, ![8192, 2048]⟩
abbrev S512x1024 : Shape := ⟨2, ![512, 1024]⟩
abbrev S512x2048 : Shape := ⟨2, ![512, 2048]⟩
abbrev S1x1024 : Shape := ⟨2, ![1, 1024]⟩
abbrev S1024 : Shape := ⟨1, ![1024]⟩

abbrev nBuf : Space → Nat
  | .hbm => 13
  | .vmem => 22
  | .smem => 0
  | _ => 0

abbrev bufTy : (tb : Table) → Fin (tcTables nBuf tb) → BufTy
  | .hbm, ⟨0, _⟩ => ⟨S8192x1024, .bf16⟩
  | .hbm, ⟨1, _⟩ => ⟨S8192x9216, .bf16⟩
  | .hbm, ⟨2, _⟩ => ⟨S2x1024, .f32⟩
  | .hbm, ⟨3, _⟩ => ⟨S8192x1024, .bf16⟩
  | .hbm, ⟨4, _⟩ => ⟨S8192x1024, .bf16⟩
  | .hbm, ⟨5, _⟩ => ⟨S1024x1024, .bf16⟩
  | .hbm, ⟨6, _⟩ => ⟨S2048x1024, .bf16⟩
  | .hbm, ⟨7, _⟩ => ⟨S8192x10240, .bf16⟩
  | .hbm, ⟨8, _⟩ => ⟨S8192x1024, .bf16⟩
  | .hbm, ⟨9, _⟩ => ⟨S8192x1024, .bf16⟩
  | .hbm, ⟨10, _⟩ => ⟨S8192x1024, .bf16⟩
  | .hbm, ⟨11, _⟩ => ⟨S8192x2048, .bf16⟩
  | .hbm, ⟨12, _⟩ => ⟨S2x1024, .f32⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S2x1024, .f32⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S1024x1024, .bf16⟩
  | .local _ .vmem, ⟨10, _⟩ => ⟨S2048x1024, .bf16⟩
  | .local _ .vmem, ⟨11, _⟩ => ⟨S512x2048, .bf16⟩
  | .local _ .vmem, ⟨12, _⟩ => ⟨S512x2048, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x2048, .bf16⟩
  | .local _ .vmem, ⟨20, _⟩ => ⟨S512x2048, .bf16⟩
  | .local _ .vmem, ⟨21, _⟩ => ⟨S2x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v63 : BitVec 1 := Scalar.cmpi .eq arg0 c0_i32
  let v64 : BitVec 32 := Scalar.extui v63
  let c0_i32_36 : BitVec 32 := 0#32
  let v65 : BitVec 1 := Scalar.cmpi .ne v64 c0_i32_36
  v65

def k0_cond2 (i : grid0.Coords) : BitVec 1 :=
  let arg0 : BitVec 32 := BitVec.ofNat 32 (i 0).val
  let c0_i32_37 : BitVec 32 := 0#32
  let v66 : BitVec 1 := Scalar.cmpi .sgt arg0 c0_i32_37
  let v67 : BitVec 32 := Scalar.extui v66
  let c0_i32_38 : BitVec 32 := 0#32
  let v68 : BitVec 1 := Scalar.cmpi .ne v67 c0_i32_38
  v68

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S8192x1024 : Shape := ⟨2, ![8192, 1024]⟩
abbrev S8192x9216 : Shape := ⟨2, ![8192, 9216]⟩
abbrev S2x1024 : Shape := ⟨2, ![2, 1024]⟩
abbrev S1024x1024 : Shape := ⟨2, ![1024, 1024]⟩
abbrev S2048x1024 : Shape := ⟨2, ![2048, 1024]⟩
abbrev S8192x2048 : Shape := ⟨2, ![8192, 2048]⟩
abbrev S1x1024 : Shape := ⟨2, ![1, 1024]⟩
abbrev S1024 : Shape := ⟨1, ![1024]⟩
abbrev S_ : Shape := ⟨0, ![]⟩
abbrev S8192x10240 : Shape := ⟨2, ![8192, 10240]⟩

abbrev nBuf : Space → Nat
  | .hbm => 93
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x9216, .bf16⟩
  | .hbm, ⟨2, _⟩ => ⟨S2x1024, .f32⟩
  | .hbm, ⟨3, _⟩ => ⟨S8192x1024, .bf16⟩
  | .hbm, ⟨4, _⟩ => ⟨S8192x1024, .bf16⟩
  | .hbm, ⟨5, _⟩ => ⟨S1024x1024, .bf16⟩
  | .hbm, ⟨6, _⟩ => ⟨S2048x1024, .bf16⟩
  | .hbm, ⟨7, _⟩ => ⟨S8192x9216, .f32⟩
  | .hbm, ⟨8, _⟩ => ⟨S8192x2048, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S_, .f32⟩
  | .hbm, ⟨61, _⟩ => ⟨S2x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S_, .f32⟩
  | .hbm, ⟨72, _⟩ => ⟨S2x1024, .f32⟩
  | .hbm, ⟨73, _⟩ => ⟨S2x1024, .f32⟩
  | .hbm, ⟨74, _⟩ => ⟨S8192x2048, .f32⟩
  | .hbm, ⟨75, _⟩ => ⟨S_, .f32⟩
  | .hbm, ⟨76, _⟩ => ⟨S8192x1024, .f32⟩
  | .hbm, ⟨77, _⟩ => ⟨S_, .f32⟩
  | .hbm, ⟨78, _⟩ => ⟨S8192x2048, .f32⟩
  | .hbm, ⟨79, _⟩ => ⟨S1024x1024, .f32⟩
  | .hbm, ⟨80, _⟩ => ⟨S8192x1024, .f32⟩
  | .hbm, ⟨81, _⟩ => ⟨S8192x1024, .f32⟩
  | .hbm, ⟨82, _⟩ => ⟨S2048x1024, .f32⟩
  | .hbm, ⟨83, _⟩ => ⟨S8192x1024, .f32⟩
  | .hbm, ⟨84, _⟩ => ⟨S8192x2048, .f32⟩
  | .hbm, ⟨85, _⟩ => ⟨S_, .i32⟩
  | .hbm, ⟨86, _⟩ => ⟨S_, .f32⟩
  | .hbm, ⟨87, _⟩ => ⟨S8192x10240, .f32⟩
  | .hbm, ⟨88, _⟩ => ⟨S8192x10240, .bf16⟩
  | .hbm, ⟨89, _⟩ => ⟨S8192x1024, .bf16⟩
  | .hbm, ⟨90, _⟩ => ⟨S8192x1024, .bf16⟩
  | .hbm, ⟨91, _⟩ => ⟨S8192x1024, .bf16⟩
  | .hbm, ⟨92, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_cst_12 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_c : Ref sig .tc := ⟨.hbm, 85, rfl⟩
abbrev main_call0_v0 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩

abbrev nD : Nat := 1
abbrev τ : Topo := Topo.v7x

variable {F : FTy → Type} [FloatOps F]
-- ==== Kernel2.lean ====
abbrev S8192x1024 : Shape := ⟨2, ![8192, 1024]⟩
abbrev S5632x1024 : Shape := ⟨2, ![5632, 1024]⟩
abbrev S8192x5632 : Shape := ⟨2, ![8192, 5632]⟩
abbrev S1024x1024 : Shape := ⟨2, ![1024, 1024]⟩
abbrev S2816x1024 : Shape := ⟨2, ![2816, 1024]⟩
abbrev S1024x2816 : Shape := ⟨2, ![1024, 2816]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S8192x5632, .bf16⟩
  | .local _ .vmem, ⟨0, _⟩ => ⟨S1024x1024, .bf16⟩
  | .local _ .vmem, ⟨1, _⟩ => ⟨S1024x1024, .bf16⟩
  | .local _ .vmem, ⟨2, _⟩ => ⟨S2816x1024, .bf16⟩
  | .local _ .vmem, ⟨3, _⟩ => ⟨S2816x1024, .bf16⟩
  | .local _ .vmem, ⟨4, _⟩ => ⟨S1024x2816, .bf16⟩
  | .local _ .vmem, ⟨5, _⟩ => ⟨S1024x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x1024 : Shape := ⟨2, ![8192, 1024]⟩
abbrev S5632x1024 : Shape := ⟨2, ![5632, 1024]⟩
abbrev S1024x5632 : Shape := ⟨2, ![1024, 5632]⟩
abbrev S8192x5632 : Shape := ⟨2, ![8192, 5632]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S8192x1024, .f32⟩
  | .hbm, ⟨3, _⟩ => ⟨S5632x1024, .f32⟩
  | .hbm, ⟨4, _⟩ => ⟨S1024x5632, .f32⟩
  | .hbm, ⟨5, _⟩ => ⟨S8192x5632, .f32⟩
  | .hbm, ⟨6, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel3.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1024x2816 : Shape := ⟨2, ![1024, 2816]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .bf16⟩
  | .local _ .vmem, ⟨0, _⟩ => ⟨S1024x1024, .f32⟩
  | .local _ .vmem, ⟨1, _⟩ => ⟨S1024x1024, .f32⟩
  | .local _ .vmem, ⟨2, _⟩ => ⟨S2816x1024, .bf16⟩
  | .local _ .vmem, ⟨3, _⟩ => ⟨S1024x2816, .bf16⟩
  | .local _ .vmem, ⟨4, _⟩ => ⟨S1024x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x2816, .f32⟩
  | .hbm, ⟨7, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S8192x5632 : Shape := ⟨2, ![8192, 5632]⟩
abbrev S5632x1024 : Shape := ⟨2, ![5632, 1024]⟩
abbrev S8192x1024 : Shape := ⟨2, ![8192, 1024]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S5632x1024, .bf16⟩
  | .hbm, ⟨2, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x5632 : Shape := ⟨2, ![8192, 5632]⟩
abbrev S5632x1024 : Shape := ⟨2, ![5632, 1024]⟩
abbrev S_ : Shape := ⟨0, ![]⟩
abbrev S8192x1024 : Shape := ⟨2, ![8192, 1024]⟩
abbrev S1024x5632 : Shape := ⟨2, ![1024, 5632]⟩

abbrev nBuf : Space → Nat
  | .hbm => 9
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x1024, .bf16⟩
  | .hbm, ⟨2, _⟩ => ⟨S_, .f32⟩
  | .hbm, ⟨3, _⟩ => ⟨S8192x1024, .f32⟩
  | .hbm, ⟨4, _⟩ => ⟨S5632x1024, .f32⟩
  | .hbm, ⟨5, _⟩ => ⟨S1024x5632, .f32⟩
  | .hbm, ⟨6, _⟩ => ⟨S8192x5632, .f32⟩
  | .hbm, ⟨7, _⟩ => ⟨S8192x5632, .f32⟩
  | .hbm, ⟨8, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S8192x5632 : Shape := ⟨2, ![8192, 5632]⟩
abbrev S8192x1024 : Shape := ⟨2, ![8192, 1024]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.muli v9 c2_i32_3
  let c2_i32_4 : BitVec 32 := 2#32
  let v11 : BitVec 32 := Scalar.divsi arg0 c2_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c2_i32_4 c0_i32_7
  let v18 : BitVec 32 := Scalar.extui v17
  let c0_i32_8 : BitVec 32 := 0#32
  let v19 : BitVec 1 := Scalar.cmpi .slt c2_i32_4 c0_i32_8
  let v20 : BitVec 32 := Scalar.extui v19
  let v21 : BitVec 32 := Scalar.subi v18 v20
  let v22 : BitVec 1 := Scalar.cmpi .ne v16 v21
  let v23 : BitVec 32 := Scalar.remsi arg0 c2_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let v28 : BitVec 32 := Scalar.addi v10 v27
  let c0_i32_11 : BitVec 32 := 0#32
  ![v28.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x5632 : Shape := ⟨2, ![8192, 5632]⟩
abbrev S8192x1024 : Shape := ⟨2, ![8192, 1024]⟩
abbrev S8192x1408 : Shape := ⟨2, ![8192, 1408]⟩
abbrev S_ : Shape := ⟨0, ![]⟩
abbrev S5632x1024 : Shape := ⟨2, ![5632, 1024]⟩
abbrev S1024x5632 : Shape := ⟨2, ![1024, 5632]⟩

abbrev nBuf : Space → Nat
  | .hbm => 17
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S8192x5632, .f32⟩
  | .hbm, ⟨3, _⟩ => ⟨S8192x1408, .f32⟩
  | .hbm, ⟨4, _⟩ => ⟨S8192x1408, .f32⟩
  | .hbm, ⟨5, _⟩ => ⟨S8192x1408, .f32⟩
  | .hbm, ⟨6, _⟩ => ⟨S8192x1408, .f32⟩
  | .hbm, ⟨7, _⟩ => ⟨S8192x5632, .f32⟩
  | .hbm, ⟨8, _⟩ => ⟨S_, .f32⟩
  | .hbm, ⟨9, _⟩ => ⟨S5632x1024, .f32⟩
  | .hbm, ⟨10, _⟩ => ⟨S8192x1024, .f32⟩
  | .hbm, ⟨11, _⟩ => ⟨S1024x5632, .f32⟩
  | .hbm, ⟨12, _⟩ => ⟨S8192x5632, .f32⟩
  | .hbm, ⟨13, _⟩ => ⟨S5632x1024, .f32⟩
  | .hbm, ⟨14, _⟩ => ⟨S1024x5632, .f32⟩
  | .hbm, ⟨15, _⟩ => ⟨S5632x1024, .f32⟩
  | .hbm, ⟨16, _⟩ => ⟨S5632x1024, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel9.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S_, .f32⟩
  | .hbm, ⟨3, _⟩ => ⟨S2048x1024, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S8192x1024 : Shape := ⟨2, ![8192, 1024]⟩
abbrev S9248x1024 : Shape := ⟨2, ![9248, 1024]⟩
abbrev S8192x9216 : Shape := ⟨2, ![8192, 9216]⟩
abbrev S1024x1024 : Shape := ⟨2, ![1024, 1024]⟩
abbrev S3072x1024 : Shape := ⟨2, ![3072, 1024]⟩
abbrev S1024x3072 : Shape := ⟨2, ![1024, 3072]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S9248x1024, .bf16⟩
  | .hbm, ⟨2, _⟩ => ⟨S8192x9216, .bf16⟩
  | .local _ .vmem, ⟨0, _⟩ => ⟨S1024x1024, .bf16⟩
  | .local _ .vmem, ⟨1, _⟩ => ⟨S1024x1024, .bf16⟩
  | .local _ .vmem, ⟨2, _⟩ => ⟨S3072x1024, .bf16⟩
  | .local _ .vmem, ⟨3, _⟩ => ⟨S3072x1024, .bf16⟩
  | .local _ .vmem, ⟨4, _⟩ => ⟨S1024x3072, .bf16⟩
  | .local _ .vmem, ⟨5, _⟩ => ⟨S1024x3072, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S3072x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S9248x1024 : Shape := ⟨2, ![9248, 1024]⟩
abbrev S9216x1024 : Shape := ⟨2, ![9216, 1024]⟩
abbrev S1024x9216 : Shape := ⟨2, ![1024, 9216]⟩
abbrev S8192x9216 : Shape := ⟨2, ![8192, 9216]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S9248x1024, .bf16⟩
  | .hbm, ⟨2, _⟩ => ⟨S8192x1024, .f32⟩
  | .hbm, ⟨3, _⟩ => ⟨S9248x1024, .f32⟩
  | .hbm, ⟨4, _⟩ => ⟨S9216x1024, .f32⟩
  | .hbm, ⟨5, _⟩ => ⟨S1024x9216, .f32⟩
  | .hbm, ⟨6, _⟩ => ⟨S8192x9216, .f32⟩
  | .hbm, ⟨7, _⟩ => ⟨S8192x9216, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel14.lean ====
abbrev S8192x10240 : Shape := ⟨2, ![8192, 10240]⟩
abbrev S8192x1024 : Shape := ⟨2, ![8192, 1024]⟩
abbrev S9216x1024 : Shape := ⟨2, ![9216, 1024]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x10240, .bf16⟩
  | .hbm, ⟨1, _⟩ => ⟨S8192x1024, .bf16⟩
  | .hbm, ⟨2, _⟩ => ⟨S9216x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .sge arg0 c4_i32
  let c1_i32 : BitVec 32 := 1#32
  let c0_i32 : BitVec 32 := 0#32
  let v1 : BitVec 32 := Scalar.select v0 c1_i32 c0_i32
  let v2 : BitVec 32 := Scalar.addi arg0 v1
  let c0_i32_0 : BitVec 32 := 0#32
  ![arg2.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x10240 : Shape := ⟨2, ![8192, 10240]⟩
abbrev S8192x1024 : Shape := ⟨2, ![8192, 1024]⟩
abbrev S8192x4096 : Shape := ⟨2, ![8192, 4096]⟩
abbrev S8192x5120 : Shape := ⟨2, ![8192, 5120]⟩
abbrev S8192x9216 : Shape := ⟨2, ![8192, 9216]⟩
abbrev S_ : Shape := ⟨0, ![]⟩
abbrev S9216x1024 : Shape := ⟨2, ![9216, 1024]⟩
abbrev S1024x9216 : Shape := ⟨2, ![1024, 9216]⟩

abbrev nBuf : Space → Nat
  | .hbm => 15
  | .vmem => 0
  | .smem => 0
  | _ => 0

abbrev bufTy : (tb : Table) → Fin (tcTables nBuf tb) → BufTy
  | .hbm, ⟨0, _⟩ => ⟨S8192x10240, .bf16⟩
  | .hbm, ⟨1, _⟩ => ⟨S8192x1024, .bf16⟩
  | .hbm, ⟨2, _⟩ => ⟨S8192x10240, .f32⟩
  | .hbm, ⟨3, _⟩ => ⟨S8192x4096, .f32⟩
  | .hbm, ⟨4, _⟩ => ⟨S8192x5120, .f32⟩
  | .hbm, ⟨5, _⟩ => ⟨S8192x9216, .f32⟩
  | .hbm, ⟨6, _⟩ => ⟨S_, .f32⟩
  | .hbm, ⟨7, _⟩ => ⟨S9216x1024, .f32⟩
  | .hbm, ⟨8, _⟩ => ⟨S8192x1024, .f32⟩
  | .hbm, ⟨9, _⟩ => ⟨S1024x9216, .f32⟩
  | .hbm, ⟨10, _⟩ => ⟨S8192x9216, .f32⟩
  | .hbm, ⟨11, _⟩ => ⟨S9216x1024, .f32⟩
  | .hbm, ⟨12, _⟩ => ⟨S1024x9216, .f32⟩
  | .hbm, ⟨13, _⟩ => ⟨S9216x1024, .f32⟩
  | .hbm, ⟨14, _⟩ => ⟨S9216x1024, .bf16⟩
  | _, _ => ⟨S8192x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel15.lean ====
abbrev S8192x10240 : Shape := ⟨2, ![8192, 10240]⟩
abbrev S9248x1024 : Shape := ⟨2, ![9248, 1024]⟩
abbrev S8192x1024 : Shape := ⟨2, ![8192, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x10240, .bf16⟩
  | .hbm, ⟨1, _⟩ => ⟨S9248x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 9], ![false, false, false]⟩

def k0_cond3 (i : grid0.Coords) : BitVec 1 :=
  let arg2 : BitVec 32 := BitVec.ofNat 32 (i 2).val
  let c8_i32_6 : BitVec 32 := 8#32
  let v11 : BitVec 1 := Scalar.cmpi .eq arg2 c8_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .sge arg2 c4_i32
  let c1_i32 : BitVec 32 := 1#32
  let c0_i32 : BitVec 32 := 0#32
  let v1 : BitVec 32 := Scalar.select v0 c1_i32 c0_i32
  let v2 : BitVec 32 := Scalar.addi arg2 v1
  let c0_i32_0 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S8192x10240 : Shape := ⟨2, ![8192, 10240]⟩
abbrev S9248x1024 : Shape := ⟨2, ![9248, 1024]⟩
abbrev S8192x1024 : Shape := ⟨2, ![8192, 1024]⟩
abbrev S8192x4096 : Shape := ⟨2, ![8192, 4096]⟩
abbrev S8192x5120 : Shape := ⟨2, ![8192, 5120]⟩
abbrev S8192x9216 : Shape := ⟨2, ![8192, 9216]⟩
abbrev S_ : Shape := ⟨0, ![]⟩
abbrev S9216x1024 : Shape := ⟨2, ![9216, 1024]⟩
abbrev S1024x9216 : Shape := ⟨2, ![1024, 9216]⟩

abbrev nBuf : Space → Nat
  | .hbm => 15
  | .vmem => 0
  | .smem => 0
  | _ => 0

abbrev bufTy : (tb : Table) → Fin (tcTables nBuf tb) → BufTy
  | .hbm, ⟨0, _⟩ => ⟨S8192x10240, .bf16⟩
  | .hbm, ⟨1, _⟩ => ⟨S9248x1024, .bf16⟩
  | .hbm, ⟨2, _⟩ => ⟨S8192x1024, .f32⟩
  | .hbm, ⟨3, _⟩ => ⟨S8192x10240, .f32⟩
  | .hbm, ⟨4, _⟩ => ⟨S8192x4096, .f32⟩
  | .hbm, ⟨5, _⟩ => ⟨S8192x5120, .f32⟩
  | .hbm, ⟨6, _⟩ => ⟨S8192x9216, .f32⟩
  | .hbm, ⟨7, _⟩ => ⟨S_, .f32⟩
  | .hbm, ⟨8, _⟩ => ⟨S8192x1024, .f32⟩
  | .hbm, ⟨9, _⟩ => ⟨S9248x1024, .f32⟩
  | .hbm, ⟨10, _⟩ => ⟨S9216x1024, .f32⟩
  | .hbm, ⟨11, _⟩ => ⟨S1024x9216, .f32⟩
  | .hbm, ⟨12, _⟩ => ⟨S8192x9216, .f32⟩
  | .hbm, ⟨13, _⟩ => ⟨S8192x1024, .f32⟩
  | .hbm, ⟨14, _⟩ => ⟨S8192x1024, .f32⟩
  | _, _ => ⟨S8192x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel16.lean ====
abbrev S8192x1024 : Shape := ⟨2, ![8192, 1024]⟩
abbrev S128x1024 : Shape := ⟨2, ![128, 1024]⟩
abbrev S8192x128 : Shape := ⟨2, ![8192, 128]⟩
abbrev S1024x1024 : Shape := ⟨2, ![1024, 1024]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S128x1024, .bf16⟩
  | .hbm, ⟨2, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S128x1024, .bf16⟩
  | .local _ .vmem, ⟨3, _⟩ => ⟨S1024x128, .f32⟩
  | .local _ .vmem, ⟨4, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S128x1024 : Shape := ⟨2, ![128, 1024]⟩
abbrev S1024x128 : Shape := ⟨2, ![1024, 128]⟩
abbrev S8192x128 : Shape := ⟨2, ![8192, 128]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S128x1024, .bf16⟩
  | .hbm, ⟨2, _⟩ => ⟨S8192x1024, .f32⟩
  | .hbm, ⟨3, _⟩ => ⟨S128x1024, .f32⟩
  | .hbm, ⟨4, _⟩ => ⟨S1024x128, .f32⟩
  | .hbm, ⟨5, _⟩ => ⟨S8192x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel17.lean ====
abbrev S8192x128 : Shape := ⟨2, ![8192, 128]⟩
abbrev S8192x1024 : Shape := ⟨2, ![8192, 1024]⟩
abbrev S128x1024 : Shape := ⟨2, ![128, 1024]⟩
abbrev S1024x128 : Shape := ⟨2, ![1024, 128]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S8192x1024, .bf16⟩
  | .hbm, ⟨2, _⟩ => ⟨S128x1024, .f32⟩
  | .local _ .vmem, ⟨0, _⟩ => ⟨S1024x128, .f32⟩
  | .local _ .vmem, ⟨1, _⟩ => ⟨S1024x128, .f32⟩
  | .local _ .vmem, ⟨2, _⟩ => ⟨S1024x1024, .bf16⟩
  | .local _ .vmem, ⟨3, _⟩ => ⟨S1024x1024, .bf16⟩
  | .local _ .vmem, ⟨4, _⟩ => ⟨S128x1024, .f32⟩
  | .local _ .vmem, ⟨5, _⟩ => ⟨S128x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32_6 : BitVec 32 := 7#32
  let v12 : BitVec 1 := Scalar.cmpi .eq arg2 c7_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference17Ideal.lean ====
abbrev S8192x128 : Shape := ⟨2, ![8192, 128]⟩
abbrev S8192x1024 : Shape := ⟨2, ![8192, 1024]⟩
abbrev S_ : Shape := ⟨0, ![]⟩
abbrev S128x1024 : Shape := ⟨2, ![128, 1024]⟩
abbrev S1024x128 : Shape := ⟨2, ![1024, 128]⟩

abbrev nBuf : Space → Nat
  | .hbm => 10
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x1024, .bf16⟩
  | .hbm, ⟨2, _⟩ => ⟨S_, .f32⟩
  | .hbm, ⟨3, _⟩ => ⟨S128x1024, .f32⟩
  | .hbm, ⟨4, _⟩ => ⟨S8192x1024, .f32⟩
  | .hbm, ⟨5, _⟩ => ⟨S1024x128, .f32⟩
  | .hbm, ⟨6, _⟩ => ⟨S8192x128, .f32⟩
  | .hbm, ⟨7, _⟩ => ⟨S128x1024, .f32⟩
  | .hbm, ⟨8, _⟩ => ⟨S1024x128, .f32⟩
  | .hbm, ⟨9, _⟩ => ⟨S128x1024, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel18.lean ====
abbrev S8192x128 : Shape := ⟨2, ![8192, 128]⟩
abbrev S128x1024 : Shape := ⟨2, ![128, 1024]⟩
abbrev S8192x1024 : Shape := ⟨2, ![8192, 1024]⟩
abbrev S1024x128 : Shape := ⟨2, ![1024, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x128, .f32⟩
  | .hbm, ⟨1, _⟩ => ⟨S128x1024, .bf16⟩
  | .hbm, ⟨2, _⟩ => ⟨S8192x1024, .f32⟩
  | .local _ .vmem, ⟨0, _⟩ => ⟨S1024x128, .f32⟩
  | .local _ .vmem, ⟨1, _⟩ => ⟨S1024x128, .f32⟩
  | .local _ .vmem, ⟨2, _⟩ => ⟨S128x1024, .bf16⟩
  | .local _ .vmem, ⟨3, _⟩ => ⟨S1024x1024, .f32⟩
  | .local _ .vmem, ⟨4, _⟩ => ⟨S1024x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x128 : Shape := ⟨2, ![8192, 128]⟩
abbrev S128x1024 : Shape := ⟨2, ![128, 1024]⟩
abbrev S_ : Shape := ⟨0, ![]⟩
abbrev S8192x1024 : Shape := ⟨2, ![8192, 1024]⟩
abbrev S1024x128 : Shape := ⟨2, ![1024, 128]⟩

abbrev nBuf : Space → Nat
  | .hbm => 8
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S128x1024, .bf16⟩
  | .hbm, ⟨2, _⟩ => ⟨S_, .f32⟩
  | .hbm, ⟨3, _⟩ => ⟨S8192x1024, .f32⟩
  | .hbm, ⟨4, _⟩ => ⟨S128x1024, .f32⟩
  | .hbm, ⟨5, _⟩ => ⟨S1024x128, .f32⟩
  | .hbm, ⟨6, _⟩ => ⟨S8192x128, .f32⟩
  | .hbm, ⟨7, _⟩ => ⟨S8192x1024, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel19.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_14 : BitVec 32 := 0#32
  let v33 : BitVec 1 := Scalar.cmpi .ne v32 c0_i32_14
  v33

def k0_cond2 (i : grid0.Coords) : BitVec 1 :=
  let arg0 : BitVec 32 := BitVec.ofNat 32 (i 0).val
  let c0_i32_15 : BitVec 32 := 0#32
  let v34 : BitVec 1 := Scalar.cmpi .sgt arg0 c0_i32_15
  let v35 : BitVec 32 := Scalar.extui v34
  let c0_i32_16 : BitVec 32 := 0#32
  let v36 : BitVec 1 := Scalar.cmpi .ne v35 c0_i32_16
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference19Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel20.lean ====
abbrev S1x128x1024 : Shape := ⟨3, ![1, 128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference20Ideal.lean ====
abbrev S1x128x1024 : Shape := ⟨3, ![1, 128, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S_, .f32⟩
  | .hbm, ⟨5, _⟩ => ⟨S1x128x1024, .f32⟩
  | .hbm, ⟨6, _⟩ => ⟨S1x128x1024, .f32⟩
  | .hbm, ⟨7, _⟩ => ⟨S_, .f32⟩
  | .hbm, ⟨8, _⟩ => ⟨S1x128x1024, .f32⟩
  | .hbm, ⟨9, _⟩ => ⟨S1x128x1024, .f32⟩
  | .hbm, ⟨10, _⟩ => ⟨S1x128x1024, .f32⟩
  | .hbm, ⟨11, _⟩ => ⟨S_, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S_, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S_, .f32⟩
  | .hbm, ⟨20, _⟩ => ⟨S1x128x1024, .f32⟩
  | .hbm, ⟨21, _⟩ => ⟨S1x128x1024, .f32⟩
  | .hbm, ⟨22, _⟩ => ⟨S_, .f32⟩
  | .hbm, ⟨23, _⟩ => ⟨S1x128x1024, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S1x128x1024, .f32⟩
  | .hbm, ⟨36, _⟩ => ⟨S1x128x1024, .f32⟩
  | _, _ => ⟨S1x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S1x256x1024 : Shape := ⟨3, ![1, 256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference21Ideal.lean ====
abbrev S1x256x1024 : Shape := ⟨3, ![1, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S_, .f32⟩
  | .hbm, ⟨5, _⟩ => ⟨S1x256x1024, .f32⟩
  | .hbm, ⟨6, _⟩ => ⟨S1x256x1024, .f32⟩
  | .hbm, ⟨7, _⟩ => ⟨S_, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S_, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S_, .f32⟩
  | .hbm, ⟨16, _⟩ => ⟨S1x256x1024, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S_, .f32⟩
  | .hbm, ⟨23, _⟩ => ⟨S1x256x1024, .f32⟩
  | .hbm, ⟨24, _⟩ => ⟨S1x256x1024, .f32⟩
  | .hbm, ⟨25, _⟩ => ⟨S1x256x1024, .f32⟩
  | .hbm, ⟨26, _⟩ => ⟨S_, .f32⟩
  | .hbm, ⟨27, _⟩ => ⟨S1x256x1024, .f32⟩
  | .hbm, ⟨28, _⟩ => ⟨S1x256x1024, .f32⟩
  | .hbm, ⟨29, _⟩ => ⟨S1x256x1024, .f32⟩
  | .hbm, ⟨30, _⟩ => ⟨S_, .f32⟩
  | .hbm, ⟨31, _⟩ => ⟨S1x256x1024, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S1x352x1024 : Shape := ⟨3, ![1, 352, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x352x1024, .f32⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S1x352x1024, .f32⟩
  | .hbm, ⟨5, _⟩ => ⟨S1x352x1024, .f32⟩
  | .hbm, ⟨6, _⟩ => ⟨S1x352x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | _, _ => ⟨S1x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x352x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference22Ideal.lean ====
abbrev S1x352x1024 : Shape := ⟨3, ![1, 352, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x352x1024, .f32⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S_, .f32⟩
  | .hbm, ⟨5, _⟩ => ⟨S1x352x1024, .f32⟩
  | .hbm, ⟨6, _⟩ => ⟨S1x352x1024, .f32⟩
  | .hbm, ⟨7, _⟩ => ⟨S_, .f32⟩
  | .hbm, ⟨8, _⟩ => ⟨S1x352x1024, .f32⟩
  | .hbm, ⟨9, _⟩ => ⟨S1x352x1024, .f32⟩
  | .hbm, ⟨10, _⟩ => ⟨S1x352x1024, .f32⟩
  | .hbm, ⟨11, _⟩ => ⟨S_, .f32⟩
  | .hbm, ⟨12, _⟩ => ⟨S1x352x1024, .f32⟩
  | .hbm, ⟨13, _⟩ => ⟨S1x352x1024, .f32⟩
  | .hbm, ⟨14, _⟩ => ⟨S1x352x1024, .f32⟩
  | .hbm, ⟨15, _⟩ => ⟨S_, .f32⟩
  | .hbm, ⟨16, _⟩ => ⟨S1x352x1024, .f32⟩
  | .hbm, ⟨17, _⟩ => ⟨S1x352x1024, .f32⟩
  | .hbm, ⟨18, _⟩ => ⟨S1x352x1024, .f32⟩
  | .hbm, ⟨19, _⟩ => ⟨S_, .f32⟩
  | .hbm, ⟨20, _⟩ => ⟨S1x352x1024, .f32⟩
  | .hbm, ⟨21, _⟩ => ⟨S1x352x1024, .f32⟩
  | .hbm, ⟨22, _⟩ => ⟨S_, .f32⟩
  | .hbm, ⟨23, _⟩ => ⟨S1x352x1024, .f32⟩
  | .hbm, ⟨24, _⟩ => ⟨S1x352x1024, .f32⟩
  | .hbm, ⟨25, _⟩ => ⟨S1x352x1024, .f32⟩
  | .hbm, ⟨26, _⟩ => ⟨S_, .f32⟩
  | .hbm, ⟨27, _⟩ => ⟨S1x352x1024, .f32⟩
  | .hbm, ⟨28, _⟩ => ⟨S1x352x1024, .f32⟩
  | .hbm, ⟨29, _⟩ => ⟨S1x352x1024, .f32⟩
  | .hbm, ⟨30, _⟩ => ⟨S_, .f32⟩
  | .hbm, ⟨31, _⟩ => ⟨S1x352x1024, .f32⟩
  | .hbm, ⟨32, _⟩ => ⟨S1x352x1024, .f32⟩
  | .hbm, ⟨33, _⟩ => ⟨S1x352x1024, .f32⟩
  | .hbm, ⟨34, _⟩ => ⟨S_, .f32⟩
  | .hbm, ⟨35, _⟩ => ⟨S1x352x1024, .f32⟩
  | .hbm, ⟨36, _⟩ => ⟨S1x352x1024, .f32⟩
  | _, _ => ⟨S1x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S1x704x1024 : Shape := ⟨3, ![1, 704, 1024]⟩
abbrev S1x176x1024 : Shape := ⟨3, ![1, 176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1x704x1024, .f32⟩
  | .hbm, ⟨1, _⟩ => ⟨S1x704x1024, .f32⟩
  | .hbm, ⟨2, _⟩ => ⟨S1x704x1024, .f32⟩
  | .hbm, ⟨3, _⟩ => ⟨S1x704x1024, .f32⟩
  | .hbm, ⟨4, _⟩ => ⟨S1x704x1024, .f32⟩
  | .hbm, ⟨5, _⟩ => ⟨S1x704x1024, .f32⟩
  | .hbm, ⟨6, _⟩ => ⟨S1x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | _, _ => ⟨S1x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference23Ideal.lean ====
abbrev S1x704x1024 : Shape := ⟨3, ![1, 704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x704x1024, .f32⟩
  | .hbm, ⟨1, _⟩ => ⟨S1x704x1024, .f32⟩
  | .hbm, ⟨2, _⟩ => ⟨S1x704x1024, .f32⟩
  | .hbm, ⟨3, _⟩ => ⟨S1x704x1024, .f32⟩
  | .hbm, ⟨4, _⟩ => ⟨S_, .f32⟩
  | .hbm, ⟨5, _⟩ => ⟨S1x704x1024, .f32⟩
  | .hbm, ⟨6, _⟩ => ⟨S1x704x1024, .f32⟩
  | .hbm, ⟨7, _⟩ => ⟨S_, .f32⟩
  | .hbm, ⟨8, _⟩ => ⟨S1x704x1024, .f32⟩
  | .hbm, ⟨9, _⟩ => ⟨S1x704x1024, .f32⟩
  | .hbm, ⟨10, _⟩ => ⟨S1x704x1024, .f32⟩
  | .hbm, ⟨11, _⟩ => ⟨S_, .f32⟩
  | .hbm, ⟨12, _⟩ => ⟨S1x704x1024, .f32⟩
  | .hbm, ⟨13, _⟩ => ⟨S1x704x1024, .f32⟩
  | .hbm, ⟨14, _⟩ => ⟨S1x704x1024, .f32⟩
  | .hbm, ⟨15, _⟩ => ⟨S_, .f32⟩
  | .hbm, ⟨16, _⟩ => ⟨S1x704x1024, .f32⟩
  | .hbm, ⟨17, _⟩ => ⟨S1x704x1024, .f32⟩
  | .hbm, ⟨18, _⟩ => ⟨S1x704x1024, .f32⟩
  | .hbm, ⟨19, _⟩ => ⟨S_, .f32⟩
  | .hbm, ⟨20, _⟩ => ⟨S1x704x1024, .f32⟩
  | .hbm, ⟨21, _⟩ => ⟨S1x704x1024, .f32⟩
  | .hbm, ⟨22, _⟩ => ⟨S_, .f32⟩
  | .hbm, ⟨23, _⟩ => ⟨S1x704x1024, .f32⟩
  | .hbm, ⟨24, _⟩ => ⟨S1x704x1024, .f32⟩
  | .hbm, ⟨25, _⟩ => ⟨S1x704x1024, .f32⟩
  | .hbm, ⟨26, _⟩ => ⟨S_, .f32⟩
  | .hbm, ⟨27, _⟩ => ⟨S1x704x1024, .f32⟩
  | .hbm, ⟨28, _⟩ => ⟨S1x704x1024, .f32⟩
  | .hbm, ⟨29, _⟩ => ⟨S1x704x1024, .f32⟩
  | .hbm, ⟨30, _⟩ => ⟨S_, .f32⟩
  | .hbm, ⟨31, _⟩ => ⟨S1x704x1024, .f32⟩
  | .hbm, ⟨32, _⟩ => ⟨S1x704x1024, .f32⟩
  | .hbm, ⟨33, _⟩ => ⟨S1x704x1024, .f32⟩
  | .hbm, ⟨34, _⟩ => ⟨S_, .f32⟩
  | .hbm, ⟨35, _⟩ => ⟨S1x704x1024, .f32⟩
  | .hbm, ⟨36, _⟩ => ⟨S1x704x1024, .f32⟩
  | _, _ => ⟨S1x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S1x1156x1024 : Shape := ⟨3, ![1, 1156, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1156x1024, .f32⟩
  | .hbm, ⟨1, _⟩ => ⟨S1x1156x1024, .f32⟩
  | .hbm, ⟨2, _⟩ => ⟨S1x1156x1024, .f32⟩
  | .hbm, ⟨3, _⟩ => ⟨S1x1156x1024, .f32⟩
  | .hbm, ⟨4, _⟩ => ⟨S1x1156x1024, .f32⟩
  | .hbm, ⟨5, _⟩ => ⟨S1x1156x1024, .f32⟩
  | .hbm, ⟨6, _⟩ => ⟨S1x1156x1024, .f32⟩
  | .local _ .vmem, ⟨0, _⟩ => ⟨S1x1156x1024, .f32⟩
  | .local _ .vmem, ⟨1, _⟩ => ⟨S1x1156x1024, .f32⟩
  | .local _ .vmem, ⟨2, _⟩ => ⟨S1x1156x1024, .f32⟩
  | .local _ .vmem, ⟨3, _⟩ => ⟨S1x1156x1024, .f32⟩
  | .local _ .vmem, ⟨4, _⟩ => ⟨S1x1156x1024, .f32⟩
  | .local _ .vmem, ⟨5, _⟩ => ⟨S1x1156x1024, .f32⟩
  | .local _ .vmem, ⟨6, _⟩ => ⟨S1x1156x1024, .f32⟩
  | _, _ => ⟨S1x1156x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x1156x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1156x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1156x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1156x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1156x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1156x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1156x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference24Ideal.lean ====
abbrev S1x1156x1024 : Shape := ⟨3, ![1, 1156, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1156x1024, .f32⟩
  | .hbm, ⟨1, _⟩ => ⟨S1x1156x1024, .f32⟩
  | .hbm, ⟨2, _⟩ => ⟨S1x1156x1024, .f32⟩
  | .hbm, ⟨3, _⟩ => ⟨S1x1156x1024, .f32⟩
  | .hbm, ⟨4, _⟩ => ⟨S_, .f32⟩
  | .hbm, ⟨5, _⟩ => ⟨S1x1156x1024, .f32⟩
  | .hbm, ⟨6, _⟩ => ⟨S1x1156x1024, .f32⟩
  | .hbm, ⟨7, _⟩ => ⟨S_, .f32⟩
  | .hbm, ⟨8, _⟩ => ⟨S1x1156x1024, .f32⟩
  | .hbm, ⟨9, _⟩ => ⟨S1x1156x1024, .f32⟩
  | .hbm, ⟨10, _⟩ => ⟨S1x1156x1024, .f32⟩
  | .hbm, ⟨11, _⟩ => ⟨S_, .f32⟩
  | .hbm, ⟨12, _⟩ => ⟨S1x1156x1024, .f32⟩
  | .hbm, ⟨13, _⟩ => ⟨S1x1156x1024, .f32⟩
  | .hbm, ⟨14, _⟩ => ⟨S1x1156x1024, .f32⟩
  | .hbm, ⟨15, _⟩ => ⟨S_, .f32⟩
  | .hbm, ⟨16, _⟩ => ⟨S1x1156x1024, .f32⟩
  | .hbm, ⟨17, _⟩ => ⟨S1x1156x1024, .f32⟩
  | .hbm, ⟨18, _⟩ => ⟨S1x1156x1024, .f32⟩
  | .hbm, ⟨19, _⟩ => ⟨S_, .f32⟩
  | .hbm, ⟨20, _⟩ => ⟨S1x1156x1024, .f32⟩
  | .hbm, ⟨21, _⟩ => ⟨S1x1156x1024, .f32⟩
  | .hbm, ⟨22, _⟩ => ⟨S_, .f32⟩
  | .hbm, ⟨23, _⟩ => ⟨S1x1156x1024, .f32⟩
  | .hbm, ⟨24, _⟩ => ⟨S1x1156x1024, .f32⟩
  | .hbm, ⟨25, _⟩ => ⟨S1x1156x1024, .f32⟩
  | .hbm, ⟨26, _⟩ => ⟨S_, .f32⟩
  | .hbm, ⟨27, _⟩ => ⟨S1x1156x1024, .f32⟩
  | .hbm, ⟨28, _⟩ => ⟨S1x1156x1024, .f32⟩
  | .hbm, ⟨29, _⟩ => ⟨S1x1156x1024, .f32⟩
  | .hbm, ⟨30, _⟩ => ⟨S_, .f32⟩
  | .hbm, ⟨31, _⟩ => ⟨S1x1156x1024, .f32⟩
  | .hbm, ⟨32, _⟩ => ⟨S1x1156x1024, .f32⟩
  | .hbm, ⟨33, _⟩ => ⟨S1x1156x1024, .f32⟩
  | .hbm, ⟨34, _⟩ => ⟨S_, .f32⟩
  | .hbm, ⟨35, _⟩ => ⟨S1x1156x1024, .f32⟩
  | .hbm, ⟨36, _⟩ => ⟨S1x1156x1024, .f32⟩
  | _, _ => ⟨S1x1156x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S8192x1024 : Shape := ⟨2, ![8192, 1024]⟩
abbrev S8192x2048 : Shape := ⟨2, ![8192, 2048]⟩
abbrev S8192x9216 : Shape := ⟨2, ![8192, 9216]⟩
abbrev S2x1024 : Shape := ⟨2, ![2, 1024]⟩
abbrev S1024x1024 : Shape := ⟨2, ![1024, 1024]⟩
abbrev S2048x1024 : Shape := ⟨2, ![2048, 1024]⟩
abbrev S512x1024 : Shape := ⟨2, ![512, 1024]⟩
abbrev S512x2048 : Shape := ⟨2, ![512, 2048]⟩
abbrev S1x1024 : Shape := ⟨2, ![1, 1024]⟩

abbrev nBuf : Space → Nat
  | .hbm => 9
  | .vmem => 15
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x9216, .bf16⟩
  | .hbm, ⟨3, _⟩ => ⟨S2x1024, .f32⟩
  | .hbm, ⟨4, _⟩ => ⟨S1024x1024, .bf16⟩
  | .hbm, ⟨5, _⟩ => ⟨S2048x1024, .bf16⟩
  | .hbm, ⟨6, _⟩ => ⟨S8192x1024, .bf16⟩
  | .hbm, ⟨7, _⟩ => ⟨S8192x1024, .bf16⟩
  | .hbm, ⟨8, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S2x1024, .f32⟩
  | .local _ .vmem, ⟨7, _⟩ => ⟨S1024x1024, .bf16⟩
  | .local _ .vmem, ⟨8, _⟩ => ⟨S2048x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference25Ideal.lean ====
abbrev S8192x1024 : Shape := ⟨2, ![8192, 1024]⟩
abbrev S8192x2048 : Shape := ⟨2, ![8192, 2048]⟩
abbrev S8192x9216 : Shape := ⟨2, ![8192, 9216]⟩
abbrev S2x1024 : Shape := ⟨2, ![2, 1024]⟩
abbrev S1024x1024 : Shape := ⟨2, ![1024, 1024]⟩
abbrev S2048x1024 : Shape := ⟨2, ![2048, 1024]⟩
abbrev S1x1024 : Shape := ⟨2, ![1, 1024]⟩
abbrev S1024 : Shape := ⟨1, ![1024]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x9216, .bf16⟩
  | .hbm, ⟨3, _⟩ => ⟨S2x1024, .f32⟩
  | .hbm, ⟨4, _⟩ => ⟨S1024x1024, .bf16⟩
  | .hbm, ⟨5, _⟩ => ⟨S2048x1024, .bf16⟩
  | .hbm, ⟨6, _⟩ => ⟨S8192x1024, .f32⟩
  | .hbm, ⟨7, _⟩ => ⟨S1024x1024, .f32⟩
  | .hbm, ⟨8, _⟩ => ⟨S8192x1024, .f32⟩
  | .hbm, ⟨9, _⟩ => ⟨S8192x2048, .f32⟩
  | .hbm, ⟨10, _⟩ => ⟨S2048x1024, .f32⟩
  | .hbm, ⟨11, _⟩ => ⟨S8192x1024, .f32⟩
  | .hbm, ⟨12, _⟩ => ⟨S8192x9216, .f32⟩
  | .hbm, ⟨13, _⟩ => ⟨S8192x2048, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .bf16⟩
  | .hbm, ⟨46, _⟩ => ⟨S8192x1024, .bf16⟩
  | .hbm, ⟨47, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_1 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== Kernel26.lean ====
abbrev S8192x1024 : Shape := ⟨2, ![8192, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x128, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v45 : BitVec 1 := Scalar.cmpi .eq arg0 c0_i32
  let v46 : BitVec 32 := Scalar.extui v45
  let c0_i32_17 : BitVec 32 := 0#32
  let v47 : BitVec 1 := Scalar.cmpi .ne v46 c0_i32_17
  v47

def k0_cond2 (i : grid0.Coords) : BitVec 1 :=
  let arg0 : BitVec 32 := BitVec.ofNat 32 (i 0).val
  let c0_i32_18 : BitVec 32 := 0#32
  let v48 : BitVec 1 := Scalar.cmpi .sgt arg0 c0_i32_18
  let v49 : BitVec 32 := Scalar.extui v48
  let c0_i32_19 : BitVec 32 := 0#32
  let v50 : BitVec 1 := Scalar.cmpi .ne v49 c0_i32_19
  v50

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference26Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x128 : Shape := ⟨2, ![1, 128]⟩

abbrev nBuf : Space → Nat
  | .hbm => 69
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel27.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference27Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel28.lean ====
abbrev S8192x5632 : Shape := ⟨2, ![8192, 5632]⟩
abbrev S3x5632 : Shape := ⟨2, ![3, 5632]⟩
abbrev S1x5632 : Shape := ⟨2, ![1, 5632]⟩
abbrev S8192x2816 : Shape := ⟨2, ![8192, 2816]⟩
abbrev S512x2816 : Shape := ⟨2, ![512, 2816]⟩
abbrev S3x2816 : Shape := ⟨2, ![3, 2816]⟩
abbrev S1x2816 : Shape := ⟨2, ![1, 2816]⟩
abbrev S512x1408 : Shape := ⟨2, ![512, 1408]⟩
abbrev S8x2816 : Shape := ⟨2, ![8, 2816]⟩
abbrev S128x128 : Shape := ⟨2, ![128, 128]⟩
abbrev S128x2816 : Shape := ⟨2, ![128, 2816]⟩
abbrev S16x2816 : Shape := ⟨2, ![16, 2816]⟩
abbrev S120x2816 : Shape := ⟨2, ![120, 2816]⟩

abbrev nBuf : Space → Nat
  | .hbm => 5
  | .vmem => 11
  | .smem => 0
  | _ => 0

abbrev bufTy : (tb : Table) → Fin (tcTables nBuf tb) → BufTy
  | .hbm, ⟨0, _⟩ => ⟨S8192x5632, .bf16⟩
  | .hbm, ⟨1, _⟩ => ⟨S3x5632, .f32⟩
  | .hbm, ⟨2, _⟩ => ⟨S1x5632, .f32⟩
  | .hbm, ⟨3, _⟩ => ⟨S8192x2816, .bf16⟩
  | .hbm, ⟨4, _⟩ => ⟨S8192x5632, .bf16⟩
  | .local _ .vmem, ⟨0, _⟩ => ⟨S512x2816, .bf16⟩
  | .local _ .vmem, ⟨1, _⟩ => ⟨S512x2816, .bf16⟩
  | .local _ .vmem, ⟨2, _⟩ => ⟨S3x2816, .f32⟩
  | .local _ .vmem, ⟨3, _⟩ => ⟨S3x2816, .f32⟩
  | .local _ .vmem, ⟨4, _⟩ => ⟨S1x2816, .f32⟩
  | .local _ .vmem, ⟨5, _⟩ => ⟨S1x2816, .f32⟩
  | .local _ .vmem, ⟨6, _⟩ => ⟨S512x1408, .bf16⟩
  | .local _ .vmem, ⟨7, _⟩ => ⟨S512x1408, .bf16⟩
  | .local _ .vmem, ⟨8, _⟩ => ⟨S512x2816, .bf16⟩
  | .local _ .vmem, ⟨9, _⟩ => ⟨S512x2816, .bf16⟩
  | .local _ .vmem, ⟨10, _⟩ => ⟨S8x2816, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference28Ideal.lean ====
abbrev S8192x5632 : Shape := ⟨2, ![8192, 5632]⟩
abbrev S3x5632 : Shape := ⟨2, ![3, 5632]⟩
abbrev S1x5632 : Shape := ⟨2, ![1, 5632]⟩
abbrev S_ : Shape := ⟨0, ![]⟩
abbrev S8191x5632 : Shape := ⟨2, ![8191, 5632]⟩
abbrev S2x5632 : Shape := ⟨2, ![2, 5632]⟩
abbrev S8190x5632 : Shape := ⟨2, ![8190, 5632]⟩
abbrev S8192x1408 : Shape := ⟨2, ![8192, 1408]⟩
abbrev S8192x2816 : Shape := ⟨2, ![8192, 2816]⟩

abbrev nBuf : Space → Nat
  | .hbm => 43
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S3x5632, .f32⟩
  | .hbm, ⟨2, _⟩ => ⟨S1x5632, .f32⟩
  | .hbm, ⟨3, _⟩ => ⟨S8192x5632, .f32⟩
  | .hbm, ⟨4, _⟩ => ⟨S_, .f32⟩
  | .hbm, ⟨5, _⟩ => ⟨S1x5632, .f32⟩
  | .hbm, ⟨6, _⟩ => ⟨S8191x5632, .f32⟩
  | .hbm, ⟨7, _⟩ => ⟨S8192x5632, .f32⟩
  | .hbm, ⟨8, _⟩ => ⟨S_, .f32⟩
  | .hbm, ⟨9, _⟩ => ⟨S2x5632, .f32⟩
  | .hbm, ⟨10, _⟩ => ⟨S8190x5632, .f32⟩
  | .hbm, ⟨11, _⟩ => ⟨S8192x5632, .f32⟩
  | .hbm, ⟨12, _⟩ => ⟨S1x5632, .f32⟩
  | .hbm, ⟨13, _⟩ => ⟨S8192x5632, .f32⟩
  | .hbm, ⟨14, _⟩ => ⟨S8192x5632, .f32⟩
  | .hbm, ⟨15, _⟩ => ⟨S1x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S1x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x1408, .f32⟩
  | .hbm, ⟨26, _⟩ => ⟨S8192x1408, .f32⟩
  | .hbm, ⟨27, _⟩ => ⟨S8192x1408, .f32⟩
  | .hbm, ⟨28, _⟩ => ⟨S8192x1408, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .bf16⟩
  | .hbm, ⟨42, _⟩ => ⟨S8192x5632, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Kernel29.lean ====
abbrev S8192x5632 : Shape := ⟨2, ![8192, 5632]⟩
abbrev S8192x2816 : Shape := ⟨2, ![8192, 2816]⟩
abbrev S3x5632 : Shape := ⟨2, ![3, 5632]⟩
abbrev S1x5632 : Shape := ⟨2, ![1, 5632]⟩
abbrev S512x2816 : Shape := ⟨2, ![512, 2816]⟩
abbrev S512x1408 : Shape := ⟨2, ![512, 1408]⟩
abbrev S3x2816 : Shape := ⟨2, ![3, 2816]⟩
abbrev S1x2816 : Shape := ⟨2, ![1, 2816]⟩
abbrev S8x2816 : Shape := ⟨2, ![8, 2816]⟩
abbrev S128x128 : Shape := ⟨2, ![128, 128]⟩
abbrev S128x2816 : Shape := ⟨2, ![128, 2816]⟩
abbrev S16x2816 : Shape := ⟨2, ![16, 2816]⟩
abbrev S120x2816 : Shape := ⟨2, ![120, 2816]⟩
abbrev S2816 : Shape := ⟨1, ![2816]⟩

abbrev nBuf : Space → Nat
  | .hbm => 7
  | .vmem => 15
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S8192x2816, .bf16⟩
  | .hbm, ⟨3, _⟩ => ⟨S3x5632, .f32⟩
  | .hbm, ⟨4, _⟩ => ⟨S8192x5632, .bf16⟩
  | .hbm, ⟨5, _⟩ => ⟨S3x5632, .f32⟩
  | .hbm, ⟨6, _⟩ => ⟨S1x5632, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S512x1408, .bf16⟩
  | .local _ .vmem, ⟨5, _⟩ => ⟨S512x1408, .bf16⟩
  | .local _ .vmem, ⟨6, _⟩ => ⟨S3x2816, .f32⟩
  | .local _ .vmem, ⟨7, _⟩ => ⟨S3x2816, .f32⟩
  | .local _ .vmem, ⟨8, _⟩ => ⟨S512x2816, .bf16⟩
  | .local _ .vmem, ⟨9, _⟩ => ⟨S512x2816, .bf16⟩
  | .local _ .vmem, ⟨10, _⟩ => ⟨S3x2816, .f32⟩
  | .local _ .vmem, ⟨11, _⟩ => ⟨S3x2816, .f32⟩
  | .local _ .vmem, ⟨12, _⟩ => ⟨S1x2816, .f32⟩
  | .local _ .vmem, ⟨13, _⟩ => ⟨S1x2816, .f32⟩
  | .local _ .vmem, ⟨14, _⟩ => ⟨S8x2816, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference29Ideal.lean ====
abbrev S8192x5632 : Shape := ⟨2, ![8192, 5632]⟩
abbrev S8192x2816 : Shape := ⟨2, ![8192, 2816]⟩
abbrev S3x5632 : Shape := ⟨2, ![3, 5632]⟩
abbrev S8192x1408 : Shape := ⟨2, ![8192, 1408]⟩
abbrev S_ : Shape := ⟨0, ![]⟩
abbrev S1x5632 : Shape := ⟨2, ![1, 5632]⟩
abbrev S8191x5632 : Shape := ⟨2, ![8191, 5632]⟩
abbrev S2x5632 : Shape := ⟨2, ![2, 5632]⟩
abbrev S8190x5632 : Shape := ⟨2, ![8190, 5632]⟩
abbrev S5632 : Shape := ⟨1, ![5632]⟩

abbrev nBuf : Space → Nat
  | .hbm => 105
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S8192x2816, .bf16⟩
  | .hbm, ⟨3, _⟩ => ⟨S3x5632, .f32⟩
  | .hbm, ⟨4, _⟩ => ⟨S8192x5632, .f32⟩
  | .hbm, ⟨5, _⟩ => ⟨S8192x1408, .f32⟩
  | .hbm, ⟨6, _⟩ => ⟨S8192x1408, .f32⟩
  | .hbm, ⟨7, _⟩ => ⟨S8192x1408, .f32⟩
  | .hbm, ⟨8, _⟩ => ⟨S8192x1408, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S_, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x1408, .f32⟩
  | .hbm, ⟨33, _⟩ => ⟨S8192x1408, .f32⟩
  | .hbm, ⟨34, _⟩ => ⟨S8192x1408, .f32⟩
  | .hbm, ⟨35, _⟩ => ⟨S8192x1408, .f32⟩
  | .hbm, ⟨36, _⟩ => ⟨S8192x5632, .f32⟩
  | .hbm, ⟨37, _⟩ => ⟨S8192x5632, .f32⟩
  | .hbm, ⟨38, _⟩ => ⟨S_, .f32⟩
  | .hbm, ⟨39, _⟩ => ⟨S1x5632, .f32⟩
  | .hbm, ⟨40, _⟩ => ⟨S_, .f32⟩
  | .hbm, ⟨41, _⟩ => ⟨S1x5632, .f32⟩
  | .hbm, ⟨42, _⟩ => ⟨S8191x5632, .f32⟩
  | .hbm, ⟨43, _⟩ => ⟨S8192x5632, .f32⟩
  | .hbm, ⟨44, _⟩ => ⟨S_, .f32⟩
  | .hbm, ⟨45, _⟩ => ⟨S1x5632, .f32⟩
  | .hbm, ⟨46, _⟩ => ⟨S_, .f32⟩
  | .hbm, ⟨47, _⟩ => ⟨S2x5632, .f32⟩
  | .hbm, ⟨48, _⟩ => ⟨S8190x5632, .f32⟩
  | .hbm, ⟨49, _⟩ => ⟨S8192x5632, .f32⟩
  | .hbm, ⟨50, _⟩ => ⟨S_, .f32⟩
  | .hbm, ⟨51, _⟩ => ⟨S2x5632, .f32⟩
  | .hbm, ⟨52, _⟩ => ⟨S1x5632, .f32⟩
  | .hbm, ⟨53, _⟩ => ⟨S8192x5632, .f32⟩
  | .hbm, ⟨54, _⟩ => ⟨S8192x5632, .f32⟩
  | .hbm, ⟨55, _⟩ => ⟨S1x5632, .f32⟩
  | .hbm, ⟨56, _⟩ => ⟨S8192x5632, .f32⟩
  | .hbm, ⟨57, _⟩ => ⟨S8192x5632, .f32⟩
  | .hbm, ⟨58, _⟩ => ⟨S8192x5632, .f32⟩
  | .hbm, ⟨59, _⟩ => ⟨S1x5632, .f32⟩
  | .hbm, ⟨60, _⟩ => ⟨S8192x5632, .f32⟩
  | .hbm, ⟨61, _⟩ => ⟨S8192x5632, .f32⟩
  | .hbm, ⟨62, _⟩ => ⟨S8192x5632, .f32⟩
  | .hbm, ⟨63, _⟩ => ⟨S8192x5632, .f32⟩
  | .hbm, ⟨64, _⟩ => ⟨S8192x5632, .f32⟩
  | .hbm, ⟨65, _⟩ => ⟨S_, .f32⟩
  | .hbm, ⟨66, _⟩ => ⟨S5632, .f32⟩
  | .hbm, ⟨67, _⟩ => ⟨S1x5632, .f32⟩
  | .hbm, ⟨68, _⟩ => ⟨S8192x5632, .f32⟩
  | .hbm, ⟨69, _⟩ => ⟨S8192x5632, .f32⟩
  | .hbm, ⟨70, _⟩ => ⟨S8192x5632, .f32⟩
  | .hbm, ⟨71, _⟩ => ⟨S_, .f32⟩
  | .hbm, ⟨72, _⟩ => ⟨S5632, .f32⟩
  | .hbm, ⟨73, _⟩ => ⟨S1x5632, .f32⟩
  | .hbm, ⟨74, _⟩ => ⟨S_, .f32⟩
  | .hbm, ⟨75, _⟩ => ⟨S3x5632, .f32⟩
  | .hbm, ⟨76, _⟩ => ⟨S8192x5632, .f32⟩
  | .hbm, ⟨77, _⟩ => ⟨S8192x5632, .f32⟩
  | .hbm, ⟨78, _⟩ => ⟨S8192x5632, .f32⟩
  | .hbm, ⟨79, _⟩ => ⟨S_, .f32⟩
  | .hbm, ⟨80, _⟩ => ⟨S5632, .f32⟩
  | .hbm, ⟨81, _⟩ => ⟨S1x5632, .f32⟩
  | .hbm, ⟨82, _⟩ => ⟨S_, .f32⟩
  | .hbm, ⟨83, _⟩ => ⟨S3x5632, .f32⟩
  | .hbm, ⟨84, _⟩ => ⟨S3x5632, .f32⟩
  | .hbm, ⟨85, _⟩ => ⟨S8192x5632, .f32⟩
  | .hbm, ⟨86, _⟩ => ⟨S8192x5632, .f32⟩
  | .hbm, ⟨87, _⟩ => ⟨S8192x5632, .f32⟩
  | .hbm, ⟨88, _⟩ => ⟨S_, .f32⟩
  | .hbm, ⟨89, _⟩ => ⟨S5632, .f32⟩
  | .hbm, ⟨90, _⟩ => ⟨S1x5632, .f32⟩
  | .hbm, ⟨91, _⟩ => ⟨S_, .f32⟩
  | .hbm, ⟨92, _⟩ => ⟨S3x5632, .f32⟩
  | .hbm, ⟨93, _⟩ => ⟨S3x5632, .f32⟩
  | .hbm, ⟨94, _⟩ => ⟨S2x5632, .f32⟩
  | .hbm, ⟨95, _⟩ => ⟨S8190x5632, .f32⟩
  | .hbm, ⟨96, _⟩ => ⟨S_, .f32⟩
  | .hbm, ⟨97, _⟩ => ⟨S8192x5632, .f32⟩
  | .hbm, ⟨98, _⟩ => ⟨S8192x5632, .f32⟩
  | .hbm, ⟨99, _⟩ => ⟨S1x5632, .f32⟩
  | .hbm, ⟨100, _⟩ => ⟨S8191x5632, .f32⟩
  | .hbm, ⟨101, _⟩ => ⟨S_, .f32⟩
  | .hbm, ⟨102, _⟩ => ⟨S8192x5632, .f32⟩
  | .hbm, ⟨103, _⟩ => ⟨S8192x5632, .f32⟩
  | .hbm, ⟨104, _⟩ => ⟨S8192x5632, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v7_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v7_1 : Ref sig .tc := ⟨.hbm, 22, rfl⟩
abbrev main_v7_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst : Ref sig .tc := ⟨.hbm, 38, rfl⟩
abbrev main_v19 : Ref sig .tc := ⟨.hbm, 39, rfl⟩
abbrev main_cst_0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_1 : Ref sig .tc := ⟨.hbm, 44, rfl⟩
abbrev main_v23 : Ref sig .tc := ⟨.hbm, 45, rfl⟩
abbrev main_cst_2 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_3 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_4 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_5 : Ref sig .tc := ⟨.hbm, 71, rfl⟩
abbrev main_v46 : Ref sig .tc := ⟨.hbm, 72, rfl⟩
abbrev main_v47 : Ref sig .tc := ⟨.hbm, 73, rfl⟩
abbrev main_cst_6 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_7 : Ref sig .tc := ⟨.hbm, 79, rfl⟩
abbrev main_v52 : Ref sig .tc := ⟨.hbm, 80, rfl⟩
abbrev main_v53 : Ref sig .tc := ⟨.hbm, 81, rfl⟩
abbrev main_cst_8 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_9 : Ref sig .tc := ⟨.hbm, 88, rfl⟩
abbrev main_v59 : Ref sig .tc := ⟨.hbm, 89, rfl⟩
abbrev main_v60 : Ref sig .tc := ⟨.hbm, 90, rfl⟩
abbrev main_cst_10 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_11 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_12 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩

abbrev nD : Nat := 1
abbrev τ : Topo := Topo.v7x

variable {F : FTy → Type} [FloatOps F]
-- ==== Kernel30.lean ====
abbrev S1 : Shape := ⟨1, ![1]⟩
abbrev S4x2x1568x1024 : Shape := ⟨4, ![4, 2, 1568, 1024]⟩
abbrev S4x1568x1024 : Shape := ⟨3, ![4, 1568, 1024]⟩
abbrev S1x1x224x1024 : Shape := ⟨4, ![1, 1, 224, 1024]⟩
abbrev S1x224x1024 : Shape := ⟨3, ![1, 224, 1024]⟩

abbrev nBuf : Space → Nat
  | .hbm => 3
  | .vmem => 6
  | .smem => 1
  | _ => 0

abbrev bufTy : (tb : Table) → Fin (tcTables nBuf tb) → BufTy
  | .hbm, ⟨0, _⟩ => ⟨S4x2x1568x1024, .bf16⟩
  | .hbm, ⟨1, _⟩ => ⟨S4x1568x1024, .bf16⟩
  | .hbm, ⟨2, _⟩ => ⟨S4x1568x1024, .bf16⟩
  | .local _ .vmem, ⟨0, _⟩ => ⟨S1x1x224x1024, .bf16⟩
  | .local _ .vmem, ⟨1, _⟩ => ⟨S1x1x224x1024, .bf16⟩
  | .local _ .vmem, ⟨2, _⟩ => ⟨S1x224x1024, .bf16⟩
  | .local _ .vmem, ⟨3, _⟩ => ⟨S1x224x1024, .bf16⟩
  | .local _ .vmem, ⟨4, _⟩ => ⟨S1x224x1024, .bf16⟩
  | .local _ .vmem, ⟨5, _⟩ => ⟨S1x224x1024, .bf16⟩
  | .local _ .smem, ⟨0, _⟩ => ⟨S1, .i32⟩
  | _, _ => ⟨S4x2x1568x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 7], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x224x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x224x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x224x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference30Ideal.lean ====
abbrev S1 : Shape := ⟨1, ![1]⟩
abbrev S4x2x1568x1024 : Shape := ⟨4, ![4, 2, 1568, 1024]⟩
abbrev S4x1568x1024 : Shape := ⟨3, ![4, 1568, 1024]⟩
abbrev S_ : Shape := ⟨0, ![]⟩
abbrev S4x1x1568x1024 : Shape := ⟨4, ![4, 1, 1568, 1024]⟩

abbrev nBuf : Space → Nat
  | .hbm => 15
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x2x1568x1024, .bf16⟩
  | .hbm, ⟨2, _⟩ => ⟨S4x1568x1024, .bf16⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x1x1568x1024, .bf16⟩
  | .hbm, ⟨7, _⟩ => ⟨S4x1568x1024, .bf16⟩
  | .hbm, ⟨8, _⟩ => ⟨S4x1x1568x1024, .bf16⟩
  | .hbm, ⟨9, _⟩ => ⟨S4x1568x1024, .bf16⟩
  | .hbm, ⟨10, _⟩ => ⟨S4x1568x1024, .bf16⟩
  | .hbm, ⟨11, _⟩ => ⟨S4x1568x1024, .f32⟩
  | .hbm, ⟨12, _⟩ => ⟨S4x1568x1024, .f32⟩
  | .hbm, ⟨13, _⟩ => ⟨S4x1568x1024, .f32⟩
  | .hbm, ⟨14, _⟩ => ⟨S4x1568x1024, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel31.lean ====
abbrev S1 : Shape := ⟨1, ![1]⟩
abbrev S4x2x1168x1024 : Shape := ⟨4, ![4, 2, 1168, 1024]⟩
abbrev S4x1168x1024 : Shape := ⟨3, ![4, 1168, 1024]⟩
abbrev S1x1x1168x1024 : Shape := ⟨4, ![1, 1, 1168, 1024]⟩
abbrev S1x1168x1024 : Shape := ⟨3, ![1, 1168, 1024]⟩

abbrev nBuf : Space → Nat
  | .hbm => 3
  | .vmem => 6
  | .smem => 1
  | _ => 0

abbrev bufTy : (tb : Table) → Fin (tcTables nBuf tb) → BufTy
  | .hbm, ⟨0, _⟩ => ⟨S4x2x1168x1024, .bf16⟩
  | .hbm, ⟨1, _⟩ => ⟨S4x1168x1024, .bf16⟩
  | .hbm, ⟨2, _⟩ => ⟨S4x1168x1024, .bf16⟩
  | .local _ .vmem, ⟨0, _⟩ => ⟨S1x1x1168x1024, .bf16⟩
  | .local _ .vmem, ⟨1, _⟩ => ⟨S1x1x1168x1024, .bf16⟩
  | .local _ .vmem, ⟨2, _⟩ => ⟨S1x1168x1024, .bf16⟩
  | .local _ .vmem, ⟨3, _⟩ => ⟨S1x1168x1024, .bf16⟩
  | .local _ .vmem, ⟨4, _⟩ => ⟨S1x1168x1024, .bf16⟩
  | .local _ .vmem, ⟨5, _⟩ => ⟨S1x1168x1024, .bf16⟩
  | .local _ .smem, ⟨0, _⟩ => ⟨S1, .i32⟩
  | _, _ => ⟨S4x2x1168x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x1168x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1168x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1168x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference31Ideal.lean ====
abbrev S1 : Shape := ⟨1, ![1]⟩
abbrev S4x2x1168x1024 : Shape := ⟨4, ![4, 2, 1168, 1024]⟩
abbrev S4x1168x1024 : Shape := ⟨3, ![4, 1168, 1024]⟩
abbrev S_ : Shape := ⟨0, ![]⟩
abbrev S4x1x1168x1024 : Shape := ⟨4, ![4, 1, 1168, 1024]⟩

abbrev nBuf : Space → Nat
  | .hbm => 15
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x2x1168x1024, .bf16⟩
  | .hbm, ⟨2, _⟩ => ⟨S4x1168x1024, .bf16⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x1x1168x1024, .bf16⟩
  | .hbm, ⟨7, _⟩ => ⟨S4x1168x1024, .bf16⟩
  | .hbm, ⟨8, _⟩ => ⟨S4x1x1168x1024, .bf16⟩
  | .hbm, ⟨9, _⟩ => ⟨S4x1168x1024, .bf16⟩
  | .hbm, ⟨10, _⟩ => ⟨S4x1168x1024, .bf16⟩
  | .hbm, ⟨11, _⟩ => ⟨S4x1168x1024, .f32⟩
  | .hbm, ⟨12, _⟩ => ⟨S4x1168x1024, .f32⟩
  | .hbm, ⟨13, _⟩ => ⟨S4x1168x1024, .f32⟩
  | .hbm, ⟨14, _⟩ => ⟨S4x1168x1024, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel32.lean ====
abbrev S1 : Shape := ⟨1, ![1]⟩
abbrev S4x1568x1024 : Shape := ⟨3, ![4, 1568, 1024]⟩
abbrev S3x1568x1024 : Shape := ⟨3, ![3, 1568, 1024]⟩
abbrev S1568x1024 : Shape := ⟨2, ![1568, 1024]⟩
abbrev S1x224x1024 : Shape := ⟨3, ![1, 224, 1024]⟩
abbrev S3x224x1024 : Shape := ⟨3, ![3, 224, 1024]⟩
abbrev S224x1024 : Shape := ⟨2, ![224, 1024]⟩

abbrev nBuf : Space → Nat
  | .hbm => 3
  | .vmem => 6
  | .smem => 1
  | _ => 0

abbrev bufTy : (tb : Table) → Fin (tcTables nBuf tb) → BufTy
  | .hbm, ⟨0, _⟩ => ⟨S4x1568x1024, .bf16⟩
  | .hbm, ⟨1, _⟩ => ⟨S3x1568x1024, .bf16⟩
  | .hbm, ⟨2, _⟩ => ⟨S1568x1024, .f32⟩
  | .local _ .vmem, ⟨0, _⟩ => ⟨S1x224x1024, .bf16⟩
  | .local _ .vmem, ⟨1, _⟩ => ⟨S1x224x1024, .bf16⟩
  | .local _ .vmem, ⟨2, _⟩ => ⟨S3x224x1024, .bf16⟩
  | .local _ .vmem, ⟨3, _⟩ => ⟨S3x224x1024, .bf16⟩
  | .local _ .vmem, ⟨4, _⟩ => ⟨S224x1024, .f32⟩
  | .local _ .vmem, ⟨5, _⟩ => ⟨S224x1024, .f32⟩
  | .local _ .smem, ⟨0, _⟩ => ⟨S1, .i32⟩
  | _, _ => ⟨S4x1568x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![7], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x224x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x224x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S224x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference32Ideal.lean ====
abbrev S1 : Shape := ⟨1, ![1]⟩
abbrev S4x1568x1024 : Shape := ⟨3, ![4, 1568, 1024]⟩
abbrev S3x1568x1024 : Shape := ⟨3, ![3, 1568, 1024]⟩
abbrev S_ : Shape := ⟨0, ![]⟩
abbrev S1x1568x1024 : Shape := ⟨3, ![1, 1568, 1024]⟩
abbrev S1568x1024 : Shape := ⟨2, ![1568, 1024]⟩

abbrev nBuf : Space → Nat
  | .hbm => 36
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x1568x1024, .bf16⟩
  | .hbm, ⟨2, _⟩ => ⟨S3x1568x1024, .bf16⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S1x1568x1024, .bf16⟩
  | .hbm, ⟨10, _⟩ => ⟨S1568x1024, .bf16⟩
  | .hbm, ⟨11, _⟩ => ⟨S1x1568x1024, .bf16⟩
  | .hbm, ⟨12, _⟩ => ⟨S1568x1024, .bf16⟩
  | .hbm, ⟨13, _⟩ => ⟨S1568x1024, .bf16⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S1x1568x1024, .bf16⟩
  | .hbm, ⟨18, _⟩ => ⟨S1568x1024, .bf16⟩
  | .hbm, ⟨19, _⟩ => ⟨S1x1568x1024, .bf16⟩
  | .hbm, ⟨20, _⟩ => ⟨S1568x1024, .bf16⟩
  | .hbm, ⟨21, _⟩ => ⟨S1568x1024, .bf16⟩
  | .hbm, ⟨22, _⟩ => ⟨S1568x1024, .bf16⟩
  | .hbm, ⟨23, _⟩ => ⟨S1568x1024, .f32⟩
  | .hbm, ⟨24, _⟩ => ⟨S1x1568x1024, .bf16⟩
  | .hbm, ⟨25, _⟩ => ⟨S1568x1024, .bf16⟩
  | .hbm, ⟨26, _⟩ => ⟨S1568x1024, .f32⟩
  | .hbm, ⟨27, _⟩ => ⟨S1568x1024, .f32⟩
  | .hbm, ⟨28, _⟩ => ⟨S1x1568x1024, .bf16⟩
  | .hbm, ⟨29, _⟩ => ⟨S1568x1024, .bf16⟩
  | .hbm, ⟨30, _⟩ => ⟨S1568x1024, .f32⟩
  | .hbm, ⟨31, _⟩ => ⟨S1568x1024, .f32⟩
  | .hbm, ⟨32, _⟩ => ⟨S1x1568x1024, .bf16⟩
  | .hbm, ⟨33, _⟩ => ⟨S1568x1024, .bf16⟩
  | .hbm, ⟨34, _⟩ => ⟨S1568x1024, .f32⟩
  | .hbm, ⟨35, _⟩ => ⟨S1568x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩

abbrev nD : Nat := 1
abbrev τ : Topo := Topo.v7x

variable {F : FTy → Type} [FloatOps F]
-- ==== Kernel33.lean ====
abbrev S1 : Shape := ⟨1, ![1]⟩
abbrev S4x1168x1024 : Shape := ⟨3, ![4, 1168, 1024]⟩
abbrev S3x1168x1024 : Shape := ⟨3, ![3, 1168, 1024]⟩
abbrev S1168x1024 : Shape := ⟨2, ![1168, 1024]⟩
abbrev S1x1168x1024 : Shape := ⟨3, ![1, 1168, 1024]⟩

abbrev nBuf : Space → Nat
  | .hbm => 3
  | .vmem => 3
  | .smem => 1
  | _ => 0

abbrev bufTy : (tb : Table) → Fin (tcTables nBuf tb) → BufTy
  | .hbm, ⟨0, _⟩ => ⟨S4x1168x1024, .bf16⟩
  | .hbm, ⟨1, _⟩ => ⟨S3x1168x1024, .bf16⟩
  | .hbm, ⟨2, _⟩ => ⟨S1168x1024, .f32⟩
  | .local _ .vmem, ⟨0, _⟩ => ⟨S1x1168x1024, .bf16⟩
  | .local _ .vmem, ⟨1, _⟩ => ⟨S3x1168x1024, .bf16⟩
  | .local _ .vmem, ⟨2, _⟩ => ⟨S1168x1024, .f32⟩
  | .local _ .smem, ⟨0, _⟩ => ⟨S1, .i32⟩
  | _, _ => ⟨S4x1168x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1168x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x1168x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1168x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference33Ideal.lean ====
abbrev S1 : Shape := ⟨1, ![1]⟩
abbrev S4x1168x1024 : Shape := ⟨3, ![4, 1168, 1024]⟩
abbrev S3x1168x1024 : Shape := ⟨3, ![3, 1168, 1024]⟩
abbrev S_ : Shape := ⟨0, ![]⟩
abbrev S1x1168x1024 : Shape := ⟨3, ![1, 1168, 1024]⟩
abbrev S1168x1024 : Shape := ⟨2, ![1168, 1024]⟩

abbrev nBuf : Space → Nat
  | .hbm => 36
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x1168x1024, .bf16⟩
  | .hbm, ⟨2, _⟩ => ⟨S3x1168x1024, .bf16⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S1x1168x1024, .bf16⟩
  | .hbm, ⟨10, _⟩ => ⟨S1168x1024, .bf16⟩
  | .hbm, ⟨11, _⟩ => ⟨S1x1168x1024, .bf16⟩
  | .hbm, ⟨12, _⟩ => ⟨S1168x1024, .bf16⟩
  | .hbm, ⟨13, _⟩ => ⟨S1168x1024, .bf16⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S1x1168x1024, .bf16⟩
  | .hbm, ⟨18, _⟩ => ⟨S1168x1024, .bf16⟩
  | .hbm, ⟨19, _⟩ => ⟨S1x1168x1024, .bf16⟩
  | .hbm, ⟨20, _⟩ => ⟨S1168x1024, .bf16⟩
  | .hbm, ⟨21, _⟩ => ⟨S1168x1024, .bf16⟩
  | .hbm, ⟨22, _⟩ => ⟨S1168x1024, .bf16⟩
  | .hbm, ⟨23, _⟩ => ⟨S1168x1024, .f32⟩
  | .hbm, ⟨24, _⟩ => ⟨S1x1168x1024, .bf16⟩
  | .hbm, ⟨25, _⟩ => ⟨S1168x1024, .bf16⟩
  | .hbm, ⟨26, _⟩ => ⟨S1168x1024, .f32⟩
  | .hbm, ⟨27, _⟩ => ⟨S1168x1024, .f32⟩
  | .hbm, ⟨28, _⟩ => ⟨S1x1168x1024, .bf16⟩
  | .hbm, ⟨29, _⟩ => ⟨S1168x1024, .bf16⟩
  | .hbm, ⟨30, _⟩ => ⟨S1168x1024, .f32⟩
  | .hbm, ⟨31, _⟩ => ⟨S1168x1024, .f32⟩
  | .hbm, ⟨32, _⟩ => ⟨S1x1168x1024, .bf16⟩
  | .hbm, ⟨33, _⟩ => ⟨S1168x1024, .bf16⟩
  | .hbm, ⟨34, _⟩ => ⟨S1168x1024, .f32⟩
  | .hbm, ⟨35, _⟩ => ⟨S1168x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩

abbrev nD : Nat := 1
abbrev τ : Topo := Topo.v7x

variable {F : FTy → Type} [FloatOps F]
-- ==== Proof.MergeBwd.lean ====
/- Hand-written, untrusted: what the gated merge's backward call leaves in its six result arrays, over the extended
   reals, and that it is what the reference's `jax.vjp` computes. -/
module

public import proofs.«01_k».proof.Proof.Gen.KernelIdeal.Frame
public import proofs.«01_k».proof.Proof.Gen.ReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Merge

open Cert.KernelIdeal Cert.KernelIdeal.Gen

variable (m : (ℓ : Loc nD τ sig) → Buf (Elt Ideal) ℓ)

/-- The block of every window at every grid point: the row windows move down by one block per point. -/
theorem idx : ∀ t : Fin cfg0.N, win0_0.index t = ![t.val, 0] ∧ win0_1.index t = ![t.val, 0]
    ∧ win0_2.index t = ![0, 0]
    ∧ win0_3.index t = ![t.val, 0]
    ∧ win0_4.index t = ![t.val, 0]
    ∧ win0_5.index t = ![0, 0]
    ∧ win0_6.index t = ![0, 0]
    ∧ win0_7.index t = ![t.val, 0]
    ∧ win0_8.index t = ![t.val, 0]
    ∧ win0_9.index t = ![t.val, 0]
    ∧ win0_10.index t = ![t.val, 0]
    ∧ win0_11.index t = ![t.val, 0]
    ∧ win0_12.index t = ![0, 0] :=
  (by decide +kernel : ∀ t : Fin grid0.N, _)

/-- The array row that row `r` of a point's block is. -/
def row (t : Fin cfg0.N) (r : Fin 512) : Fin 8192 := ⟨t.val * 512 + r, by have := lt_of_lt_of_eq t.isLt N_0; omega⟩

/-- The projection's block at a grid point holds the first 2048 columns of the point's 512 rows. -/
theorem proj_block (c : Dev nD) (t : Fin cfg0.N) (r : Fin 512) (l : Fin 2048) :
    (show FVec Ideal S512x2048 .bf16 from X0_1 m c t) (ix2 r l)
      = (show FVec Ideal S8192x9216 .bf16 from m ((c : Thread nD τ).loc main_arg1)) (ix2 (row t r) ⟨l, by omega⟩) := by
  show X0_1 m c t (ix2 r l) = _
  unfold X0_1 Pipeline.Window.fill row
  rw [dif_pos (moved0_1 t (ix2 r l))]
  blk_ext [iblk, V, idx t]

/-- The incoming gradient's block at a grid point holds the point's 512 rows. -/
theorem dm_block (c : Dev nD) (t : Fin cfg0.N) (r : Fin 512) (l : Fin 1024) :
    (show FVec Ideal S512x1024 .bf16 from iblk m c 0 t) (ix2 r l)
      = (show FVec Ideal S8192x1024 .bf16 from m ((c : Thread nD τ).loc main_arg0)) (ix2 (row t r) l) := by
  unfold row
  blk_ext [iblk, V, idx t]

/-- The first branch's block at a grid point holds the point's 512 rows. -/
theorem ya_block (c : Dev nD) (t : Fin cfg0.N) (r : Fin 512) (l : Fin 1024) :
    (show FVec Ideal S512x1024 .bf16 from iblk m c 3 t) (ix2 r l)
      = (show FVec Ideal S8192x1024 .bf16 from m ((c : Thread nD τ).loc main_arg3)) (ix2 (row t r) l) := by
  unfold row
  blk_ext [iblk, V, idx t]

/-- The second branch's block at a grid point holds the point's 512 rows. -/
theorem yb_block (c : Dev nD) (t : Fin cfg0.N) (r : Fin 512) (l : Fin 1024) :
    (show FVec Ideal S512x1024 .bf16 from iblk m c 4 t) (ix2 r l)
      = (show FVec Ideal S8192x1024 .bf16 from m ((c : Thread nD τ).loc main_arg4)) (ix2 (row t r) l) := by
  unfold row
  blk_ext [iblk, V, idx t]

/-- A gate: the logistic function as both programs compute it. -/
def gate (z : EReal) : EReal := Ideal.div 1 (1 + Ideal.exp (-z))

section reference
open Cert.ReferenceIdeal.Read

/-- The reference's first gate at a token and a channel. -/
theorem ref_gate_a (x1 : FVec Ideal S8192x9216 .bf16) (x2 : FVec Ideal S2x1024 .f32) (r : Fin 8192) (l : Fin 1024) :
    val_main_v16 (F := Ideal) x1 x2 (ix2 r l) = gate (x1 (ix2 r ⟨l, by omega⟩) + x2 (ix2 0 l)) := by
  pointwise [val_main_v0, val_main_v1, val_main_v4, val_main_v6, val_main_v7, val_main_v8, val_main_v9, val_main_v10,
    val_main_v11, val_main_v12, val_main_v13, val_main_v14, val_main_v15, val_main_v16, val_main_cst, val_main_cst_0, gate]

/-- The reference's second gate at a token and a channel. -/
theorem ref_gate_b (x1 : FVec Ideal S8192x9216 .bf16) (x2 : FVec Ideal S2x1024 .f32) (r : Fin 8192) (l : Fin 1024) :
    val_main_v31 (F := Ideal) x1 x2 (ix2 r l) = gate (x1 (ix2 r ⟨1024 + l, by omega⟩) + x2 (ix2 1 l)) := by
  pointwise [val_main_v0, val_main_v1, val_main_v5, val_main_v21, val_main_v22, val_main_v23, val_main_v24, val_main_v25,
    val_main_v26, val_main_v27, val_main_v28, val_main_v29, val_main_v30, val_main_v31, val_main_cst_2, val_main_cst_3, gate]

end reference

/-! ## One row of a block against one row of the arrays -/

section rows
open Cert.ReferenceIdeal.Read

variable (d ya yb : FVec Ideal S512x1024 .bf16) (P : FVec Ideal S512x2048 .bf16) (ba bb : FVec Ideal S1x1024 .f32)
  (x0 x3 x4 : FVec Ideal S8192x1024 .bf16) (x1 : FVec Ideal S8192x9216 .bf16) (x2 : FVec Ideal S2x1024 .f32)
  (r : Fin 512) (R : Fin 8192) (l : Fin 1024)

/-- The body's first gate is the reference's, on rows that agree. -/
theorem gate_a_row (hP : ∀ l : Fin 2048, P (ix2 r l) = x1 (ix2 R ⟨l, by omega⟩))
    (hb : ∀ l, ba (ix2 0 l) = x2 (ix2 0 l)) :
    k0_pay4 (F := Ideal) P ba (ix2 r l) = val_main_v16 (F := Ideal) x1 x2 (ix2 R l) := by
  rw [ref_gate_a]
  pointwise [k0_pay4, k0_pay3, gate, zero_sub, hP, hb]

/-- The body's second gate is the reference's, on rows that agree. -/
theorem gate_b_row (hP : ∀ l : Fin 2048, P (ix2 r l) = x1 (ix2 R ⟨l, by omega⟩))
    (hb : ∀ l, bb (ix2 0 l) = x2 (ix2 1 l)) :
    k0_pay5 (F := Ideal) P bb (ix2 r l) = val_main_v31 (F := Ideal) x1 x2 (ix2 R l) := by
  rw [ref_gate_b]
  pointwise [k0_pay5, k0_pay3, gate, zero_sub, hP, hb]

/-- The gradient of the first branch. -/
theorem dya_row (hP : ∀ l : Fin 2048, P (ix2 r l) = x1 (ix2 R ⟨l, by omega⟩))
    (hb : ∀ l, ba (ix2 0 l) = x2 (ix2 0 l)) (hd : ∀ l, d (ix2 r l) = x0 (ix2 R l)) :
    k0_pay6 (F := Ideal) d P ba (ix2 r l) = val_main_v66 (F := Ideal) x0 x1 x2 (ix2 R l) := by
  pointwise [k0_pay6, k0_pay2, val_main_v66, val_main_v46, val_main_v37, gate_a_row P ba x1 x2 r R l hP hb, hd]
  exact mul_comm _ _

/-- The gradient of the second branch. -/
theorem dyb_row (hP : ∀ l : Fin 2048, P (ix2 r l) = x1 (ix2 R ⟨l, by omega⟩))
    (hb : ∀ l, bb (ix2 0 l) = x2 (ix2 1 l)) (hd : ∀ l, d (ix2 r l) = x0 (ix2 R l)) :
    k0_pay7 (F := Ideal) d P bb (ix2 r l) = val_main_v67 (F := Ideal) x0 x1 x2 (ix2 R l) := by
  pointwise [k0_pay7, k0_pay2, val_main_v67, val_main_v38, val_main_v37, gate_b_row P bb x1 x2 r R l hP hb, hd]
  exact mul_comm _ _

/-- The gradient of the first gate's argument. -/
theorem dga_row (hP : ∀ l : Fin 2048, P (ix2 r l) = x1 (ix2 R ⟨l, by omega⟩))
    (hb : ∀ l, ba (ix2 0 l) = x2 (ix2 0 l)) (hd : ∀ l, d (ix2 r l) = x0 (ix2 R l)) (hy : ∀ l, ya (ix2 r l) = x3 (ix2 R l)) :
    k0_pay8 (F := Ideal) d P ba ya (ix2 r l) = val_main_v48 (F := Ideal) x0 x1 x2 x3 (ix2 R l) := by
  pointwise [k0_pay8, k0_pay2, val_main_v48, val_main_v47, val_main_v37, val_main_v2, val_main_v19, val_main_v18, val_main_v17,
    val_main_cst_1, gate_a_row P ba x1 x2 r R l hP hb, hd, hy]
  exact mul_assoc _ _ _

/-- The gradient of the second gate's argument. -/
theorem dgb_row (hP : ∀ l : Fin 2048, P (ix2 r l) = x1 (ix2 R ⟨l, by omega⟩))
    (hb : ∀ l, bb (ix2 0 l) = x2 (ix2 1 l)) (hd : ∀ l, d (ix2 r l) = x0 (ix2 R l)) (hy : ∀ l, yb (ix2 r l) = x4 (ix2 R l)) :
    k0_pay10 (F := Ideal) (k0_pay5 P bb) (k0_pay9 d yb) (ix2 r l) = val_main_v40 (F := Ideal) x0 x1 x2 x4 (ix2 R l) := by
  pointwise [k0_pay10, k0_pay9, k0_pay2, val_main_v40, val_main_v39, val_main_v37, val_main_v3, val_main_v34, val_main_v33,
    val_main_v32, val_main_cst_4, gate_b_row P bb x1 x2 r R l hP hb, hd, hy]
  exact mul_assoc _ _ _

/-- The gradient before the first branch's product. -/
theorem dpa_row (w x5 : FVec Ideal S1024x1024 .bf16) (hP : ∀ l : Fin 2048, P (ix2 r l) = x1 (ix2 R ⟨l, by omega⟩))
    (hb : ∀ l, ba (ix2 0 l) = x2 (ix2 0 l)) (hd : ∀ l, d (ix2 r l) = x0 (ix2 R l)) (hw : ∀ i j, w (ix2 i j) = x5 (ix2 i j)) :
    k0_pay13 (F := Ideal) (k0_pay6 d P ba) w (ix2 r l) = val_main_v68 (F := Ideal) x0 x1 x2 x5 (ix2 R l) := by
  pointwise [k0_pay13, val_main_v68, val_main_v60, val_main_v58, zero_add, hw]
  refine Finset.sum_congr rfl fun k _ => ?_
  rw [dya_row d P ba x0 x1 x2 r R k hP hb hd]
  rfl

/-- The gradient before the second branch's product. -/
theorem dpb_row (w x6 : FVec Ideal S2048x1024 .bf16) (l : Fin 2048) (hP : ∀ l : Fin 2048, P (ix2 r l) = x1 (ix2 R ⟨l, by omega⟩))
    (hb : ∀ l, bb (ix2 0 l) = x2 (ix2 1 l)) (hd : ∀ l, d (ix2 r l) = x0 (ix2 R l)) (hw : ∀ i j, w (ix2 i j) = x6 (ix2 i j)) :
    k0_pay14 (F := Ideal) (k0_pay7 d P bb) w (ix2 r l) = val_main_v69 (F := Ideal) x0 x1 x2 x6 (ix2 R l) := by
  pointwise [k0_pay14, val_main_v69, val_main_v63, val_main_v61, zero_add, hw]
  refine Finset.sum_congr rfl fun k _ => ?_
  rw [dyb_row d P bb x0 x1 x2 r R k hP hb hd]
  rfl

end rows

/-! ## The reference's padded results -/

section padded
open Cert.ReferenceIdeal.Read

variable (x0 x3 x4 : FVec Ideal S8192x1024 .bf16) (x1 : FVec Ideal S8192x9216 .bf16) (x2 : FVec Ideal S2x1024 .f32)

/-- The gate columns of the reference's padded gradient: the first gate's. -/
theorem ref_dg_a (R : Fin 8192) (l : Fin 10240) (h : l.val < 1024) :
    val_main_v65 (F := Ideal) x0 x1 x2 x3 x4 (ix2 R l) = val_main_v48 (F := Ideal) x0 x1 x2 x3 (ix2 R ⟨l, h⟩) := by
  pointwise [val_main_v65, val_main_v64, val_main_v55, h]
  rw [dif_pos (by omega)]

/-- The gate columns of the reference's padded gradient: the second gate's. -/
theorem ref_dg_b (R : Fin 8192) (l : Fin 10240) (h : 1024 ≤ l.val) (h' : l.val < 2048) :
    val_main_v65 (F := Ideal) x0 x1 x2 x3 x4 (ix2 R l) = val_main_v40 (F := Ideal) x0 x1 x2 x4 (ix2 R ⟨l - 1024, by omega⟩) := by
  pointwise [val_main_v65, val_main_v64, val_main_v55, h]
  rw [dif_pos h', dif_neg (by omega)]

/-- The reference's bias gradient sums the gate gradients over the tokens: the first gate's row. -/
theorem ref_db_a (l : Fin 1024) :
    val_main_v54 (F := Ideal) x0 x1 x2 x3 x4 (ix2 0 l) = ∑ R : Fin 8192, val_main_v48 (F := Ideal) x0 x1 x2 x3 (ix2 R l) := by
  pointwise [val_main_v54, val_main_v53, val_main_v52, val_main_v51, val_main_v50, val_main_v49, val_main_v45, val_main_v44,
    val_main_cst_7, val_main_cst_8, val_main_cst_9, val_main_cst_10]
  exact Fin.sum_univ_one _

/-- The reference's bias gradient sums the gate gradients over the tokens: the second gate's row. -/
theorem ref_db_b (l : Fin 1024) :
    val_main_v54 (F := Ideal) x0 x1 x2 x3 x4 (ix2 1 l) = ∑ R : Fin 8192, val_main_v40 (F := Ideal) x0 x1 x2 x4 (ix2 R l) := by
  pointwise [val_main_v54, val_main_v53, val_main_v45, val_main_v44, val_main_v43, val_main_v42, val_main_v41,
    val_main_cst_5, val_main_cst_6, val_main_cst_7, val_main_cst_10]
  exact Fin.sum_univ_one _

end padded

/-! ## The result arrays -/

section results
open Cert.ReferenceIdeal.Read

variable (c : Dev nD)

/-- The gradient of the first gate's argument, as the reference computes it from the arguments. -/
abbrev DGA : FVec Ideal S8192x1024 .f32 :=
  val_main_v48 (F := Ideal) (m ((c : Thread nD τ).loc main_arg0)) (m ((c : Thread nD τ).loc main_arg1))
    (m ((c : Thread nD τ).loc main_arg2)) (m ((c : Thread nD τ).loc main_arg3))

/-- The gradient of the second gate's argument, as the reference computes it from the arguments. -/
abbrev DGB : FVec Ideal S8192x1024 .f32 :=
  val_main_v40 (F := Ideal) (m ((c : Thread nD τ).loc main_arg0)) (m ((c : Thread nD τ).loc main_arg1))
    (m ((c : Thread nD τ).loc main_arg2)) (m ((c : Thread nD τ).loc main_arg4))

/-- What one grid point adds to the bias gradient: its 512 rows' gate gradients, summed. -/
def part (t : Fin cfg0.N) (j : S2x1024.Idx) : EReal :=
  if (j 0 : ℕ) = 0 then ∑ r : Fin 512, DGA m c (ix2 (row t r) (j 1)) else ∑ r : Fin 512, DGB m c (ix2 (row t r) (j 1))

/-- A point's part in the first row. -/
theorem part_a (t : Fin cfg0.N) (l : Fin 1024) : part m c t (ix2 0 l) = ∑ r : Fin 512, DGA m c (ix2 (row t r) l) := if_pos rfl

/-- A point's part in the second row. -/
theorem part_b (t : Fin cfg0.N) (l : Fin 1024) : part m c t (ix2 1 l) = ∑ r : Fin 512, DGB m c (ix2 (row t r) l) :=
  if_neg (show ¬((1 : Fin 2) : ℕ) = 0 by decide)

/-- The body's two row sums are the point's part, on blocks whose rows agree with the arrays'. -/
theorem part_eq (t : Fin cfg0.N) (ba bb : FVec Ideal S1x1024 .f32)
    (ha : ∀ l, ba (ix2 0 l) = (show FVec Ideal S2x1024 .f32 from m ((c : Thread nD τ).loc main_arg2)) (ix2 0 l))
    (hb : ∀ l, bb (ix2 0 l) = (show FVec Ideal S2x1024 .f32 from m ((c : Thread nD τ).loc main_arg2)) (ix2 1 l))
    (j : S2x1024.Idx) :
    k0_pay15 (F := Ideal) (k0_pay5 (X0_1 m c t) bb) (k0_pay8 (iblk m c 0 t) (X0_1 m c t) ba (iblk m c 3 t))
      (k0_pay9 (iblk m c 0 t) (iblk m c 4 t)) j = part m c t j := by
  have hA := fun r l => dga_row _ _ _ _ _ _ _ _ r (row t r) l (proj_block m c t _) ha (dm_block m c t _) (ya_block m c t _)
  have hB := fun r l => dgb_row _ _ _ _ _ _ _ _ r (row t r) l (proj_block m c t _) hb (dm_block m c t _) (yb_block m c t _)
  idx_vars j
  obtain rfl | rfl : j0 = 0 ∨ j0 = 1 := by omega
  · rw [part_a]
    pointwise [k0_pay15]
    exact Finset.sum_congr rfl fun r _ => hA r j1
  · rw [part_b]
    pointwise [k0_pay15]
    exact Finset.sum_congr rfl fun r _ => hB r j1

/-- The parts of all the points are the reference's bias gradient. -/
theorem parts_eq (j : S2x1024.Idx) : ∑ t : Fin cfg0.N, part m c t j
    = val_main_v54 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) j := by
  idx_vars j
  obtain rfl | rfl : j0 = 0 ∨ j0 = 1 := by omega
  · rw [ref_db_a]
    simp only [part_a]
    exact Fin.sum_mul_add_congr fun s k hl => rfl
  · rw [ref_db_b]
    simp only [part_b]
    exact Fin.sum_mul_add_congr fun s k hl => rfl

/-- The gradient of the first branch is the reference's. -/
theorem final_dya : (dats m 0 c).arrAt 8 (cfgs 0).N
    = val_main_v66 (F := Ideal) (m ((c : Thread nD τ).loc main_arg0)) (m ((c : Thread nD τ).loc main_arg1))
          (m ((c : Thread nD τ).loc main_arg2)) := by
  refine (dats m 0 c).arrAt_eq_of_covers 8 _ (by decide +kernel) fun t hf y => ?_
  have e : ((cfg0.win 8).blk t).view.emb y = ix2 (row t (y 0)) (y 1) := by unfold row; blk_ext [idx t]
  rw [e]
  blk_simp; rw [after0_8]
  have hN := lt_of_lt_of_eq t.isLt N_0
  have hba : ∀ l, View.ld (iblk m c 2 t) (Rect.unit ![0, 0] ![1, 1024] inb_S2x1024_S1x1024_0_0) (ix2 0 l)
      = m ((c : Thread nD τ).loc main_arg2) (ix2 0 l) := fun l => by pointwise; blk_ext [iblk, V, idx t]
  by_cases h : t.val % 16 = 0
  · rw [outsAt0_A m c t h (by omega)]; dsimp only; frame_out
    exact (congrArg _ (eq_ix2 y)).trans (dya_row _ _ _ _ _ _ _ _ _ (proj_block m c t _) hba (dm_block m c t _))
  · rw [outsAt0_B m c t h (by omega)]; dsimp only; frame_out
    exact (congrArg _ (eq_ix2 y)).trans (dya_row _ _ _ _ _ _ _ _ _ (proj_block m c t _) hba (dm_block m c t _))

/-- The gradient of the second branch is the reference's. -/
theorem final_dyb : (dats m 0 c).arrAt 9 (cfgs 0).N
    = val_main_v67 (F := Ideal) (m ((c : Thread nD τ).loc main_arg0)) (m ((c : Thread nD τ).loc main_arg1))
          (m ((c : Thread nD τ).loc main_arg2)) := by
  refine (dats m 0 c).arrAt_eq_of_covers 9 _ (by decide +kernel) fun t hf y => ?_
  have e : ((cfg0.win 9).blk t).view.emb y = ix2 (row t (y 0)) (y 1) := by unfold row; blk_ext [idx t]
  rw [e]
  blk_simp; rw [after0_9]
  have hN := lt_of_lt_of_eq t.isLt N_0
  have hbb : ∀ l, View.ld (iblk m c 2 t) (Rect.unit ![1, 0] ![1, 1024] inb_S2x1024_S1x1024_1_0) (ix2 0 l)
      = m ((c : Thread nD τ).loc main_arg2) (ix2 1 l) := fun l => by pointwise; blk_ext [iblk, V, idx t]
  have hs := (congrArg _ (eq_ix2 y)).trans (dyb_row _ _ _ _ _ _ (y 0) _ (y 1) (proj_block m c t _) hbb (dm_block m c t _))
  by_cases h : t.val % 16 = 0
  · rw [outsAt0_A m c t h (by omega)]; dsimp only; frame_out; exact hs
  · rw [outsAt0_B m c t h (by omega)]; dsimp only; frame_out; exact hs

/-- The gradient before the first branch's product is the reference's. -/
theorem final_dpa : (dats m 0 c).arrAt 10 (cfgs 0).N
    = val_main_v68 (F := Ideal) (m ((c : Thread nD τ).loc main_arg0)) (m ((c : Thread nD τ).loc main_arg1))
          (m ((c : Thread nD τ).loc main_arg2)) (m ((c : Thread nD τ).loc main_arg5)) := by
  refine (dats m 0 c).arrAt_eq_of_covers 10 _ (by decide +kernel) fun t hf y => ?_
  have e : ((cfg0.win 10).blk t).view.emb y = ix2 (row t (y 0)) (y 1) := by unfold row; blk_ext [idx t]
  rw [e]
  blk_simp; rw [after0_10]
  have hN := lt_of_lt_of_eq t.isLt N_0
  have hba : ∀ l, View.ld (iblk m c 2 t) (Rect.unit ![0, 0] ![1, 1024] inb_S2x1024_S1x1024_0_0) (ix2 0 l)
      = m ((c : Thread nD τ).loc main_arg2) (ix2 0 l) := fun l => by pointwise; blk_ext [iblk, V, idx t]
  have hw : ∀ i j : Fin 1024, (show FVec Ideal S1024x1024 .bf16 from iblk m c 5 t) (ix2 i j)
      = m ((c : Thread nD τ).loc main_arg5) (ix2 i j) := fun i j => by blk_ext [iblk, V, idx t]
  have hs := (congrArg _ (eq_ix2 y)).trans
    (dpa_row _ _ _ _ _ _ (y 0) _ (y 1) _ _ (proj_block m c t _) hba (dm_block m c t _) hw)
  by_cases h : t.val % 16 = 0
  · rw [outsAt0_A m c t h (by omega)]; dsimp only; frame_out; exact hs
  · rw [outsAt0_B m c t h (by omega)]; dsimp only; frame_out; exact hs

/-- The gradient before the second branch's product is the reference's. -/
theorem final_dpb : (dats m 0 c).arrAt 11 (cfgs 0).N
    = val_main_v69 (F := Ideal) (m ((c : Thread nD τ).loc main_arg0)) (m ((c : Thread nD τ).loc main_arg1))
          (m ((c : Thread nD τ).loc main_arg2)) (m ((c : Thread nD τ).loc main_arg6)) := by
  refine (dats m 0 c).arrAt_eq_of_covers 11 _ (by decide +kernel) fun t hf y => ?_
  have e : ((cfg0.win 11).blk t).view.emb y = ix2 (row t (y 0)) (y 1) := by unfold row; blk_ext [idx t]
  rw [e]
  blk_simp; rw [after0_11]
  have hN := lt_of_lt_of_eq t.isLt N_0
  have hbb : ∀ l, View.ld (iblk m c 2 t) (Rect.unit ![1, 0] ![1, 1024] inb_S2x1024_S1x1024_1_0) (ix2 0 l)
      = m ((c : Thread nD τ).loc main_arg2) (ix2 1 l) := fun l => by pointwise; blk_ext [iblk, V, idx t]
  have hw : ∀ (i : Fin 2048) (j : Fin 1024), (show FVec Ideal S2048x1024 .bf16 from iblk m c 6 t) (ix2 i j)
      = m ((c : Thread nD τ).loc main_arg6) (ix2 i j) := fun i j => by blk_ext [iblk, V, idx t]
  have hs := (congrArg _ (eq_ix2 y)).trans
    (dpb_row _ _ _ _ _ _ (y 0) _ _ _ (y 1) (proj_block m c t _) hbb (dm_block m c t _) hw)
  by_cases h : t.val % 16 = 0
  · rw [outsAt0_A m c t h (by omega)]; dsimp only; frame_out; exact hs
  · rw [outsAt0_B m c t h (by omega)]; dsimp only; frame_out; exact hs

/-- The gate bias's gradient is the reference's. -/
theorem final_db : (dats m 0 c).arrAt 12 (cfgs 0).N
    = val_main_v54 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_after_last 12 t0_15 (by decide +kernel) _ fun j => ?_
  have ha : ∀ (t : Fin cfg0.N) l, View.ld (iblk m c 2 t) (Rect.unit ![0, 0] ![1, 1024] inb_S2x1024_S1x1024_0_0) (ix2 0 l)
      = m ((c : Thread nD τ).loc main_arg2) (ix2 0 l) := fun t l => by pointwise; blk_ext [iblk, V, idx t]
  have hb : ∀ (t : Fin cfg0.N) l, View.ld (iblk m c 2 t) (Rect.unit ![1, 0] ![1, 1024] inb_S2x1024_S1x1024_1_0) (ix2 0 l)
      = m ((c : Thread nD τ).loc main_arg2) (ix2 1 l) := fun t l => by pointwise; blk_ext [iblk, V, idx t]
  blk_simp
  rw [after0_12, Pipeline.eq_sum_fin_of_reset_step_apply_last (fun n h => (outsAt0 m c n h).2.2.2.2.2) 16 (fun _ => (0 : EReal)) (part m c)
    (fun t h j => by
      have hN := lt_of_lt_of_eq t.isLt N_0
      rw [outsAt0_A m c t h (by omega)]; frame_out; exact (part_eq m c t _ _ (ha t) (hb t) j).trans (zero_add (part m c t j)).symm)
    (fun t h j => by
      have hN := lt_of_lt_of_eq t.isLt N_0
      rw [outsAt0_B m c t h (by omega)]; frame_out; pointwise [k0_pay1]
      exact congrArg _ (part_eq m c t _ _ (ha t) (hb t) j))
    (le_of_eq N_0) t0_15 rfl j]
  exact (zero_add (_ : EReal)).trans (parts_eq m c j)

/-- The projection's gradient is the reference's in the gate columns, the columns this call writes. -/
theorem final_dg (i : S8192x10240.Idx) (hi : (i 1 : ℕ) < 2048) : (dats m 0 c).arrAt 7 (cfgs 0).N i
    = val_main_v65 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) i := by
  refine ((dats m 0 c).arrAt_apply_of_coversWhere 7 (val_main_v65 (F := Ideal) (m ((c : Thread nD τ).loc main_arg0)) (m ((c : Thread nD τ).loc main_arg1))
          (m ((c : Thread nD τ).loc main_arg2)) (m ((c : Thread nD τ).loc main_arg3)) (m ((c : Thread nD τ).loc main_arg4)))
       (P := fun i => (i 1 : ℕ) < 2048) (fun β => β (1 : Fin 2) < 1) (by decide +kernel) (fun t hf y => ?_)
    (fun j => by blk_simp [Pipeline.Window.cell_apply]; omega) i).trans (if_pos hi)
  have hN := lt_of_lt_of_eq t.isLt N_0
  have hba : ∀ l, View.ld (iblk m c 2 t) (Rect.unit ![0, 0] ![1, 1024] inb_S2x1024_S1x1024_0_0) (ix2 0 l)
      = m ((c : Thread nD τ).loc main_arg2) (ix2 0 l) := fun l => by pointwise; blk_ext [iblk, V, idx t]
  have hbb : ∀ l, View.ld (iblk m c 2 t) (Rect.unit ![1, 0] ![1, 1024] inb_S2x1024_S1x1024_1_0) (ix2 0 l)
      = m ((c : Thread nD τ).loc main_arg2) (ix2 1 l) := fun l => by pointwise; blk_ext [iblk, V, idx t]
  have ea : ∀ x : S512x1024.Idx, (y 0 : ℕ) = x 0 → (y 1 : ℕ) = x 1 →
      ((cfg0.win 7).blk t).view.emb y = ix2 (row t (x 0)) (⟨x 1, by have : (x 1 : ℕ) < 1024 := (x 1).isLt; omega⟩ : Fin 10240) := by
    intro x h0 h1; unfold row; blk_ext [idx t]
  have eb : ∀ x : S512x1024.Idx, (y 0 : ℕ) = x 0 → (y 1 : ℕ) = 1024 + x 1 →
      ((cfg0.win 7).blk t).view.emb y = ix2 (row t (x 0)) (⟨1024 + x 1, by have : (x 1 : ℕ) < 1024 := (x 1).isLt; omega⟩ : Fin 10240) := by
    intro x h0 h1; unfold row; blk_ext [idx t]
  have ga := fun x : S512x1024.Idx => (congrArg _ (eq_ix2 x)).trans
    (dga_row _ _ _ _ _ _ _ _ (x 0) (row t (x 0)) (x 1) (proj_block m c t _) hba (dm_block m c t _) (ya_block m c t _))
  have gb := fun x : S512x1024.Idx => (congrArg _ (eq_ix2 x)).trans
    (dgb_row _ _ _ _ _ _ _ _ (x 0) (row t (x 0)) (x 1) (proj_block m c t _) hbb (dm_block m c t _) (yb_block m c t _))
  suffices hs : ∀ (x : S512x1024.Idx), ((y 0 : ℕ) = x 0 → (y 1 : ℕ) = 1024 + x 1 →
        k0_pay12 (F := Ideal) (k0_pay5 (X0_1 m c t) (View.ld (iblk m c 2 t) (Rect.unit ![1, 0] ![1, 1024] inb_S2x1024_S1x1024_1_0)))
          (k0_pay9 (iblk m c 0 t) (iblk m c 4 t)) x = val_main_v65 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) (((cfg0.win 7).blk t).view.emb y))
      ∧ ((y 0 : ℕ) = x 0 → (y 1 : ℕ) = x 1 →
        k0_pay11 (F := Ideal) (k0_pay8 (iblk m c 0 t) (X0_1 m c t)
          (View.ld (iblk m c 2 t) (Rect.unit ![0, 0] ![1, 1024] inb_S2x1024_S1x1024_0_0)) (iblk m c 3 t)) x
          = val_main_v65 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) (((cfg0.win 7).blk t).view.emb y)) by
    blk_simp at hs ⊢; rw [after0_7]
    by_cases hc : t.val % 16 = 0
    · rw [outsAt0_A m c t hc (by omega)]; dsimp only; frame_out
      canon_tiles x h
      · exact (hs x).1 h0 h1
      · exact (hs x).2 h0 h1
    · rw [outsAt0_B m c t hc (by omega)]; dsimp only; frame_out
      canon_tiles x h
      · exact (hs x).1 h0 h1
      · exact (hs x).2 h0 h1
  refine fun x => ⟨fun h0 h1 => ?_, fun h0 h1 => ?_⟩
  · rw [eb x h0 h1, ref_dg_b _ _ _ _ _ _ _ (Nat.le_add_right 1024 (x 1))
        (Nat.add_lt_add_left (x 1).isLt 1024)]
    refine (gb x).trans (congrArg _ ?_)
    idx_ext
  · rw [ea x h0 h1, ref_dg_a _ _ _ _ _ _ _ (x 1).isLt]
    exact ga x

end results

end Cert.KernelIdeal.Merge

end

end
-- ==== Proof.MergeClaim.lean ====
/-
  The backward of the merge: the claim that the kernel's run and the reference's run leave the same results.
-/
module

public import proofs.«01_k».proof.Defs
public import proofs.«01_k».proof.Proof.MergeBwd
public import Idealize.ShloMosaic.Lib.Claim
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Gen.On_gate_columns

@[expose] public section

noncomputable section

namespace Cert.KernelIdeal.Merge

open Idealize.ShloMosaic Idealize.ShloMosaic.TcCoe Idealize.SL.Sem
open Cert.ReferenceIdeal.Read

/-- A small number read as a signed word compares below the mask's bound only if it is below it. -/
theorem lt_of_slt {n : Nat} (hn : n < 10240) (h : IntOp.cmpi .slt (BitVec.ofNat 32 n) 2048#32 = 1#1) : n < 2048 := by
  have hb : (BitVec.ofNat 32 n).slt 2048#32 = true := by
    by_contra hc
    rw [Bool.not_eq_true] at hc
    rw [show IntOp.cmpi .slt (BitVec.ofNat 32 n) 2048#32 = BitVec.ofBool ((BitVec.ofNat 32 n).slt 2048#32) from rfl, hc] at h
    exact absurd h (by decide)
  have h' := BitVec.slt_iff_toInt_lt.mp hb
  rw [BitVec.toInt_ofNat', Int.bmod_eq_of_le (by omega) (by omega)] at h'
  have h2 : (2048#32).toInt = 2048 := by decide
  omega

/-- Every run of the reference ends, with its arguments unchanged; it declares no semaphore. -/
theorem frame_ref : Cert.quiescent_ReferenceIdeal := by
  intro m ρ _
  exact (θ_run Cert.ReferenceIdeal.defs _ _).mono (fun r h => ⟨fun c => (h c).2.2.2.2.2.2,
    Idealize.ShloMosaic.sem_eq_zero_of_no_sems (by decide) r.2⟩) (Cert.ReferenceIdeal.Value.run m ρ)

/-- On every launch the two runs' results agree: the five gradients and the bias gradient everywhere, and the gradient of
    the shared projection on the 2048 gate columns that the call writes. -/
theorem algebraic : Cert.algebraic_KernelIdeal_ReferenceIdeal_on_gate_columns := by
  intro m g m' g' _ hagree
  refine ⟨
    fun c : Dev Cert.KernelIdeal.nD => val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)),
    fun c : Dev Cert.KernelIdeal.nD => val_main_v66 (F := Ideal) (m ((c : Thread nD τ).loc main_arg0)) (m ((c : Thread nD τ).loc main_arg1)) (m ((c : Thread nD τ).loc main_arg2)),
    fun c : Dev Cert.KernelIdeal.nD => val_main_v67 (F := Ideal) (m ((c : Thread nD τ).loc main_arg0)) (m ((c : Thread nD τ).loc main_arg1)) (m ((c : Thread nD τ).loc main_arg2)),
    fun c : Dev Cert.KernelIdeal.nD => val_main_v68 (F := Ideal) (m ((c : Thread nD τ).loc main_arg0)) (m ((c : Thread nD τ).loc main_arg1)) (m ((c : Thread nD τ).loc main_arg2)) (m ((c : Thread nD τ).loc main_arg5)),
    fun c : Dev Cert.KernelIdeal.nD => val_main_v69 (F := Ideal) (m ((c : Thread nD τ).loc main_arg0)) (m ((c : Thread nD τ).loc main_arg1)) (m ((c : Thread nD τ).loc main_arg2)) (m ((c : Thread nD τ).loc main_arg6)),
    fun c : Dev Cert.KernelIdeal.nD => val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)),
    ?_, ?_⟩
  · refine (θ_run Cert.KernelIdeal.defs _ _).mono (fun r h c => ?_) (Cert.KernelIdeal.Value.run_blocks m g)
    obtain ⟨h0, h1, h2, h3, h4, h5, hk⟩ := h c
    exact ⟨fun i hi => (congrFun h0 i).trans (final_dg m c i (lt_of_slt (i 1).isLt hi)),
      fun i _ => congrFun (h1.trans (final_dya m c)) i, fun i _ => congrFun (h2.trans (final_dyb m c)) i,
      fun i _ => congrFun (h3.trans (final_dpa m c)) i, fun i _ => congrFun (h4.trans (final_dpb m c)) i,
      fun i _ => congrFun (h5.trans (final_db m c)) i, hk⟩
  · refine (θ_run Cert.ReferenceIdeal.defs _ _).mono (fun r h c => ?_) (Cert.ReferenceIdeal.Value.run m' g')
    obtain ⟨h0, h1, h2, h3, h4, h5, hk⟩ := h c
    obtain ⟨e0, e1, e2, e3, e4, e5, e6⟩ := hagree c
    refine ⟨fun i _ => ?_, fun i _ => ?_, fun i _ => ?_, fun i _ => ?_, fun i _ => ?_, fun i _ => ?_, hk⟩
    · rw [h0, e0, e1, e2, e3, e4, val_main_v65_eq]
    · rw [h1, e0, e1, e2, val_main_v66_eq]
    · rw [h2, e0, e1, e2, val_main_v67_eq]
    · rw [h3, e0, e1, e2, e5, val_main_v68_eq]
    · rw [h4, e0, e1, e2, e6, val_main_v69_eq]
    · rw [h5, val_main_v54_eq, e0, e1, e2, e3, e4]

end Cert.KernelIdeal.Merge

end
-- ==== Proof.NormMath.lean ====
/- Hand-written, untrusted: the gradient of a root-mean-square norm over the extended reals, as a kernel writes it and as the
   derivative of the norm writes it. -/
module

public import Idealize.ShloMosaic.Lib.Pipeline.ValueKit
public import Idealize.ShloMosaic.Lib.Pointwise

@[expose] public section

noncomputable section

open Idealize.ShloMosaic

namespace Cert.NormMath

/-- The length of a row, as a float's word. -/
def len : EReal := Ideal.ofBits .f32 1149239296#32
/-- What is added under the root, as a float's word. -/
def eps : EReal := Ideal.ofBits .f32 925353388#32
/-- Minus one half, as a float's word. -/
def mhalf : EReal := Ideal.ofBits .f32 3204448256#32

theorem len_eq : len = ((1024 : ℝ) : EReal) := by
  unfold len; simp [Ideal.ofBits, Ideal.ieee, -EReal.coe_mul]; norm_num

theorem mhalf_eq : mhalf = ((-(1 / 2) : ℝ) : EReal) := by
  unfold mhalf; simp [Ideal.ofBits, Ideal.ieee, -EReal.coe_mul]; norm_num

/-- What is added under the root is a positive real. -/
theorem eps_eq : ∃ e : ℝ, 0 < e ∧ eps = (e : EReal) := by
  refine ⟨(10995116 : ℝ) * 2 ^ (-40 : Int), by positivity, ?_⟩
  unfold eps; simp [Ideal.ofBits, Ideal.ieee, -EReal.coe_mul]

/-- A square is not negative. -/
theorem sq_nonneg (x : EReal) : 0 ≤ x * x := by
  induction x with
  | bot => simp
  | top => simp
  | coe a => rw [← EReal.coe_mul]; exact EReal.coe_nonneg.2 (mul_self_nonneg a)

/-- A nonnegative real moves into a sum. -/
theorem mul_sum {n : ℕ} (a : ℝ) (ha : 0 ≤ a) (f : Fin n → EReal) : (a : EReal) * ∑ k, f k = ∑ k, (a : EReal) * f k := by
  induction n with
  | zero => simp
  | succ n ih =>
    rw [Fin.sum_univ_succ, Fin.sum_univ_succ, ← ih,
      EReal.left_distrib_of_nonneg_of_ne_top (EReal.coe_nonneg.2 ha) (EReal.coe_ne_top a)]

/-- Twice the product with a real is the product with twice the real. -/
theorem mul_add_self (y : EReal) (a : ℝ) : y * a + y * a = y * ((a + a : ℝ) : EReal) := by
  induction y with
  | coe b => rw [← EReal.coe_mul, ← EReal.coe_mul, ← EReal.coe_add, mul_add]
  | top =>
    rcases lt_trichotomy a 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy a 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

variable (x g : Fin 1024 → EReal)

/-- The mean square of a row, with what is added under the root. -/
def ms : EReal := Ideal.div (∑ k, x k * x k) len + eps
/-- One over the root mean square of a row. -/
def rs : EReal := Ideal.rsqrt (ms x)
/-- What the derivative gives to every element of the row through the mean, before the factor of that element. -/
def through : EReal := Ideal.div ((∑ k, x k * g k) * (mhalf * Ideal.div (rs x) (ms x))) len

/-- One element of the row's gradient: what the body computes is what the derivative of the norm is. Where the row holds an
    infinity the root mean square is infinite and both sides are zero. -/
theorem grad_row (l : Fin 1024) :
    rs x * (g l - x l * rs x * Ideal.div (∑ k, g k * (x k * rs x)) len)
      = g l * rs x + x l * through x g + through x g * x l := by
  obtain ⟨e, he, heps⟩ := eps_eq
  have hq : 0 ≤ ∑ k, x k * x k := Finset.sum_nonneg fun k _ => sq_nonneg _
  unfold through rs ms
  rw [len_eq, mhalf_eq, heps]
  simp only [Ideal.div_coe (show (1024 : ℝ) ≠ 0 by norm_num)]
  generalize ∑ k, x k * x k = q at hq
  induction q with
  | bot => exact absurd hq (by simp)
  | top =>
    have : (⊤ : EReal) * ((1 / 1024 : ℝ) : EReal) = ⊤ := EReal.top_mul_coe_of_pos (by norm_num)
    rw [this, EReal.top_add_coe, Ideal.rsqrt_top]
    simp [Ideal.div]
  | coe Q =>
    have hV : 0 < Q * (1 / 1024) + e := by have := EReal.coe_nonneg.1 hq; positivity
    rw [← EReal.coe_mul, ← EReal.coe_add]
    generalize Q * (1 / 1024) + e = V at hV
    rw [Ideal.rsqrt_coe, if_neg hV.not_gt, if_neg hV.ne']
    have hr : 0 < (√V)⁻¹ := inv_pos.2 (Real.sqrt_pos.2 hV)
    have hrr : (√V)⁻¹ * (√V)⁻¹ = 1 / V := by rw [← mul_inv, Real.mul_self_sqrt hV.le, one_div]
    generalize (√V)⁻¹ = r at hr hrr
    rw [Ideal.div_coe hV.ne']
    have hs : ∑ k, g k * (x k * r) = r * ∑ k, x k * g k := by
      rw [mul_sum r hr.le]; exact Finset.sum_congr rfl fun k _ => by rw [mul_comm (x k) (g k), ← mul_assoc, mul_comm]
    rw [hs]
    generalize ∑ k, x k * g k = S
    have h1 : (r : EReal) * (x l * r * (r * S * ((1 / 1024 : ℝ) : EReal))) = x l * S * ((r * r * r * (1 / 1024) : ℝ) : EReal) := by
      simp only [EReal.coe_mul]; ac_rfl
    have h2 : x l * (S * (((-(1 / 2) : ℝ) : EReal) * ((r : EReal) * ((1 / V : ℝ) : EReal))) * ((1 / 1024 : ℝ) : EReal))
        = x l * S * ((-(1 / 2) * (r * (1 / V)) * (1 / 1024) : ℝ) : EReal) := by
      simp only [EReal.coe_mul]; ac_rfl
    rw [sub_eq_add_neg, EReal.left_distrib_of_nonneg_of_ne_top (EReal.coe_nonneg.2 hr.le) (EReal.coe_ne_top r),
      mul_neg, h1, mul_comm _ (x l), h2, add_assoc, mul_add_self, ← mul_neg, ← EReal.coe_neg, mul_comm (g l), ← hrr]
    congr 3
    ring

end Cert.NormMath

end

end
-- ==== Proof.Shift.lean ====
/- Hand-written, untrusted: a product with a matrix of ones on one diagonal moves the rows of what it multiplies, over the extended
   reals, where zero times anything is zero. -/
module

public import Idealize.ShloMosaic.Lib.Pipeline.ValueKit
public import Idealize.ShloMosaic.Lib.Pointwise

@[expose] public section

noncomputable section

open Idealize.ShloMosaic

namespace Cert.Shift

/-- The sum over a row that holds a one at one place is what stands there. -/
theorem pick (p : ℕ) (hp : p < 128) (w f : Fin 128 → EReal) (hw : ∀ k : Fin 128, w k = if k.val = p then 1 else 0) :
    ∑ k, w k * f k = f ⟨p, hp⟩ := by
  rw [Finset.sum_eq_single ⟨p, hp⟩ (fun k _ hk => by rw [hw, if_neg fun h => hk (Fin.ext h), zero_mul])
    (fun h => absurd (Finset.mem_univ _) h), hw, if_pos rfl, one_mul]

end Cert.Shift

end

end
-- ==== Proof.GradMath.lean ====
/- Hand-written, untrusted: the numbers of a chip's cores and of the chips, and the sums over them. -/
module

public import Idealize.ShloMosaic.Lib.Pipeline.ValueKit
public import Idealize.ShloMosaic.Lib.Pointwise

@[expose] public section

noncomputable section

open Idealize.ShloMosaic

namespace Cert.GradMath

/-- Two numbers added up. -/
def add2 (a b : EReal) : EReal := a + b

/-- Four numbers added up. -/
def add4 (a b c d : EReal) : EReal := a + b + c + d

/-- An array of one element has one index. -/
theorem eq_first (z : Shape.Idx ⟨1, ![1]⟩) : z = ix1 0 := by
  funext (a : Fin 1)
  obtain rfl := Subsingleton.elim a 0
  exact Fin.ext (by have : (z 0).val < 1 := (z 0).isLt; show (z 0).val = 0; omega)

section
variable {q : BitVec 32}

/-- The number of a core of a chip. -/
abbrev Two (q : BitVec 32) : Prop := q = 0#32 ∨ q = 1#32

/-- The number of a chip. -/
abbrev Four (q : BitVec 32) : Prop := q = 0#32 ∨ q = 1#32 ∨ q = 2#32 ∨ q = 3#32

/-- A core's number as an index of the two halves. -/
def half (h : Two q) : Fin 2 := ⟨q.toNat, by rcases h with rfl | rfl <;> decide⟩

theorem half_eq (h : Two q) : BitVec.ofNat 32 (half h).val = q := by rcases h with rfl | rfl <;> rfl

/-- A chip's number as an index of the shares. -/
def share (h : Four q) : Fin 4 := ⟨q.toNat, by rcases h with rfl | rfl | rfl | rfl <;> decide⟩

theorem share_eq (h : Four q) : BitVec.ofNat 32 (share h).val = q := by rcases h with rfl | rfl | rfl | rfl <;> rfl

variable (q)

/-- A number's range read off the comparisons of a precondition. -/
theorem range (n : BitVec 32) (h : IntOp.andi (IntOp.cmpi .sge q 0#32) (IntOp.cmpi .slt q n) = 1#1) :
    0 ≤ q.toInt ∧ q.toInt < n.toInt := by
  have hb : (0#32).sle q = true ∧ q.slt n = true := by
    revert h
    show BitVec.ofBool ((0#32).sle q) &&& BitVec.ofBool (q.slt n) = 1#1 → _
    cases (0#32).sle q <;> cases q.slt n <;> decide
  exact ⟨BitVec.sle_iff_toInt_le.1 hb.1, BitVec.slt_iff_toInt_lt.1 hb.2⟩

theorem two (h : IntOp.andi (IntOp.cmpi .sge q 0#32) (IntOp.cmpi .slt q 2#32) = 1#1) : Two q := by
  obtain ⟨h0, h2⟩ := range q _ h
  have h2 : q.toInt < 2 := h2
  have e : q = BitVec.ofInt 32 q.toInt := BitVec.ofInt_toInt.symm
  generalize q.toInt = z at *
  interval_cases z <;> subst e <;> decide

theorem four (h : IntOp.andi (IntOp.cmpi .sge q 0#32) (IntOp.cmpi .slt q 4#32) = 1#1) : Four q := by
  obtain ⟨h0, h4⟩ := range q _ h
  have h4 : q.toInt < 4 := h4
  have e : q = BitVec.ofInt 32 q.toInt := BitVec.ofInt_toInt.symm
  generalize q.toInt = z at *
  interval_cases z <;> subst e <;> decide

end

end Cert.GradMath

end

end
-- ==== Proof.FfnUp.lean ====
/- Hand-written, untrusted: the product `ffn_up` over the extended reals. -/
module

public import proofs.«01_k».proof.Defs
public import proofs.«01_k».proof.Proof.Gen.Kernel2Ideal.Frame
public import proofs.«01_k».proof.Proof.Gen.Reference2Ideal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Product

open Cert.Kernel2Ideal Cert.Kernel2Ideal.Gen

variable (m : (ℓ : Loc nD τ sig) → Buf (Elt Ideal) ℓ)

/-- The block of every window at every grid point: point `t` computes row block `t % 8` of column block `t / 8`. -/
theorem idx : ∀ t : Fin cfg0.N, win0_0.index t = ![t.val % 8, 0] ∧ win0_1.index t = ![t.val / 8, 0]
    ∧ win0_2.index t = ![t.val % 8, t.val / 8] :=
  (by decide +kernel : ∀ t : Fin grid0.N, _)

/-- The reference's result: the rows of the first argument times the rows of the second. -/
def result (a : FVec Ideal S8192x1024 .bf16) (b : FVec Ideal S5632x1024 .bf16) : FVec Ideal S8192x5632 .bf16 :=
  truncf .bf16 (Host.dotGeneral Cert.Reference2Ideal.dot_S8192x1024_S1024x5632_S8192x5632_1_0_0_1_n_n none
    (extf .f32 a Cert.Reference2Ideal.Facts₀.bitsLt_bf16_f32)
    (transpose Cert.Reference2Ideal.S1024x5632 [1, 0] (extf .f32 b Cert.Reference2Ideal.Facts₀.bitsLt_bf16_f32)
      Cert.Reference2Ideal.Facts₀.transposes_S5632x1024_S1024x5632_1_0)) Cert.Reference2Ideal.Facts₀.bitsLt_bf16_f32

/-- A block's product at an element is the whole product at the element's place, the blocks being the arrays' there. -/
theorem block (x0 : FVec Ideal S1024x1024 .bf16) (x1 : FVec Ideal S2816x1024 .bf16) (a : FVec Ideal S8192x1024 .bf16)
    (b : FVec Ideal S5632x1024 .bf16) (r : Fin 1024) (l : Fin 2816) (R : Fin 8192) (L : Fin 5632)
    (h0 : ∀ k, x0 (ix2 r k) = a (ix2 R k)) (h1 : ∀ k, x1 (ix2 l k) = b (ix2 L k)) :
    k0_pay1 (F := Ideal) x0 x1 (ix2 r l) = result a b (ix2 R L) := by
  pointwise [k0_pay1, result, h0, h1]

theorem final (c : Dev nD) : (dats m 0 c).arrAt 2 (cfgs 0).N
    = result (m ((c : Thread nD τ).loc main_arg0)) (m ((c : Thread nD τ).loc main_arg1)) := by
  refine (dats m 0 c).arrAt_eq_of_covers 2 _ (by decide +kernel) fun t hf y => ?_
  have hN := lt_of_lt_of_eq t.isLt N_0
  have y0 : (y 0 : ℕ) < 1024 := (y 0).isLt
  have y1 : (y 1 : ℕ) < 2816 := (y 1).isLt
  have e : ((cfg0.win 2).blk t).view.emb y = ix2 (⟨t.val % 8 * 1024 + y 0, by omega⟩ : Fin 8192)
      (⟨t.val / 8 * 2816 + y 1, by omega⟩ : Fin 5632) := by blk_ext [idx t]
  rw [e]
  blk_simp; rw [after0_2]; unfold out0_2; frame_out
  refine (congrArg _ (eq_ix2 y)).trans (block _ _ _ _ (y 0) (y 1) _ _ (fun k => ?_) fun k => ?_) <;>
    blk_ext [iblk, V, idx t]

/-- The kernel's run and the reference's leave the same product. -/
theorem algebraic : Cert.algebraic_Kernel2Ideal_Reference2Ideal := by
  pair_intro
  · run_from Cert.Kernel2Ideal.Gen.run_main m g
  · hlo_run
    exact (final m c).symm

end Cert.Kernel2Ideal.Product

end
-- ==== Proof.FfnDown.lean ====
/- Hand-written, untrusted: the product `ffn_down`, with the residual added, over the extended reals. -/
module

public import proofs.«01_k».proof.Defs
public import proofs.«01_k».proof.Proof.Gen.Kernel3Ideal.Frame
public import proofs.«01_k».proof.Proof.Gen.Reference3Ideal
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel3Ideal.Product

open Cert.Kernel3Ideal Cert.Kernel3Ideal.Gen

variable (m : (ℓ : Loc nD τ sig) → Buf (Elt Ideal) ℓ)

/-- The block of every window at every grid point: point `t` computes row block `t` with the whole weight. -/
theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

/-- The reference's result. -/
def result (a : FVec Ideal S8192x2816 .bf16) (b : FVec Ideal S2816x1024 .bf16) (z : FVec Ideal S8192x1024 .f32) : FVec Ideal S8192x1024 .f32 :=
  addf z (Host.dotGeneral Cert.Reference3Ideal.dot_S8192x2816_S2816x1024_S8192x1024_1_0_0_1_n_n none (extf .f32 a Cert.Reference3Ideal.Facts₀.bitsLt_bf16_f32) (extf .f32 b Cert.Reference3Ideal.Facts₀.bitsLt_bf16_f32))

/-- A block's product at an element is the whole product at the element's place, the blocks being the arrays' there. -/
theorem block (x0 : FVec Ideal S1024x2816 .bf16) (x1 : FVec Ideal S2816x1024 .bf16) (x2 : FVec Ideal S1024x1024 .f32) (a : FVec Ideal S8192x2816 .bf16)
    (b : FVec Ideal S2816x1024 .bf16) (z : FVec Ideal S8192x1024 .f32) (r : Fin 1024) (l : Fin 1024) (R : Fin 8192)
    (h0 : ∀ k, x0 (ix2 r k) = a (ix2 R k)) (h1 : ∀ k, x1 (ix2 k l) = b (ix2 k l)) (h2 : x2 (ix2 r l) = z (ix2 R l)) :
    k0_pay1 (F := Ideal) x0 x1 x2 (ix2 r l) = result a b z (ix2 R l) := by
  pointwise [k0_pay1, result, h0, h1, h2]
  exact add_comm _ _

/-- The result array is the reference's. -/
theorem final (c : Dev nD) : (dats m 0 c).arrAt 3 (cfgs 0).N
    = result (m ((c : Thread nD τ).loc main_arg0)) (m ((c : Thread nD τ).loc main_arg1)) (m ((c : Thread nD τ).loc main_arg2)) := by
  refine (dats m 0 c).arrAt_eq_of_covers 3 _ (by decide +kernel) fun t hf y => ?_
  have hN := lt_of_lt_of_eq t.isLt N_0
  have y0 : (y 0 : ℕ) < 1024 := (y 0).isLt
  have e : ((cfg0.win 3).blk t).view.emb y = ix2 (⟨t.val * 1024 + y 0, by omega⟩ : Fin 8192) (y 1) := by
    blk_ext [idx t]
  rw [e]
  blk_simp; rw [after0_3]; unfold out0_3; frame_out
  refine (congrArg _ (eq_ix2 y)).trans (block _ _ _ _ _ _ (y 0) (y 1) _ (fun k => ?_) (fun k => ?_) ?_) <;>
    blk_ext [iblk, V, idx t]

/-- The kernel's run and the reference's leave the same product. -/
theorem algebraic : Cert.algebraic_Kernel3Ideal_Reference3Ideal := by
  pair_intro
  · run_from Cert.Kernel3Ideal.Gen.run_main m g
  · hlo_run
    exact (final m c).symm

end Cert.Kernel3Ideal.Product

end
-- ==== Proof.FfnDownDx.lean ====
/- Hand-written, untrusted: the product `ffn_down_dx` over the extended reals. -/
module

public import proofs.«01_k».proof.Defs
public import proofs.«01_k».proof.Proof.Gen.Kernel4Ideal.Frame
public import proofs.«01_k».proof.Proof.Gen.Reference4Ideal
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel4Ideal.Product

open Cert.Kernel4Ideal Cert.Kernel4Ideal.Gen

variable (m : (ℓ : Loc nD τ sig) → Buf (Elt Ideal) ℓ)

/-- The block of every window at every grid point: point `t` computes row block `t` with the whole weight. -/
theorem idx : ∀ t : Fin cfg0.N, win0_0.index t = ![t.val, 0] ∧ win0_1.index t = ![0, 0]
    ∧ win0_2.index t = ![t.val, 0] :=
  (by decide +kernel : ∀ t : Fin grid0.N, _)

/-- The reference's result. -/
def result (a : FVec Ideal S8192x1024 .f32) (b : FVec Ideal S2816x1024 .bf16) : FVec Ideal S8192x2816 .bf16 :=
  truncf .bf16 (Host.dotGeneral Cert.Reference4Ideal.dot_S8192x1024_S2816x1024_S8192x2816_1_1_0_0_n_n none a (extf .f32 b Cert.Reference4Ideal.Facts₀.bitsLt_bf16_f32)) Cert.Reference4Ideal.Facts₀.bitsLt_bf16_f32

/-- A block's product at an element is the whole product at the element's place, the blocks being the arrays' there. -/
theorem block (x0 : FVec Ideal S1024x1024 .f32) (x1 : FVec Ideal S2816x1024 .bf16) (a : FVec Ideal S8192x1024 .f32)
    (b : FVec Ideal S2816x1024 .bf16) (r : Fin 1024) (l : Fin 2816) (R : Fin 8192)
    (h0 : ∀ k, x0 (ix2 r k) = a (ix2 R k)) (h1 : ∀ k, x1 (ix2 l k) = b (ix2 l k)) :
    k0_pay1 (F := Ideal) x0 x1 (ix2 r l) = result a b (ix2 R l) := by
  pointwise [k0_pay1, result, h0, h1]

/-- The result array is the reference's. -/
theorem final (c : Dev nD) : (dats m 0 c).arrAt 2 (cfgs 0).N
    = result (m ((c : Thread nD τ).loc main_arg0)) (m ((c : Thread nD τ).loc main_arg1)) := by
  refine (dats m 0 c).arrAt_eq_of_covers 2 _ (by decide +kernel) fun t hf y => ?_
  have hN := lt_of_lt_of_eq t.isLt N_0
  have y0 : (y 0 : ℕ) < 1024 := (y 0).isLt
  have e : ((cfg0.win 2).blk t).view.emb y = ix2 (⟨t.val * 1024 + y 0, by omega⟩ : Fin 8192) (y 1) := by
    blk_ext [idx t]
  rw [e]
  blk_simp; rw [after0_2]; unfold out0_2; frame_out
  refine (congrArg _ (eq_ix2 y)).trans (block _ _ _ _ (y 0) (y 1) _ (fun k => ?_) (fun k => ?_)) <;>
    blk_ext [iblk, V, idx t]

/-- The kernel's run and the reference's leave the same product. -/
theorem algebraic : Cert.algebraic_Kernel4Ideal_Reference4Ideal := by
  pair_intro
  · run_from Cert.Kernel4Ideal.Gen.run_main m g
  · hlo_run
    exact (final m c).symm

end Cert.Kernel4Ideal.Product

end
-- ==== Proof.OutProj.lean ====
/- Hand-written, untrusted: the product `out_proj`, with the residual added, over the extended reals. -/
module

public import proofs.«01_k».proof.Defs
public import proofs.«01_k».proof.Proof.Gen.Kernel5Ideal.Frame
public import proofs.«01_k».proof.Proof.Gen.Reference5Ideal
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel5Ideal.Product

open Cert.Kernel5Ideal Cert.Kernel5Ideal.Gen

variable (m : (ℓ : Loc nD τ sig) → Buf (Elt Ideal) ℓ)

/-- The block of every window at every grid point: point `t` computes row block `t` with the whole weight. -/
theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

/-- The reference's result. -/
def result (a : FVec Ideal S8192x1024 .bf16) (b : FVec Ideal S1024x1024 .bf16) (z : FVec Ideal S8192x1024 .f32) : FVec Ideal S8192x1024 .f32 :=
  addf z (Host.dotGeneral Cert.Reference5Ideal.dot_S8192x1024_S1024x1024_S8192x1024_1_0_0_1_n_n none (extf .f32 a Cert.Reference5Ideal.Facts₀.bitsLt_bf16_f32) (extf .f32 b Cert.Reference5Ideal.Facts₀.bitsLt_bf16_f32))

/-- A block's product at an element is the whole product at the element's place, the blocks being the arrays' there. -/
theorem block (x0 : FVec Ideal S1024x1024 .bf16) (x1 : FVec Ideal S1024x1024 .bf16) (x2 : FVec Ideal S1024x1024 .f32) (a : FVec Ideal S8192x1024 .bf16)
    (b : FVec Ideal S1024x1024 .bf16) (z : FVec Ideal S8192x1024 .f32) (r : Fin 1024) (l : Fin 1024) (R : Fin 8192)
    (h0 : ∀ k, x0 (ix2 r k) = a (ix2 R k)) (h1 : ∀ k, x1 (ix2 k l) = b (ix2 k l)) (h2 : x2 (ix2 r l) = z (ix2 R l)) :
    k0_pay1 (F := Ideal) x0 x1 x2 (ix2 r l) = result a b z (ix2 R l) := by
  pointwise [k0_pay1, result, h0, h1, h2]
  exact add_comm _ _

/-- The result array is the reference's. -/
theorem final (c : Dev nD) : (dats m 0 c).arrAt 3 (cfgs 0).N
    = result (m ((c : Thread nD τ).loc main_arg0)) (m ((c : Thread nD τ).loc main_arg1)) (m ((c : Thread nD τ).loc main_arg2)) := by
  refine (dats m 0 c).arrAt_eq_of_covers 3 _ (by decide +kernel) fun t hf y => ?_
  have hN := lt_of_lt_of_eq t.isLt N_0
  have y0 : (y 0 : ℕ) < 1024 := (y 0).isLt
  have e : ((cfg0.win 3).blk t).view.emb y = ix2 (⟨t.val * 1024 + y 0, by omega⟩ : Fin 8192) (y 1) := by
    blk_ext [idx t]
  rw [e]
  blk_simp; rw [after0_3]; unfold out0_3; frame_out
  refine (congrArg _ (eq_ix2 y)).trans (block _ _ _ _ _ _ (y 0) (y 1) _ (fun k => ?_) (fun k => ?_) ?_) <;>
    blk_ext [iblk, V, idx t]

/-- The kernel's run and the reference's leave the same product. -/
theorem algebraic : Cert.algebraic_Kernel5Ideal_Reference5Ideal := by
  pair_intro
  · run_from Cert.Kernel5Ideal.Gen.run_main m g
  · hlo_run
    exact (final m c).symm

end Cert.Kernel5Ideal.Product

end
-- ==== Proof.OutProjDx.lean ====
/- Hand-written, untrusted: the product `out_proj_dx` over the extended reals. -/
module

public import proofs.«01_k».proof.Defs
public import proofs.«01_k».proof.Proof.Gen.Kernel6Ideal.Frame
public import proofs.«01_k».proof.Proof.Gen.Reference6Ideal
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel6Ideal.Product

open Cert.Kernel6Ideal Cert.Kernel6Ideal.Gen

variable (m : (ℓ : Loc nD τ sig) → Buf (Elt Ideal) ℓ)

/-- The block of every window at every grid point: point `t` computes row block `t` with the whole weight. -/
theorem idx : ∀ t : Fin cfg0.N, win0_0.index t = ![t.val, 0] ∧ win0_1.index t = ![0, 0]
    ∧ win0_2.index t = ![t.val, 0] :=
  (by decide +kernel : ∀ t : Fin grid0.N, _)

/-- The reference's result. -/
def result (a : FVec Ideal S8192x1024 .f32) (b : FVec Ideal S1024x1024 .bf16) : FVec Ideal S8192x1024 .bf16 :=
  truncf .bf16 (Host.dotGeneral Cert.Reference6Ideal.dot_S8192x1024_S1024x1024_S8192x1024_1_1_0_0_n_n none a (extf .f32 b Cert.Reference6Ideal.Facts₀.bitsLt_bf16_f32)) Cert.Reference6Ideal.Facts₀.bitsLt_bf16_f32

/-- A block's product at an element is the whole product at the element's place, the blocks being the arrays' there. -/
theorem block (x0 : FVec Ideal S1024x1024 .f32) (x1 : FVec Ideal S1024x1024 .bf16) (a : FVec Ideal S8192x1024 .f32)
    (b : FVec Ideal S1024x1024 .bf16) (r : Fin 1024) (l : Fin 1024) (R : Fin 8192)
    (h0 : ∀ k, x0 (ix2 r k) = a (ix2 R k)) (h1 : ∀ k, x1 (ix2 l k) = b (ix2 l k)) :
    k0_pay1 (F := Ideal) x0 x1 (ix2 r l) = result a b (ix2 R l) := by
  pointwise [k0_pay1, result, h0, h1]

/-- The result array is the reference's. -/
theorem final (c : Dev nD) : (dats m 0 c).arrAt 2 (cfgs 0).N
    = result (m ((c : Thread nD τ).loc main_arg0)) (m ((c : Thread nD τ).loc main_arg1)) := by
  refine (dats m 0 c).arrAt_eq_of_covers 2 _ (by decide +kernel) fun t hf y => ?_
  have hN := lt_of_lt_of_eq t.isLt N_0
  have y0 : (y 0 : ℕ) < 1024 := (y 0).isLt
  have e : ((cfg0.win 2).blk t).view.emb y = ix2 (⟨t.val * 1024 + y 0, by omega⟩ : Fin 8192) (y 1) := by
    blk_ext [idx t]
  rw [e]
  blk_simp; rw [after0_2]; unfold out0_2; frame_out
  refine (congrArg _ (eq_ix2 y)).trans (block _ _ _ _ (y 0) (y 1) _ (fun k => ?_) (fun k => ?_)) <;>
    blk_ext [iblk, V, idx t]

/-- The kernel's run and the reference's leave the same product. -/
theorem algebraic : Cert.algebraic_Kernel6Ideal_Reference6Ideal := by
  pair_intro
  · run_from Cert.Kernel6Ideal.Gen.run_main m g
  · hlo_run
    exact (final m c).symm

end Cert.Kernel6Ideal.Product

end
-- ==== Proof.FfnUpDx.lean ====
/- Hand-written, untrusted: the product `ffn_up_dx` over the extended reals. -/
module

public import proofs.«01_k».proof.Defs
public import proofs.«01_k».proof.Proof.Gen.Kernel7Ideal.Frame
public import proofs.«01_k».proof.Proof.Gen.Reference7Ideal
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel7Ideal.Product

open Cert.Kernel7Ideal Cert.Kernel7Ideal.Gen

variable (m : (ℓ : Loc nD τ sig) → Buf (Elt Ideal) ℓ)

/-- The block of every window at every grid point: each block of rows takes the contraction in two halves. -/
theorem idx : ∀ t : Fin cfg0.N, win0_0.index t = ![t.val / 2, t.val % 2] ∧ win0_1.index t = ![t.val % 2, 0]
    ∧ win0_2.index t = ![t.val / 2, 0] :=
  (by decide +kernel : ∀ t : Fin grid0.N, _)

/-- The reference's result: the gradient's rows against the columns of the weight. -/
def result (a : FVec Ideal S8192x5632 .bf16) (b : FVec Ideal S5632x1024 .bf16) : FVec Ideal S8192x1024 .f32 :=
  Host.dotGeneral Cert.Reference7Ideal.dot_S8192x5632_S1024x5632_S8192x1024_1_1_0_0_n_n none (extf .f32 a Cert.Reference7Ideal.Facts₀.bitsLt_bf16_f32)
    (transpose Cert.Reference7Ideal.S1024x5632 [1, 0] (extf .f32 b Cert.Reference7Ideal.Facts₀.bitsLt_bf16_f32) Cert.Reference7Ideal.Facts₀.transposes_S5632x1024_S1024x5632_1_0)

/-- The half `s` of an element's sum. -/
def half (a : FVec Ideal S8192x5632 .bf16) (b : FVec Ideal S5632x1024 .bf16) (R : Fin 8192) (l : Fin 1024) (s : Fin 2) : EReal :=
  ∑ k : Fin 2816, a (ix2 R (⟨s * 2816 + k, by omega⟩ : Fin 5632)) * b (ix2 (⟨s * 2816 + k, by omega⟩ : Fin 5632) l)

/-- The reference's element is its two halves. -/
theorem result_halves (a : FVec Ideal S8192x5632 .bf16) (b : FVec Ideal S5632x1024 .bf16) (R : Fin 8192) (l : Fin 1024) :
    result a b (ix2 R l) = half a b R l 0 + half a b R l 1 := by
  rw [← Fin.sum_univ_two (half a b R l)]
  pointwise [result]
  exact (Fin.sum_mul_add_congr fun s k hl => rfl).symm

/-- A block's product at an element is the element's half there, the blocks being the arrays' there. -/
theorem block (x0 : FVec Ideal S1024x2816 .bf16) (x1 : FVec Ideal S2816x1024 .bf16) (a : FVec Ideal S8192x5632 .bf16)
    (b : FVec Ideal S5632x1024 .bf16) (r : Fin 1024) (l : Fin 1024) (R : Fin 8192) (s : Fin 2)
    (h0 : ∀ k : Fin 2816, x0 (ix2 r k) = a (ix2 R (⟨s * 2816 + k, by omega⟩ : Fin 5632)))
    (h1 : ∀ k : Fin 2816, x1 (ix2 k l) = b (ix2 (⟨s * 2816 + k, by omega⟩ : Fin 5632) l)) :
    k0_pay1 (F := Ideal) x0 x1 (ix2 r l) = half a b R l s := by
  pointwise [k0_pay1, half, h0, h1]

/-- The product of the blocks of a grid point is its half of the sum. -/
theorem product (c : Dev nD) (t : Fin cfg0.N) (y : S1024x1024.Idx) (s : Fin 2) (R : Fin 8192) (h : t.val % 2 = s)
    (hR : R.val = t.val / 2 * 1024 + y 0) :
    k0_pay1 (F := Ideal) (iblk m c 0 t) (iblk m c 1 t) y
      = half (m ((c : Thread nD τ).loc main_arg0)) (m ((c : Thread nD τ).loc main_arg1)) R (y 1) s := by
  refine (congrArg _ (eq_ix2 y)).trans (block _ _ _ _ (y 0) (y 1) R s (fun k => ?_) fun k => ?_) <;>
    blk_ext [iblk, V, idx t]

/-- The point before. -/
def prev (t : Fin cfg0.N) : Fin cfg0.N := ⟨t.val - 1, lt_of_le_of_lt (Nat.sub_le _ _) t.isLt⟩

theorem prev_val (t : Fin cfg0.N) : (prev t).val = t.val - 1 := rfl

/-- The even points leave their product in the accumulator. -/
theorem scratch_even (c : Dev nD) (t : Fin cfg0.N) (h : t.val % 2 = 0) (y : S1024x1024.Idx) :
    (outsAt0 m c t.val t.isLt).2 y = k0_pay1 (F := Ideal) (iblk m c 0 t) (iblk m c 1 t) y := by
  rw [outsAt0_A m c t h (by omega)]; dsimp only; frame_out
  pointwise [k0_pay2]

/-- The odd points leave the accumulator and their product in the result's block. -/
theorem out_odd (c : Dev nD) (t : Fin cfg0.N) (h : t.val % 2 = 1) (y : S1024x1024.Idx) :
    (outsAt0 m c t.val t.isLt).1 y = (outsAt0 m c (prev t).val (prev t).isLt).2 y
      + k0_pay1 (F := Ideal) (iblk m c 0 t) (iblk m c 1 t) y := by
  rw [outsAt0_B m c t (by omega) h]; dsimp only; frame_out
  pointwise [k0_pay4]
  exact congrArg (· + k0_pay1 (F := Ideal) _ _ y) (congrFun (read_unread_whole cc0_scratch0 _ _) y)

/-- The result array is the reference's. -/
theorem final (c : Dev nD) : (dats m 0 c).arrAt 2 (cfgs 0).N
    = result (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  have hN := lt_of_lt_of_eq t.isLt N_0
  have y0 : (y 0 : ℕ) < 1024 := (y 0).isLt
  have e : ((cfg0.win 2).blk t).view.emb y = ix2 (⟨t.val / 2 * 1024 + y 0, by omega⟩ : Fin 8192) (y 1) := by
    blk_ext [idx t]
  rw [e]
  blk_simp; rw [after0_2]
  refine Eq.trans ?_ (result_halves _ _ _ _).symm
  rw [out_odd m c t h1, scratch_even m c (prev t) (by rw [prev_val]; omega)]
  refine congr (congrArg HAdd.hAdd ?_) ?_
  · exact product m c _ y _ _ (by simp only [prev_val]; omega) (by simp only [prev_val]; omega)
  · exact product m c _ y _ _ h1 rfl

/-- The kernel's run and the reference's leave the same product. -/
theorem algebraic : Cert.algebraic_Kernel7Ideal_Reference7Ideal := by
  pair_intro
  · run_from Cert.Kernel7Ideal.Gen.run_main m g
  · hlo_run
    exact (final m c).symm

end Cert.Kernel7Ideal.Product

end
-- ==== Proof.FfnUpDw.lean ====
/- Hand-written, untrusted: the product `ffn_up_dw` over the extended reals. -/
module

public import proofs.«01_k».proof.Defs
public import proofs.«01_k».proof.Proof.Gen.Kernel8Ideal.Frame
public import proofs.«01_k».proof.Proof.Gen.Reference8Ideal.Run
public import proofs.«01_k».proof.Proof.Gen.Reference8Ideal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel8Ideal.Product

open Cert.Kernel8Ideal Cert.Kernel8Ideal.Gen

variable (m : (ℓ : Loc nD τ sig) → Buf (Elt Ideal) ℓ)

/-- The block of every window at every grid point: the rows are taken in four blocks, one after the other, for each block
    of the result. -/
theorem idx : ∀ t : Fin cfg0.N, win0_0.index t = ![t.val % 4, t.val / 4] ∧ win0_1.index t = ![t.val % 4, 0]
    ∧ win0_2.index t = ![t.val / 4 % 2 * 2 + t.val / 4 / 2, 0] :=
  (by decide +kernel : ∀ t : Fin grid0.N, _)

/-- The columns of the incoming gradient in the order of the weight's rows. -/
def ordered (a : FVec Ideal S8192x5632 .bf16) : FVec Ideal S8192x5632 .f32 :=
  concatenate Cert.Reference8Ideal.S8192x5632 1 [⟨Cert.Reference8Ideal.S8192x1408, extractStridedSlice Cert.Reference8Ideal.S8192x1408 ![0, 0] (extf .f32 a Cert.Reference8Ideal.Facts₀.bitsLt_bf16_f32) Cert.Reference8Ideal.Facts₀.slices_S8192x5632_S8192x1408_0_0⟩,
    ⟨Cert.Reference8Ideal.S8192x1408, extractStridedSlice Cert.Reference8Ideal.S8192x1408 ![0, 2816] (extf .f32 a Cert.Reference8Ideal.Facts₀.bitsLt_bf16_f32) Cert.Reference8Ideal.Facts₀.slices_S8192x5632_S8192x1408_0_2816⟩,
    ⟨Cert.Reference8Ideal.S8192x1408, extractStridedSlice Cert.Reference8Ideal.S8192x1408 ![0, 1408] (extf .f32 a Cert.Reference8Ideal.Facts₀.bitsLt_bf16_f32) Cert.Reference8Ideal.Facts₀.slices_S8192x5632_S8192x1408_0_1408⟩,
    ⟨Cert.Reference8Ideal.S8192x1408, extractStridedSlice Cert.Reference8Ideal.S8192x1408 ![0, 4224] (extf .f32 a Cert.Reference8Ideal.Facts₀.bitsLt_bf16_f32) Cert.Reference8Ideal.Facts₀.slices_S8192x5632_S8192x1408_0_4224⟩]
    Cert.Reference8Ideal.Facts₀.concatenates_S8192x1408_S8192x1408_S8192x1408_S8192x1408_S8192x5632_d1

/-- Block `q` of the ordered columns is block `q % 2 * 2 + q / 2` of the columns as they come. -/
theorem ordered_apply (a : FVec Ideal S8192x5632 .bf16) (s : Fin 8192) (R S : Fin 5632) (q r : ℕ) (hr : r < 1408)
    (hR : R.val = (q % 2 * 2 + q / 2) * 1408 + r) (hS : S.val = q * 1408 + r) :
    ordered a (ix2 s R) = a (ix2 s S) := by
  pointwise [ordered]
  split_ifs <;> exact congrArg a (congrArg (ix2 s) (Fin.ext (by (try dsimp only); omega)))

/-- The reference's result: the columns of the first argument against those of the second, summed over the rows. -/
def result (a : FVec Ideal S8192x5632 .bf16) (b : FVec Ideal S8192x1024 .bf16) : FVec Ideal S5632x1024 .bf16 :=
  truncf .bf16 (transpose Cert.Reference8Ideal.S5632x1024 [1, 0] (transpose Cert.Reference8Ideal.S1024x5632 [1, 0]
    (Host.dotGeneral Cert.Reference8Ideal.dot_S8192x5632_S8192x1024_S5632x1024_0_0_1_1_n_n none (ordered a) (extf .f32 b Cert.Reference8Ideal.Facts₀.bitsLt_bf16_f32))
    Cert.Reference8Ideal.Facts₀.transposes_S5632x1024_S1024x5632_1_0) Cert.Reference8Ideal.Facts₀.transposes_S1024x5632_S5632x1024_1_0) Cert.Reference8Ideal.Facts₀.bitsLt_bf16_f32

/-- The part of an element's sum that row block `s` holds. -/
def part (a : FVec Ideal S8192x5632 .bf16) (b : FVec Ideal S8192x1024 .bf16) (R : Fin 5632) (l : Fin 1024) (s : Fin 4) : EReal :=
  ∑ k : Fin 2048, a (ix2 (⟨s * 2048 + k, by omega⟩ : Fin 8192) R) * b (ix2 (⟨s * 2048 + k, by omega⟩ : Fin 8192) l)

/-- The reference's element is its four parts in order. -/
theorem result_parts (a : FVec Ideal S8192x5632 .bf16) (b : FVec Ideal S8192x1024 .bf16) (R : Fin 5632) (S : Fin 5632)
    (q r : ℕ) (hr : r < 1408) (hR : R.val = (q % 2 * 2 + q / 2) * 1408 + r) (hS : S.val = q * 1408 + r) (l : Fin 1024) :
    result a b (ix2 R l) = ((part a b S l 0 + part a b S l 1) + part a b S l 2) + part a b S l 3 := by
  rw [← Fin.sum_univ_four (part a b S l)]
  pointwise [result, ordered_apply a _ R S q r hr hR hS]
  exact (Fin.sum_mul_add_congr fun s k hl => rfl).symm

/-- A block's product at an element is the element's part there, the blocks being the arrays' there. -/
theorem block (x0 : FVec Ideal S2048x1408 .bf16) (x1 : FVec Ideal S2048x1024 .bf16) (a : FVec Ideal S8192x5632 .bf16)
    (b : FVec Ideal S8192x1024 .bf16) (r : Fin 1408) (l : Fin 1024) (R : Fin 5632) (s : Fin 4)
    (h0 : ∀ k : Fin 2048, x0 (ix2 k r) = a (ix2 (⟨s * 2048 + k, by omega⟩ : Fin 8192) R))
    (h1 : ∀ k : Fin 2048, x1 (ix2 k l) = b (ix2 (⟨s * 2048 + k, by omega⟩ : Fin 8192) l)) :
    k0_pay1 (F := Ideal) x0 x1 (ix2 r l) = part a b R l s := by
  pointwise [k0_pay1, part, h0, h1]

/-- The product of the blocks of a grid point is its part of the sum. -/
theorem product (c : Dev nD) (t : Fin cfg0.N) (y : S1408x1024.Idx) (s : Fin 4) (R : Fin 5632) (h : t.val % 4 = s)
    (hR : R.val = t.val / 4 * 1408 + y 0) :
    k0_pay1 (F := Ideal) (iblk m c 0 t) (iblk m c 1 t) y
      = part (m ((c : Thread nD τ).loc main_arg0)) (m ((c : Thread nD τ).loc main_arg1)) R (y 1) s := by
  refine (congrArg _ (eq_ix2 y)).trans (block _ _ _ _ (y 0) (y 1) R s (fun k => ?_) fun k => ?_) <;>
    blk_ext [iblk, V, idx t]

/-- The point before. -/
def prev (t : Fin cfg0.N) : Fin cfg0.N := ⟨t.val - 1, lt_of_le_of_lt (Nat.sub_le _ _) t.isLt⟩

theorem prev_val (t : Fin cfg0.N) : (prev t).val = t.val - 1 := rfl

/-- The first point of a block leaves its product in the accumulator. -/
theorem scratch_first (c : Dev nD) (t : Fin cfg0.N) (h : t.val % 4 = 0) (y : S1408x1024.Idx) :
    (outsAt0 m c t.val t.isLt).2 y = k0_pay1 (F := Ideal) (iblk m c 0 t) (iblk m c 1 t) y := by
  rw [outsAt0_A m c t h (by omega) (by omega)]; dsimp only; frame_out
  pointwise [k0_pay2]

/-- A point between adds its product to the accumulator. -/
theorem scratch_next (c : Dev nD) (t : Fin cfg0.N) (h : 1 ≤ t.val % 4 ∧ t.val % 4 ≤ 2) (y : S1408x1024.Idx) :
    (outsAt0 m c t.val t.isLt).2 y = (outsAt0 m c (prev t).val (prev t).isLt).2 y
      + k0_pay1 (F := Ideal) (iblk m c 0 t) (iblk m c 1 t) y := by
  rw [outsAt0_B m c t (by omega) h (by omega)]; dsimp only; frame_out
  pointwise [k0_pay3]
  exact congrArg (· + k0_pay1 (F := Ideal) _ _ y) (congrFun (read_unread_whole cc0_scratch0 _ _) y)

/-- The last point of a block leaves the accumulator and its product in the result's block. -/
theorem out_last (c : Dev nD) (t : Fin cfg0.N) (h : t.val % 4 = 3) (y : S1408x1024.Idx) :
    (outsAt0 m c t.val t.isLt).1 y = (outsAt0 m c (prev t).val (prev t).isLt).2 y
      + k0_pay1 (F := Ideal) (iblk m c 0 t) (iblk m c 1 t) y := by
  rw [outsAt0_C m c t (by omega) (by omega) h]; dsimp only; frame_out
  pointwise [k0_pay4]
  exact congrArg (· + k0_pay1 (F := Ideal) _ _ y) (congrFun (read_unread_whole cc0_scratch0 _ _) y)

/-- The result array is the reference's. -/
theorem final (c : Dev nD) : (dats m 0 c).arrAt 2 (cfgs 0).N
    = result (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have hN := lt_of_lt_of_eq t.isLt N_0
  have y0 : (y 0 : ℕ) < 1408 := (y 0).isLt
  have e : ((cfg0.win 2).blk t).view.emb y = ix2 (⟨(t.val / 4 % 2 * 2 + t.val / 4 / 2) * 1408 + y 0, by omega⟩ : Fin 5632) (y 1) := by
    blk_ext [idx t]
  rw [e]
  blk_simp; rw [after0_2]
  refine Eq.trans ?_ (result_parts _ _ _ (⟨t.val / 4 * 1408 + y 0, by omega⟩ : Fin 5632) (t.val / 4) (y 0) y0 rfl rfl _).symm
  rw [out_last m c t h3, scratch_next m c (prev t) (by rw [prev_val]; omega),
    scratch_next m c (prev (prev t)) (by simp only [prev_val]; omega), scratch_first m c (prev (prev (prev t))) (by simp only [prev_val]; omega)]
  refine congr (congrArg HAdd.hAdd (congr (congrArg HAdd.hAdd (congr (congrArg HAdd.hAdd ?_) ?_)) ?_)) ?_ <;>
    exact product m c _ y _ _ (by first | exact h3 | (simp only [prev_val]; omega)) (by first | rfl | (simp only [prev_val]; omega))

/-- Every run of the reference ends, with its arguments unchanged; it declares no semaphore. -/
theorem frame_ref : Cert.quiescent_Reference8Ideal := by
  intro m ρ _
  exact (θ_run Cert.Reference8Ideal.defs _ _).mono (fun r h => ⟨fun c => (h c).2,
    Idealize.ShloMosaic.sem_eq_zero_of_no_sems (by decide) r.2⟩) (Cert.Reference8Ideal.Value.run m ρ)

/-- The kernel's run and the reference's leave the same product. -/
theorem algebraic : Cert.algebraic_Kernel8Ideal_Reference8Ideal := by
  pair_intro
  · run_from Cert.Kernel8Ideal.Gen.run_main m g
  · refine (θ_run Cert.Reference8Ideal.defs _ _).mono (fun r h c => ⟨(h c).1.trans ?_, (h c).2⟩) (Cert.Reference8Ideal.Value.run m' g')
    obtain ⟨e0, e1⟩ := hagree c
    rw [Cert.Reference8Ideal.Read.val_main_v13_eq, e0, e1, final m c]
    exact (Cert.Reference8Ideal.Read.val_main_v13_eq _ _).symm

end Cert.Kernel8Ideal.Product

end
-- ==== Proof.FfnDownDw.lean ====
/- Hand-written, untrusted: the product `ffn_down_dw` over the extended reals. -/
module

public import proofs.«01_k».proof.Defs
public import proofs.«01_k».proof.Proof.Gen.Kernel9Ideal.Frame
public import proofs.«01_k».proof.Proof.Gen.Reference9Ideal
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel9Ideal.Product

open Cert.Kernel9Ideal Cert.Kernel9Ideal.Gen

variable (m : (ℓ : Loc nD τ sig) → Buf (Elt Ideal) ℓ)

/-- The block of every window at every grid point: the rows are taken in four blocks, one after the other, for each block
    of the result. -/
theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

/-- The reference's result: the columns of the first argument against those of the second, summed over the rows. -/
def result (a : FVec Ideal S8192x2816 .bf16) (b : FVec Ideal S8192x1024 .f32) : FVec Ideal S2816x1024 .bf16 :=
  truncf .bf16 (transpose Cert.Reference9Ideal.S2816x1024 [1, 0] (Host.dotGeneral Cert.Reference9Ideal.dot_S8192x1024_S8192x2816_S1024x2816_0_0_1_1_n_n none
    b (extf .f32 a Cert.Reference9Ideal.Facts₀.bitsLt_bf16_f32)) Cert.Reference9Ideal.Facts₀.transposes_S1024x2816_S2816x1024_1_0) Cert.Reference9Ideal.Facts₀.bitsLt_bf16_f32

/-- The part of an element's sum that row block `s` holds. -/
def part (a : FVec Ideal S8192x2816 .bf16) (b : FVec Ideal S8192x1024 .f32) (R : Fin 2816) (l : Fin 1024) (s : Fin 4) : EReal :=
  ∑ k : Fin 2048, a (ix2 (⟨s * 2048 + k, by omega⟩ : Fin 8192) R) * b (ix2 (⟨s * 2048 + k, by omega⟩ : Fin 8192) l)

/-- The reference's element is its four parts in order. -/
theorem result_parts (a : FVec Ideal S8192x2816 .bf16) (b : FVec Ideal S8192x1024 .f32) (R : Fin 2816) (l : Fin 1024) :
    result a b (ix2 R l) = ((part a b R l 0 + part a b R l 1) + part a b R l 2) + part a b R l 3 := by
  rw [← Fin.sum_univ_four (part a b R l)]
  pointwise [result]
  exact (Fin.sum_mul_add_congr fun s k hl => mul_comm _ _).symm

/-- A block's product at an element is the element's part there, the blocks being the arrays' there. -/
theorem block (x0 : FVec Ideal S2048x1408 .bf16) (x1 : FVec Ideal S2048x1024 .f32) (a : FVec Ideal S8192x2816 .bf16)
    (b : FVec Ideal S8192x1024 .f32) (r : Fin 1408) (l : Fin 1024) (R : Fin 2816) (s : Fin 4)
    (h0 : ∀ k : Fin 2048, x0 (ix2 k r) = a (ix2 (⟨s * 2048 + k, by omega⟩ : Fin 8192) R))
    (h1 : ∀ k : Fin 2048, x1 (ix2 k l) = b (ix2 (⟨s * 2048 + k, by omega⟩ : Fin 8192) l)) :
    k0_pay1 (F := Ideal) x0 x1 (ix2 r l) = part a b R l s := by
  pointwise [k0_pay1, part, h0, h1]

/-- The product of the blocks of a grid point is its part of the sum. -/
theorem product (c : Dev nD) (t : Fin cfg0.N) (y : S1408x1024.Idx) (s : Fin 4) (R : Fin 2816) (h : t.val % 4 = s)
    (hR : R.val = t.val / 4 * 1408 + y 0) :
    k0_pay1 (F := Ideal) (iblk m c 0 t) (iblk m c 1 t) y
      = part (m ((c : Thread nD τ).loc main_arg0)) (m ((c : Thread nD τ).loc main_arg1)) R (y 1) s := by
  refine (congrArg _ (eq_ix2 y)).trans (block _ _ _ _ (y 0) (y 1) R s (fun k => ?_) fun k => ?_) <;>
    blk_ext [iblk, V, idx t]

/-- The point before. -/
def prev (t : Fin cfg0.N) : Fin cfg0.N := ⟨t.val - 1, lt_of_le_of_lt (Nat.sub_le _ _) t.isLt⟩

theorem prev_val (t : Fin cfg0.N) : (prev t).val = t.val - 1 := rfl

/-- The first point of a block leaves its product in the accumulator. -/
theorem scratch_first (c : Dev nD) (t : Fin cfg0.N) (h : t.val % 4 = 0) (y : S1408x1024.Idx) :
    (outsAt0 m c t.val t.isLt).2 y = k0_pay1 (F := Ideal) (iblk m c 0 t) (iblk m c 1 t) y := by
  rw [outsAt0_A m c t h (by omega) (by omega)]; dsimp only; frame_out
  pointwise [k0_pay2]

/-- A point between adds its product to the accumulator. -/
theorem scratch_next (c : Dev nD) (t : Fin cfg0.N) (h : 1 ≤ t.val % 4 ∧ t.val % 4 ≤ 2) (y : S1408x1024.Idx) :
    (outsAt0 m c t.val t.isLt).2 y = (outsAt0 m c (prev t).val (prev t).isLt).2 y
      + k0_pay1 (F := Ideal) (iblk m c 0 t) (iblk m c 1 t) y := by
  rw [outsAt0_B m c t (by omega) h (by omega)]; dsimp only; frame_out
  pointwise [k0_pay3]
  exact congrArg (· + k0_pay1 (F := Ideal) _ _ y) (congrFun (read_unread_whole cc0_scratch0 _ _) y)

/-- The last point of a block leaves the accumulator and its product in the result's block. -/
theorem out_last (c : Dev nD) (t : Fin cfg0.N) (h : t.val % 4 = 3) (y : S1408x1024.Idx) :
    (outsAt0 m c t.val t.isLt).1 y = (outsAt0 m c (prev t).val (prev t).isLt).2 y
      + k0_pay1 (F := Ideal) (iblk m c 0 t) (iblk m c 1 t) y := by
  rw [outsAt0_C m c t (by omega) (by omega) h]; dsimp only; frame_out
  pointwise [k0_pay4]
  exact congrArg (· + k0_pay1 (F := Ideal) _ _ y) (congrFun (read_unread_whole cc0_scratch0 _ _) y)

/-- The result array is the reference's. -/
theorem final (c : Dev nD) : (dats m 0 c).arrAt 2 (cfgs 0).N
    = result (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have hN := lt_of_lt_of_eq t.isLt N_0
  have y0 : (y 0 : ℕ) < 1408 := (y 0).isLt
  have e : ((cfg0.win 2).blk t).view.emb y = ix2 (⟨(t.val / 4) * 1408 + y 0, by omega⟩ : Fin 2816) (y 1) := by
    blk_ext [idx t]
  rw [e]
  blk_simp; rw [after0_2]
  refine Eq.trans ?_ (result_parts _ _ _ _).symm
  rw [out_last m c t h3, scratch_next m c (prev t) (by rw [prev_val]; omega),
    scratch_next m c (prev (prev t)) (by simp only [prev_val]; omega), scratch_first m c (prev (prev (prev t))) (by simp only [prev_val]; omega)]
  refine congr (congrArg HAdd.hAdd (congr (congrArg HAdd.hAdd (congr (congrArg HAdd.hAdd ?_) ?_)) ?_)) ?_ <;>
    exact product m c _ y _ _ (by first | exact h3 | (simp only [prev_val]; omega)) (by first | rfl | (simp only [prev_val]; omega))

/-- The kernel's run and the reference's leave the same product. -/
theorem algebraic : Cert.algebraic_Kernel9Ideal_Reference9Ideal := by
  pair_intro
  · run_from Cert.Kernel9Ideal.Gen.run_main m g
  · hlo_run
    exact (final m c).symm

end Cert.Kernel9Ideal.Product

end
-- ==== Proof.OutProjDw.lean ====
/- Hand-written, untrusted: the product `out_proj_dw` over the extended reals. -/
module

public import proofs.«01_k».proof.Defs
public import proofs.«01_k».proof.Proof.Gen.Kernel10Ideal.Frame
public import proofs.«01_k».proof.Proof.Gen.Reference10Ideal
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel10Ideal.Product

open Cert.Kernel10Ideal Cert.Kernel10Ideal.Gen

variable (m : (ℓ : Loc nD τ sig) → Buf (Elt Ideal) ℓ)

/-- The block of every window at every grid point: the rows are taken in four blocks, one after the other, for each block
    of the result. -/
theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

/-- The reference's result: the columns of the first argument against those of the second, summed over the rows. -/
def result (a : FVec Ideal S8192x1024 .bf16) (b : FVec Ideal S8192x1024 .f32) : FVec Ideal S1024x1024 .bf16 :=
  truncf .bf16 (transpose Cert.Reference10Ideal.S1024x1024 [1, 0] (Host.dotGeneral Cert.Reference10Ideal.dot_S8192x1024_S8192x1024_S1024x1024_0_0_1_1_n_n none
    b (extf .f32 a Cert.Reference10Ideal.Facts₀.bitsLt_bf16_f32)) Cert.Reference10Ideal.Facts₀.transposes_S1024x1024_S1024x1024_1_0) Cert.Reference10Ideal.Facts₀.bitsLt_bf16_f32

/-- The part of an element's sum that row block `s` holds. -/
def part (a : FVec Ideal S8192x1024 .bf16) (b : FVec Ideal S8192x1024 .f32) (R : Fin 1024) (l : Fin 1024) (s : Fin 4) : EReal :=
  ∑ k : Fin 2048, a (ix2 (⟨s * 2048 + k, by omega⟩ : Fin 8192) R) * b (ix2 (⟨s * 2048 + k, by omega⟩ : Fin 8192) l)

/-- The reference's element is its four parts in order. -/
theorem result_parts (a : FVec Ideal S8192x1024 .bf16) (b : FVec Ideal S8192x1024 .f32) (R : Fin 1024) (l : Fin 1024) :
    result a b (ix2 R l) = ((part a b R l 0 + part a b R l 1) + part a b R l 2) + part a b R l 3 := by
  rw [← Fin.sum_univ_four (part a b R l)]
  pointwise [result]
  exact (Fin.sum_mul_add_congr fun s k hl => mul_comm _ _).symm

/-- A block's product at an element is the element's part there, the blocks being the arrays' there. -/
theorem block (x0 : FVec Ideal S2048x1024 .bf16) (x1 : FVec Ideal S2048x1024 .f32) (a : FVec Ideal S8192x1024 .bf16)
    (b : FVec Ideal S8192x1024 .f32) (r : Fin 1024) (l : Fin 1024) (R : Fin 1024) (s : Fin 4)
    (h0 : ∀ k : Fin 2048, x0 (ix2 k r) = a (ix2 (⟨s * 2048 + k, by omega⟩ : Fin 8192) R))
    (h1 : ∀ k : Fin 2048, x1 (ix2 k l) = b (ix2 (⟨s * 2048 + k, by omega⟩ : Fin 8192) l)) :
    k0_pay1 (F := Ideal) x0 x1 (ix2 r l) = part a b R l s := by
  pointwise [k0_pay1, part, h0, h1]

/-- The product of the blocks of a grid point is its part of the sum. -/
theorem product (c : Dev nD) (t : Fin cfg0.N) (y : S1024x1024.Idx) (s : Fin 4) (R : Fin 1024) (h : t.val % 4 = s)
    (hR : R.val = t.val / 4 * 1024 + y 0) :
    k0_pay1 (F := Ideal) (iblk m c 0 t) (iblk m c 1 t) y
      = part (m ((c : Thread nD τ).loc main_arg0)) (m ((c : Thread nD τ).loc main_arg1)) R (y 1) s := by
  refine (congrArg _ (eq_ix2 y)).trans (block _ _ _ _ (y 0) (y 1) R s (fun k => ?_) fun k => ?_) <;>
    blk_ext [iblk, V, idx t]

/-- The point before. -/
def prev (t : Fin cfg0.N) : Fin cfg0.N := ⟨t.val - 1, lt_of_le_of_lt (Nat.sub_le _ _) t.isLt⟩

theorem prev_val (t : Fin cfg0.N) : (prev t).val = t.val - 1 := rfl

/-- The first point of a block leaves its product in the accumulator. -/
theorem scratch_first (c : Dev nD) (t : Fin cfg0.N) (h : t.val % 4 = 0) (y : S1024x1024.Idx) :
    (outsAt0 m c t.val t.isLt).2 y = k0_pay1 (F := Ideal) (iblk m c 0 t) (iblk m c 1 t) y := by
  rw [outsAt0_A m c t h (by omega) (by omega)]; dsimp only; frame_out
  pointwise [k0_pay2]

/-- A point between adds its product to the accumulator. -/
theorem scratch_next (c : Dev nD) (t : Fin cfg0.N) (h : 1 ≤ t.val % 4 ∧ t.val % 4 ≤ 2) (y : S1024x1024.Idx) :
    (outsAt0 m c t.val t.isLt).2 y = (outsAt0 m c (prev t).val (prev t).isLt).2 y
      + k0_pay1 (F := Ideal) (iblk m c 0 t) (iblk m c 1 t) y := by
  rw [outsAt0_B m c t (by omega) h (by omega)]; dsimp only; frame_out
  pointwise [k0_pay3]
  exact congrArg (· + k0_pay1 (F := Ideal) _ _ y) (congrFun (read_unread_whole cc0_scratch0 _ _) y)

/-- The last point of a block leaves the accumulator and its product in the result's block. -/
theorem out_last (c : Dev nD) (t : Fin cfg0.N) (h : t.val % 4 = 3) (y : S1024x1024.Idx) :
    (outsAt0 m c t.val t.isLt).1 y = (outsAt0 m c (prev t).val (prev t).isLt).2 y
      + k0_pay1 (F := Ideal) (iblk m c 0 t) (iblk m c 1 t) y := by
  rw [outsAt0_C m c t (by omega) (by omega) h]; dsimp only; frame_out
  pointwise [k0_pay4]
  exact congrArg (· + k0_pay1 (F := Ideal) _ _ y) (congrFun (read_unread_whole cc0_scratch0 _ _) y)

/-- The result array is the reference's. -/
theorem final (c : Dev nD) : (dats m 0 c).arrAt 2 (cfgs 0).N
    = result (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have hN := lt_of_lt_of_eq t.isLt N_0
  have y0 : (y 0 : ℕ) < 1024 := (y 0).isLt
  have e : ((cfg0.win 2).blk t).view.emb y = ix2 (⟨(t.val / 4) * 1024 + y 0, by omega⟩ : Fin 1024) (y 1) := by
    blk_ext [idx t]
  rw [e]
  blk_simp; rw [after0_2]
  refine Eq.trans ?_ (result_parts _ _ _ _).symm
  rw [out_last m c t h3, scratch_next m c (prev t) (by rw [prev_val]; omega),
    scratch_next m c (prev (prev t)) (by simp only [prev_val]; omega), scratch_first m c (prev (prev (prev t))) (by simp only [prev_val]; omega)]
  refine congr (congrArg HAdd.hAdd (congr (congrArg HAdd.hAdd (congr (congrArg HAdd.hAdd ?_) ?_)) ?_)) ?_ <;>
    exact product m c _ y _ _ (by first | exact h3 | (simp only [prev_val]; omega)) (by first | rfl | (simp only [prev_val]; omega))

/-- The kernel's run and the reference's leave the same product. -/
theorem algebraic : Cert.algebraic_Kernel10Ideal_Reference10Ideal := by
  pair_intro
  · run_from Cert.Kernel10Ideal.Gen.run_main m g
  · hlo_run
    exact (final m c).symm

end Cert.Kernel10Ideal.Product

end
-- ==== Proof.ProjADw.lean ====
/- Hand-written, untrusted: the product `proj_a_dw` over the extended reals. -/
module

public import proofs.«01_k».proof.Defs
public import proofs.«01_k».proof.Proof.Gen.Kernel11Ideal.Frame
public import proofs.«01_k».proof.Proof.Gen.Reference11Ideal
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel11Ideal.Product

open Cert.Kernel11Ideal Cert.Kernel11Ideal.Gen

variable (m : (ℓ : Loc nD τ sig) → Buf (Elt Ideal) ℓ)

/-- The block of every window at every grid point: the rows are taken in four blocks, one after the other, for each block
    of the result. -/
theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

/-- The reference's result: the columns of the first argument against those of the second, summed over the rows. -/
def result (a : FVec Ideal S8192x1024 .bf16) (b : FVec Ideal S8192x1024 .bf16) : FVec Ideal S1024x1024 .bf16 :=
  truncf .bf16 (transpose Cert.Reference11Ideal.S1024x1024 [1, 0] (Host.dotGeneral Cert.Reference11Ideal.dot_S8192x1024_S8192x1024_S1024x1024_0_0_1_1_n_n none
    (extf .f32 b Cert.Reference11Ideal.Facts₀.bitsLt_bf16_f32) (extf .f32 a Cert.Reference11Ideal.Facts₀.bitsLt_bf16_f32)) Cert.Reference11Ideal.Facts₀.transposes_S1024x1024_S1024x1024_1_0) Cert.Reference11Ideal.Facts₀.bitsLt_bf16_f32

/-- The part of an element's sum that row block `s` holds. -/
def part (a : FVec Ideal S8192x1024 .bf16) (b : FVec Ideal S8192x1024 .bf16) (R : Fin 1024) (l : Fin 1024) (s : Fin 4) : EReal :=
  ∑ k : Fin 2048, a (ix2 (⟨s * 2048 + k, by omega⟩ : Fin 8192) R) * b (ix2 (⟨s * 2048 + k, by omega⟩ : Fin 8192) l)

/-- The reference's element is its four parts in order. -/
theorem result_parts (a : FVec Ideal S8192x1024 .bf16) (b : FVec Ideal S8192x1024 .bf16) (R : Fin 1024) (l : Fin 1024) :
    result a b (ix2 R l) = ((part a b R l 0 + part a b R l 1) + part a b R l 2) + part a b R l 3 := by
  rw [← Fin.sum_univ_four (part a b R l)]
  pointwise [result]
  exact (Fin.sum_mul_add_congr fun s k hl => mul_comm _ _).symm

/-- A block's product at an element is the element's part there, the blocks being the arrays' there. -/
theorem block (x0 : FVec Ideal S2048x1024 .bf16) (x1 : FVec Ideal S2048x1024 .bf16) (a : FVec Ideal S8192x1024 .bf16)
    (b : FVec Ideal S8192x1024 .bf16) (r : Fin 1024) (l : Fin 1024) (R : Fin 1024) (s : Fin 4)
    (h0 : ∀ k : Fin 2048, x0 (ix2 k r) = a (ix2 (⟨s * 2048 + k, by omega⟩ : Fin 8192) R))
    (h1 : ∀ k : Fin 2048, x1 (ix2 k l) = b (ix2 (⟨s * 2048 + k, by omega⟩ : Fin 8192) l)) :
    k0_pay1 (F := Ideal) x0 x1 (ix2 r l) = part a b R l s := by
  pointwise [k0_pay1, part, h0, h1]

/-- The product of the blocks of a grid point is its part of the sum. -/
theorem product (c : Dev nD) (t : Fin cfg0.N) (y : S1024x1024.Idx) (s : Fin 4) (R : Fin 1024) (h : t.val % 4 = s)
    (hR : R.val = t.val / 4 * 1024 + y 0) :
    k0_pay1 (F := Ideal) (iblk m c 0 t) (iblk m c 1 t) y
      = part (m ((c : Thread nD τ).loc main_arg0)) (m ((c : Thread nD τ).loc main_arg1)) R (y 1) s := by
  refine (congrArg _ (eq_ix2 y)).trans (block _ _ _ _ (y 0) (y 1) R s (fun k => ?_) fun k => ?_) <;>
    blk_ext [iblk, V, idx t]

/-- The point before. -/
def prev (t : Fin cfg0.N) : Fin cfg0.N := ⟨t.val - 1, lt_of_le_of_lt (Nat.sub_le _ _) t.isLt⟩

theorem prev_val (t : Fin cfg0.N) : (prev t).val = t.val - 1 := rfl

/-- The first point of a block leaves its product in the accumulator. -/
theorem scratch_first (c : Dev nD) (t : Fin cfg0.N) (h : t.val % 4 = 0) (y : S1024x1024.Idx) :
    (outsAt0 m c t.val t.isLt).2 y = k0_pay1 (F := Ideal) (iblk m c 0 t) (iblk m c 1 t) y := by
  rw [outsAt0_A m c t h (by omega) (by omega)]; dsimp only; frame_out
  pointwise [k0_pay2]

/-- A point between adds its product to the accumulator. -/
theorem scratch_next (c : Dev nD) (t : Fin cfg0.N) (h : 1 ≤ t.val % 4 ∧ t.val % 4 ≤ 2) (y : S1024x1024.Idx) :
    (outsAt0 m c t.val t.isLt).2 y = (outsAt0 m c (prev t).val (prev t).isLt).2 y
      + k0_pay1 (F := Ideal) (iblk m c 0 t) (iblk m c 1 t) y := by
  rw [outsAt0_B m c t (by omega) h (by omega)]; dsimp only; frame_out
  pointwise [k0_pay3]
  exact congrArg (· + k0_pay1 (F := Ideal) _ _ y) (congrFun (read_unread_whole cc0_scratch0 _ _) y)

/-- The last point of a block leaves the accumulator and its product in the result's block. -/
theorem out_last (c : Dev nD) (t : Fin cfg0.N) (h : t.val % 4 = 3) (y : S1024x1024.Idx) :
    (outsAt0 m c t.val t.isLt).1 y = (outsAt0 m c (prev t).val (prev t).isLt).2 y
      + k0_pay1 (F := Ideal) (iblk m c 0 t) (iblk m c 1 t) y := by
  rw [outsAt0_C m c t (by omega) (by omega) h]; dsimp only; frame_out
  pointwise [k0_pay4]
  exact congrArg (· + k0_pay1 (F := Ideal) _ _ y) (congrFun (read_unread_whole cc0_scratch0 _ _) y)

/-- The result array is the reference's. -/
theorem final (c : Dev nD) : (dats m 0 c).arrAt 2 (cfgs 0).N
    = result (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have hN := lt_of_lt_of_eq t.isLt N_0
  have y0 : (y 0 : ℕ) < 1024 := (y 0).isLt
  have e : ((cfg0.win 2).blk t).view.emb y = ix2 (⟨(t.val / 4) * 1024 + y 0, by omega⟩ : Fin 1024) (y 1) := by
    blk_ext [idx t]
  rw [e]
  blk_simp; rw [after0_2]
  refine Eq.trans ?_ (result_parts _ _ _ _).symm
  rw [out_last m c t h3, scratch_next m c (prev t) (by rw [prev_val]; omega),
    scratch_next m c (prev (prev t)) (by simp only [prev_val]; omega), scratch_first m c (prev (prev (prev t))) (by simp only [prev_val]; omega)]
  refine congr (congrArg HAdd.hAdd (congr (congrArg HAdd.hAdd (congr (congrArg HAdd.hAdd ?_) ?_)) ?_)) ?_ <;>
    exact product m c _ y _ _ (by first | exact h3 | (simp only [prev_val]; omega)) (by first | rfl | (simp only [prev_val]; omega))

/-- The kernel's run and the reference's leave the same product. -/
theorem algebraic : Cert.algebraic_Kernel11Ideal_Reference11Ideal := by
  pair_intro
  · run_from Cert.Kernel11Ideal.Gen.run_main m g
  · hlo_run
    exact (final m c).symm

end Cert.Kernel11Ideal.Product

end
-- ==== Proof.ProjBDw.lean ====
/- Hand-written, untrusted: the product `proj_b_dw` over the extended reals. -/
module

public import proofs.«01_k».proof.Defs
public import proofs.«01_k».proof.Proof.Gen.Kernel12Ideal.Frame
public import proofs.«01_k».proof.Proof.Gen.Reference12Ideal
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel12Ideal.Product

open Cert.Kernel12Ideal Cert.Kernel12Ideal.Gen

variable (m : (ℓ : Loc nD τ sig) → Buf (Elt Ideal) ℓ)

/-- The block of every window at every grid point: the rows are taken in four blocks, one after the other, for each block
    of the result. -/
theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

/-- The reference's result: the columns of the first argument against those of the second, summed over the rows. -/
def result (a : FVec Ideal S8192x2048 .bf16) (b : FVec Ideal S8192x1024 .bf16) : FVec Ideal S2048x1024 .bf16 :=
  truncf .bf16 (transpose Cert.Reference12Ideal.S2048x1024 [1, 0] (Host.dotGeneral Cert.Reference12Ideal.dot_S8192x1024_S8192x2048_S1024x2048_0_0_1_1_n_n none
    (extf .f32 b Cert.Reference12Ideal.Facts₀.bitsLt_bf16_f32) (extf .f32 a Cert.Reference12Ideal.Facts₀.bitsLt_bf16_f32)) Cert.Reference12Ideal.Facts₀.transposes_S1024x2048_S2048x1024_1_0) Cert.Reference12Ideal.Facts₀.bitsLt_bf16_f32

/-- The part of an element's sum that row block `s` holds. -/
def part (a : FVec Ideal S8192x2048 .bf16) (b : FVec Ideal S8192x1024 .bf16) (R : Fin 2048) (l : Fin 1024) (s : Fin 4) : EReal :=
  ∑ k : Fin 2048, a (ix2 (⟨s * 2048 + k, by omega⟩ : Fin 8192) R) * b (ix2 (⟨s * 2048 + k, by omega⟩ : Fin 8192) l)

/-- The reference's element is its four parts in order. -/
theorem result_parts (a : FVec Ideal S8192x2048 .bf16) (b : FVec Ideal S8192x1024 .bf16) (R : Fin 2048) (l : Fin 1024) :
    result a b (ix2 R l) = ((part a b R l 0 + part a b R l 1) + part a b R l 2) + part a b R l 3 := by
  rw [← Fin.sum_univ_four (part a b R l)]
  pointwise [result]
  exact (Fin.sum_mul_add_congr fun s k hl => mul_comm _ _).symm

/-- A block's product at an element is the element's part there, the blocks being the arrays' there. -/
theorem block (x0 : FVec Ideal S2048x1024 .bf16) (x1 : FVec Ideal S2048x1024 .bf16) (a : FVec Ideal S8192x2048 .bf16)
    (b : FVec Ideal S8192x1024 .bf16) (r : Fin 1024) (l : Fin 1024) (R : Fin 2048) (s : Fin 4)
    (h0 : ∀ k : Fin 2048, x0 (ix2 k r) = a (ix2 (⟨s * 2048 + k, by omega⟩ : Fin 8192) R))
    (h1 : ∀ k : Fin 2048, x1 (ix2 k l) = b (ix2 (⟨s * 2048 + k, by omega⟩ : Fin 8192) l)) :
    k0_pay1 (F := Ideal) x0 x1 (ix2 r l) = part a b R l s := by
  pointwise [k0_pay1, part, h0, h1]

/-- The product of the blocks of a grid point is its part of the sum. -/
theorem product (c : Dev nD) (t : Fin cfg0.N) (y : S1024x1024.Idx) (s : Fin 4) (R : Fin 2048) (h : t.val % 4 = s)
    (hR : R.val = t.val / 4 * 1024 + y 0) :
    k0_pay1 (F := Ideal) (iblk m c 0 t) (iblk m c 1 t) y
      = part (m ((c : Thread nD τ).loc main_arg0)) (m ((c : Thread nD τ).loc main_arg1)) R (y 1) s := by
  refine (congrArg _ (eq_ix2 y)).trans (block _ _ _ _ (y 0) (y 1) R s (fun k => ?_) fun k => ?_) <;>
    blk_ext [iblk, V, idx t]

/-- The point before. -/
def prev (t : Fin cfg0.N) : Fin cfg0.N := ⟨t.val - 1, lt_of_le_of_lt (Nat.sub_le _ _) t.isLt⟩

theorem prev_val (t : Fin cfg0.N) : (prev t).val = t.val - 1 := rfl

/-- The first point of a block leaves its product in the accumulator. -/
theorem scratch_first (c : Dev nD) (t : Fin cfg0.N) (h : t.val % 4 = 0) (y : S1024x1024.Idx) :
    (outsAt0 m c t.val t.isLt).2 y = k0_pay1 (F := Ideal) (iblk m c 0 t) (iblk m c 1 t) y := by
  rw [outsAt0_A m c t h (by omega) (by omega)]; dsimp only; frame_out
  pointwise [k0_pay2]

/-- A point between adds its product to the accumulator. -/
theorem scratch_next (c : Dev nD) (t : Fin cfg0.N) (h : 1 ≤ t.val % 4 ∧ t.val % 4 ≤ 2) (y : S1024x1024.Idx) :
    (outsAt0 m c t.val t.isLt).2 y = (outsAt0 m c (prev t).val (prev t).isLt).2 y
      + k0_pay1 (F := Ideal) (iblk m c 0 t) (iblk m c 1 t) y := by
  rw [outsAt0_B m c t (by omega) h (by omega)]; dsimp only; frame_out
  pointwise [k0_pay3]
  exact congrArg (· + k0_pay1 (F := Ideal) _ _ y) (congrFun (read_unread_whole cc0_scratch0 _ _) y)

/-- The last point of a block leaves the accumulator and its product in the result's block. -/
theorem out_last (c : Dev nD) (t : Fin cfg0.N) (h : t.val % 4 = 3) (y : S1024x1024.Idx) :
    (outsAt0 m c t.val t.isLt).1 y = (outsAt0 m c (prev t).val (prev t).isLt).2 y
      + k0_pay1 (F := Ideal) (iblk m c 0 t) (iblk m c 1 t) y := by
  rw [outsAt0_C m c t (by omega) (by omega) h]; dsimp only; frame_out
  pointwise [k0_pay4]
  exact congrArg (· + k0_pay1 (F := Ideal) _ _ y) (congrFun (read_unread_whole cc0_scratch0 _ _) y)

/-- The result array is the reference's. -/
theorem final (c : Dev nD) : (dats m 0 c).arrAt 2 (cfgs 0).N
    = result (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have hN := lt_of_lt_of_eq t.isLt N_0
  have y0 : (y 0 : ℕ) < 1024 := (y 0).isLt
  have e : ((cfg0.win 2).blk t).view.emb y = ix2 (⟨(t.val / 4) * 1024 + y 0, by omega⟩ : Fin 2048) (y 1) := by
    blk_ext [idx t]
  rw [e]
  blk_simp; rw [after0_2]
  refine Eq.trans ?_ (result_parts _ _ _ _).symm
  rw [out_last m c t h3, scratch_next m c (prev t) (by rw [prev_val]; omega),
    scratch_next m c (prev (prev t)) (by simp only [prev_val]; omega), scratch_first m c (prev (prev (prev t))) (by simp only [prev_val]; omega)]
  refine congr (congrArg HAdd.hAdd (congr (congrArg HAdd.hAdd (congr (congrArg HAdd.hAdd ?_) ?_)) ?_)) ?_ <;>
    exact product m c _ y _ _ (by first | exact h3 | (simp only [prev_val]; omega)) (by first | rfl | (simp only [prev_val]; omega))

/-- The kernel's run and the reference's leave the same product. -/
theorem algebraic : Cert.algebraic_Kernel12Ideal_Reference12Ideal := by
  pair_intro
  · run_from Cert.Kernel12Ideal.Gen.run_main m g
  · hlo_run
    exact (final m c).symm

end Cert.Kernel12Ideal.Product

end
-- ==== Proof.InProj.lean ====
/- Hand-written, untrusted: the product `in_proj` over the extended reals. -/
module

public import proofs.«01_k».proof.Defs
public import proofs.«01_k».proof.Proof.Gen.Kernel13Ideal.Frame
public import proofs.«01_k».proof.Proof.Gen.Reference13Ideal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel13Ideal.Product

open Cert.Kernel13Ideal Cert.Kernel13Ideal.Gen

variable (m : (ℓ : Loc nD τ sig) → Buf (Elt Ideal) ℓ)

/-- The block of every window at every grid point: point `t` computes row block `t % 8` of column block `t / 8`. -/
theorem idx : ∀ t : Fin cfg0.N, win0_0.index t = ![t.val % 8, 0] ∧ win0_1.index t = ![t.val / 8, 0]
    ∧ win0_2.index t = ![t.val % 8, t.val / 8] :=
  (by decide +kernel : ∀ t : Fin grid0.N, _)

/-- The reference's result: the rows of the first argument times the first rows of the second. -/
def result (a : FVec Ideal S8192x1024 .bf16) (b : FVec Ideal S9248x1024 .bf16) : FVec Ideal S8192x9216 .bf16 :=
  truncf .bf16 (Host.dotGeneral Cert.Reference13Ideal.dot_S8192x1024_S1024x9216_S8192x9216_1_0_0_1_n_n none
    (extf .f32 a Cert.Reference13Ideal.Facts₀.bitsLt_bf16_f32)
    (transpose Cert.Reference13Ideal.S1024x9216 [1, 0] (extractStridedSlice Cert.Reference13Ideal.S9216x1024 ![0, 0]
      (extf .f32 b Cert.Reference13Ideal.Facts₀.bitsLt_bf16_f32) Cert.Reference13Ideal.Facts₀.slices_S9248x1024_S9216x1024_0_0)
      Cert.Reference13Ideal.Facts₀.transposes_S9216x1024_S1024x9216_1_0)) Cert.Reference13Ideal.Facts₀.bitsLt_bf16_f32

/-- A block's product at an element is the whole product at the element's place, the blocks being the arrays' there. -/
theorem block (x0 : FVec Ideal S1024x1024 .bf16) (x1 : FVec Ideal S3072x1024 .bf16) (a : FVec Ideal S8192x1024 .bf16)
    (b : FVec Ideal S9248x1024 .bf16) (r : Fin 1024) (l : Fin 3072) (R : Fin 8192) (L : Fin 9216)
    (h0 : ∀ k, x0 (ix2 r k) = a (ix2 R k)) (h1 : ∀ k, x1 (ix2 l k) = b (ix2 (⟨L.val, by omega⟩ : Fin 9248) k)) :
    k0_pay1 (F := Ideal) x0 x1 (ix2 r l) = result a b (ix2 R L) := by
  pointwise [k0_pay1, result, h0, h1]

/-- The weight's block at a grid point, whole at every point, is its rows there. -/
theorem weight (c : Dev nD) (t : Fin cfg0.N) (l : Fin 3072) (k : Fin 1024) :
    X0_1 m c t (ix2 l k) = m ((c : Thread nD τ).loc main_arg1)
      (ix2 (⟨t.val / 8 * 3072 + l, by have := lt_of_lt_of_eq t.isLt N_0; omega⟩ : Fin 9248) k) := by
  unfold X0_1 Pipeline.Window.fill; rw [dif_pos (moved0_1 t _)]
  blk_ext [iblk, V, idx t]

/-- The result array is the reference's. -/
theorem final (c : Dev nD) : (dats m 0 c).arrAt 2 (cfgs 0).N
    = result (m ((c : Thread nD τ).loc main_arg0)) (m ((c : Thread nD τ).loc main_arg1)) := by
  refine (dats m 0 c).arrAt_eq_of_covers 2 _ (by decide +kernel) fun t hf y => ?_
  have hN := lt_of_lt_of_eq t.isLt N_0
  have y0 : (y 0 : ℕ) < 1024 := (y 0).isLt
  have y1 : (y 1 : ℕ) < 3072 := (y 1).isLt
  have e : ((cfg0.win 2).blk t).view.emb y = ix2 (⟨t.val % 8 * 1024 + y 0, by omega⟩ : Fin 8192)
      (⟨t.val / 8 * 3072 + y 1, by omega⟩ : Fin 9216) := by blk_ext [idx t]
  rw [e]
  blk_simp; rw [after0_2]; unfold outsAt0 out0_A_2; frame_out
  refine (congrArg _ (eq_ix2 y)).trans (block _ _ _ _ (y 0) (y 1) _ _ (fun k => ?_) fun k => ?_)
  · blk_ext [iblk, V, idx t]
  · exact weight m c t (y 1) k

/-- The kernel's run and the reference's leave the same product. -/
theorem algebraic : Cert.algebraic_Kernel13Ideal_Reference13Ideal := by
  pair_intro
  · run_from Cert.Kernel13Ideal.Gen.run_main m g
  · hlo_run
    exact (final m c).symm

end Cert.Kernel13Ideal.Product

end
-- ==== Proof.InProjDw.lean ====
/- Hand-written, untrusted: the product `in_proj_dw` over the extended reals. -/
module

public import proofs.«01_k».proof.Defs
public import proofs.«01_k».proof.Proof.Gen.Kernel14Ideal.Frame
public import proofs.«01_k».proof.Proof.Gen.Reference14Ideal.Run
public import proofs.«01_k».proof.Proof.Gen.Reference14Ideal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel14Ideal.Product

open Cert.Kernel14Ideal Cert.Kernel14Ideal.Gen

variable (m : (ℓ : Loc nD τ sig) → Buf (Elt Ideal) ℓ)

/-- The block of every window at every grid point: the sum is taken in 2 parts, one after the other, for each block of the
    result. -/
theorem idx : ∀ t : Fin cfg0.N, win0_0.index t = ![t.val % 2, t.val / 2 + (t.val / 2 + 4) / 8] ∧ win0_1.index t = ![t.val % 2, 0]
    ∧ win0_2.index t = ![t.val / 2, 0] :=
  (by decide +kernel : ∀ t : Fin grid0.N, _)

/-- The gradient's columns without the gap. -/
def ordered (a : FVec Ideal S8192x10240 .bf16) : FVec Ideal Cert.Reference14Ideal.S8192x9216 .f32 :=
  concatenate Cert.Reference14Ideal.S8192x9216 1 [⟨Cert.Reference14Ideal.S8192x4096, extractStridedSlice Cert.Reference14Ideal.S8192x4096 ![0, 0] (extf .f32 a Cert.Reference14Ideal.Facts₀.bitsLt_bf16_f32) Cert.Reference14Ideal.Facts₀.slices_S8192x10240_S8192x4096_0_0⟩,
    ⟨Cert.Reference14Ideal.S8192x5120, extractStridedSlice Cert.Reference14Ideal.S8192x5120 ![0, 5120] (extf .f32 a Cert.Reference14Ideal.Facts₀.bitsLt_bf16_f32) Cert.Reference14Ideal.Facts₀.slices_S8192x10240_S8192x5120_0_5120⟩]
    Cert.Reference14Ideal.Facts₀.concatenates_S8192x4096_S8192x5120_S8192x9216_d1

/-- Block `q` of the columns without the gap is block `q + (q + 4) / 8` of those with it. -/
theorem ordered_apply (a : FVec Ideal S8192x10240 .bf16) (s : Fin 8192) (R : Fin 9216) (S : Fin 10240) (q r : ℕ) (hr : r < 1024)
    (hR : R.val = q * 1024 + r) (hS : S.val = (q + (q + 4) / 8) * 1024 + r) :
    ordered a (ix2 s R) = a (ix2 s S) := by
  pointwise [ordered]
  split_ifs <;> exact congrArg a (congrArg (ix2 s) (Fin.ext (by (try dsimp only); omega)))

/-- The reference's result. -/
def result (a : FVec Ideal S8192x10240 .bf16) (b : FVec Ideal S8192x1024 .bf16) : FVec Ideal S9216x1024 .bf16 :=
  truncf .bf16 (transpose Cert.Reference14Ideal.S9216x1024 [1, 0] (transpose Cert.Reference14Ideal.S1024x9216 [1, 0]
    (Host.dotGeneral Cert.Reference14Ideal.dot_S8192x9216_S8192x1024_S9216x1024_0_0_1_1_n_n none (ordered a) (extf .f32 b Cert.Reference14Ideal.Facts₀.bitsLt_bf16_f32))
    Cert.Reference14Ideal.Facts₀.transposes_S9216x1024_S1024x9216_1_0) Cert.Reference14Ideal.Facts₀.transposes_S1024x9216_S9216x1024_1_0) Cert.Reference14Ideal.Facts₀.bitsLt_bf16_f32

/-- Part `s` of an element's sum. -/
def part (a : FVec Ideal S8192x10240 .bf16) (b : FVec Ideal S8192x1024 .bf16) (R : Fin 10240) (l : Fin 1024) (s : Fin 2) : EReal :=
  ∑ k : Fin 4096, a (ix2 (⟨s * 4096 + k, by omega⟩ : Fin 8192) R) * b (ix2 (⟨s * 4096 + k, by omega⟩ : Fin 8192) l)

/-- The same at a number, zero past the last part. -/
def partAt (a : FVec Ideal S8192x10240 .bf16) (b : FVec Ideal S8192x1024 .bf16) (R : Fin 10240) (l : Fin 1024) (s : ℕ) : EReal :=
  if h : s < 2 then part a b R l ⟨s, h⟩ else 0

theorem partAt_val (a : FVec Ideal S8192x10240 .bf16) (b : FVec Ideal S8192x1024 .bf16) (R : Fin 10240) (l : Fin 1024) (s : Fin 2) :
    partAt a b R l s.val = part a b R l s := dif_pos s.isLt

/-- The reference's element is its parts in order. -/
theorem result_parts (a : FVec Ideal S8192x10240 .bf16) (b : FVec Ideal S8192x1024 .bf16) (R : Fin 9216) (S : Fin 10240)
    (q r : ℕ) (hr : r < 1024) (hR : R.val = q * 1024 + r) (hS : S.val = (q + (q + 4) / 8) * 1024 + r) (l : Fin 1024) :
    result a b (ix2 R l) = ∑ s ∈ Finset.range 2, partAt a b S l s := by
  rw [Finset.sum_range]
  pointwise [result, ordered_apply a _ R S q r hr hR hS, partAt_val, part]
  exact (Fin.sum_mul_add_congr fun s k hl => rfl).symm

/-- A block's product at an element is the element's part there, the blocks being the arrays' there. -/
theorem block (x0 : FVec Ideal S4096x1024 .bf16) (x1 : FVec Ideal S4096x1024 .bf16) (a : FVec Ideal S8192x10240 .bf16)
    (b : FVec Ideal S8192x1024 .bf16) (r : Fin 1024) (l : Fin 1024) (R : Fin 10240) (s : Fin 2)
    (h0 : ∀ k : Fin 4096, x0 (ix2 k r) = a (ix2 (⟨s * 4096 + k, by omega⟩ : Fin 8192) R))
    (h1 : ∀ k : Fin 4096, x1 (ix2 k l) = b (ix2 (⟨s * 4096 + k, by omega⟩ : Fin 8192) l)) :
    k0_pay1 (F := Ideal) x0 x1 (ix2 r l) = part a b R l s := by
  pointwise [k0_pay1, part, h0, h1]

/-- The product of the blocks of a grid point is its part of the sum. -/
theorem product (c : Dev nD) (t : Fin cfg0.N) (y : S1024x1024.Idx) (s : Fin 2) (R : Fin 10240) (h : t.val % 2 = s)
    (hR : R.val = (t.val / 2 + (t.val / 2 + 4) / 8) * 1024 + y 0) :
    k0_pay1 (F := Ideal) (iblk m c 0 t) (iblk m c 1 t) y = part (m ((c : Thread nD τ).loc main_arg0)) (m ((c : Thread nD τ).loc main_arg1)) R (y 1) s := by
  refine (congrArg _ (eq_ix2 y)).trans (block _ _ _ _ (y 0) (y 1) R s (fun k => ?_) fun k => ?_) <;>
    blk_ext [iblk, V, idx t]

/-- The point before. -/
def prev (t : Fin cfg0.N) : Fin cfg0.N := ⟨t.val - 1, lt_of_le_of_lt (Nat.sub_le _ _) t.isLt⟩

theorem prev_val (t : Fin cfg0.N) : (prev t).val = t.val - 1 := rfl

/-- The first point of a block leaves its product in the accumulator. -/
theorem scratch_first (c : Dev nD) (t : Fin cfg0.N) (h : t.val % 2 = 0) (y : S1024x1024.Idx) :
    (outsAt0 m c t.val t.isLt).2 y = k0_pay1 (F := Ideal) (iblk m c 0 t) (iblk m c 1 t) y := by
  rw [outsAt0_A m c t h (by omega)]; dsimp only; frame_out
  pointwise [k0_pay2]

/-- The last point of a block leaves the accumulator and its product in the result's block. -/
theorem out_last (c : Dev nD) (t : Fin cfg0.N) (h : t.val % 2 = 1) (y : S1024x1024.Idx) :
    (outsAt0 m c t.val t.isLt).1 y = (outsAt0 m c (prev t).val (prev t).isLt).2 y
      + k0_pay1 (F := Ideal) (iblk m c 0 t) (iblk m c 1 t) y := by
  rw [outsAt0_B m c t (by omega) h]; dsimp only; frame_out
  pointwise [k0_pay4]
  exact congrArg (· + k0_pay1 (F := Ideal) _ _ y) (congrFun (read_unread_whole cc0_scratch0 _ _) y)

/-- The accumulator after a point that is not the last of its block: the parts so far. -/
theorem scratch_sum (c : Dev nD) (y : S1024x1024.Idx) (R : Fin 10240) (j : ℕ) : ∀ t : Fin cfg0.N, t.val % 2 = j → j < 1 →
    R.val = (t.val / 2 + (t.val / 2 + 4) / 8) * 1024 + y 0 → (outsAt0 m c t.val t.isLt).2 y
      = ∑ s ∈ Finset.range (j + 1), partAt (m ((c : Thread nD τ).loc main_arg0)) (m ((c : Thread nD τ).loc main_arg1)) R (y 1) s := by
  induction j with intro t ht hj hR
  | zero => rw [scratch_first m c t ht y, Finset.sum_range_one, product m c t y ⟨0, by omega⟩ R ht hR]; exact (partAt_val _ _ _ _ ⟨0, by omega⟩).symm
  | succ j ih => omega

/-- The result array is the reference's. -/
theorem final (c : Dev nD) : (dats m 0 c).arrAt 2 (cfgs 0).N
    = result (m ((c : Thread nD τ).loc main_arg0)) (m ((c : Thread nD τ).loc main_arg1)) := by
  refine (dats m 0 c).arrAt_eq_of_covers 2 _ (by decide +kernel) fun t hf y => ?_
  have h3 : t.val % 2 = 1 := (flush0_2 t).mp hf
  have hN := lt_of_lt_of_eq t.isLt N_0
  have y0 : (y 0 : ℕ) < 1024 := (y 0).isLt
  have e : ((cfg0.win 2).blk t).view.emb y = ix2 (⟨t.val / 2 * 1024 + y 0, by omega⟩ : Fin 9216) (y 1) := by
    blk_ext [idx t]
  rw [e]
  blk_simp; rw [after0_2]
  refine Eq.trans ?_ (result_parts _ _ _ (⟨(t.val / 2 + (t.val / 2 + 4) / 8) * 1024 + y 0, by omega⟩ : Fin 10240) (t.val / 2) (y 0) y0 rfl rfl _).symm
  rw [out_last m c t h3, scratch_sum m c y ⟨(t.val / 2 + (t.val / 2 + 4) / 8) * 1024 + y 0, by omega⟩ 0 (prev t) (by rw [prev_val]; omega) (by omega) (by rw [prev_val]; dsimp only; omega),
    Finset.sum_range_succ _ 1, product m c t y ⟨1, by omega⟩ ⟨(t.val / 2 + (t.val / 2 + 4) / 8) * 1024 + y 0, by omega⟩ h3 rfl]
  exact congrArg (_ + ·) (partAt_val _ _ _ _ ⟨1, by omega⟩).symm

/-- Every run of the reference ends, with its arguments unchanged; it declares no semaphore. -/
theorem frame_ref : Cert.quiescent_Reference14Ideal := by
  intro m ρ _
  exact (θ_run Cert.Reference14Ideal.defs _ _).mono (fun r h => ⟨fun c => (h c).2,
    Idealize.ShloMosaic.sem_eq_zero_of_no_sems (by decide) r.2⟩) (Cert.Reference14Ideal.Value.run m ρ)

/-- The kernel's run and the reference's leave the same product. -/
theorem algebraic : Cert.algebraic_Kernel14Ideal_Reference14Ideal := by
  pair_intro
  · run_from Cert.Kernel14Ideal.Gen.run_main m g
  · refine (θ_run Cert.Reference14Ideal.defs _ _).mono (fun r h c => ⟨(h c).1.trans ?_, (h c).2⟩) (Cert.Reference14Ideal.Value.run m' g')
    obtain ⟨e0, e1⟩ := hagree c
    rw [Cert.Reference14Ideal.Read.val_main_v11_eq, e0, e1, final m c]
    exact (Cert.Reference14Ideal.Read.val_main_v11_eq _ _).symm

end Cert.Kernel14Ideal.Product

end
-- ==== Proof.InProjDx.lean ====
/- Hand-written, untrusted: the product `in_proj_dx`, added to what came before, over the extended reals. -/
module

public import proofs.«01_k».proof.Defs
public import proofs.«01_k».proof.Proof.Gen.Kernel15Ideal.Frame
public import proofs.«01_k».proof.Proof.Gen.Reference15Ideal.Run
public import proofs.«01_k».proof.Proof.Gen.Reference15Ideal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel15Ideal.Product

open Cert.Kernel15Ideal Cert.Kernel15Ideal.Gen

variable (m : (ℓ : Loc nD τ sig) → Buf (Elt Ideal) ℓ)

/-- The block of every window at every grid point: the sum is taken in 9 parts, one after the other, for each block of the
    result. -/
theorem idx : ∀ t : Fin cfg0.N, win0_0.index t = ![t.val / 9, t.val % 9 + (t.val % 9 + 4) / 8] ∧ win0_1.index t = ![t.val % 9, 0]
    ∧ win0_2.index t = ![t.val / 9, 0] ∧ win0_3.index t = ![t.val / 9, 0] :=
  (by decide +kernel : ∀ t : Fin grid0.N, _)

/-- The gradient's columns without the gap. -/
def ordered (a : FVec Ideal S8192x10240 .bf16) : FVec Ideal Cert.Reference15Ideal.S8192x9216 .f32 :=
  concatenate Cert.Reference15Ideal.S8192x9216 1 [⟨Cert.Reference15Ideal.S8192x4096, extractStridedSlice Cert.Reference15Ideal.S8192x4096 ![0, 0] (extf .f32 a Cert.Reference15Ideal.Facts₀.bitsLt_bf16_f32) Cert.Reference15Ideal.Facts₀.slices_S8192x10240_S8192x4096_0_0⟩,
    ⟨Cert.Reference15Ideal.S8192x5120, extractStridedSlice Cert.Reference15Ideal.S8192x5120 ![0, 5120] (extf .f32 a Cert.Reference15Ideal.Facts₀.bitsLt_bf16_f32) Cert.Reference15Ideal.Facts₀.slices_S8192x10240_S8192x5120_0_5120⟩]
    Cert.Reference15Ideal.Facts₀.concatenates_S8192x4096_S8192x5120_S8192x9216_d1

/-- Block `q` of the columns without the gap is block `q + (q + 4) / 8` of those with it. -/
theorem ordered_apply (a : FVec Ideal S8192x10240 .bf16) (s : Fin 8192) (R : Fin 9216) (S : Fin 10240) (q r : ℕ) (hr : r < 1024)
    (hR : R.val = q * 1024 + r) (hS : S.val = (q + (q + 4) / 8) * 1024 + r) :
    ordered a (ix2 s R) = a (ix2 s S) := by
  pointwise [ordered]
  split_ifs <;> exact congrArg a (congrArg (ix2 s) (Fin.ext (by (try dsimp only); omega)))

/-- The reference's result. -/
def result (a : FVec Ideal S8192x10240 .bf16) (b : FVec Ideal S9248x1024 .bf16) (z : FVec Ideal S8192x1024 .f32) : FVec Ideal S8192x1024 .f32 :=
  addf z (Host.dotGeneral Cert.Reference15Ideal.dot_S8192x9216_S1024x9216_S8192x1024_1_1_0_0_n_n none (ordered a)
    (transpose Cert.Reference15Ideal.S1024x9216 [1, 0] (extractStridedSlice Cert.Reference15Ideal.S9216x1024 ![0, 0] (extf .f32 b Cert.Reference15Ideal.Facts₀.bitsLt_bf16_f32) Cert.Reference15Ideal.Facts₀.slices_S9248x1024_S9216x1024_0_0)
    Cert.Reference15Ideal.Facts₀.transposes_S9216x1024_S1024x9216_1_0))

/-- Part `s` of an element's sum. -/
def part (a : FVec Ideal S8192x10240 .bf16) (b : FVec Ideal S9248x1024 .bf16) (R : Fin 8192) (l : Fin 1024) (s : Fin 9) : EReal :=
  ∑ k : Fin 1024, a (ix2 R (⟨(s + (s + 4) / 8) * 1024 + k, by omega⟩ : Fin 10240)) * b (ix2 (⟨s * 1024 + k, by omega⟩ : Fin 9248) l)

/-- The same at a number, zero past the last part. -/
def partAt (a : FVec Ideal S8192x10240 .bf16) (b : FVec Ideal S9248x1024 .bf16) (R : Fin 8192) (l : Fin 1024) (s : ℕ) : EReal :=
  if h : s < 9 then part a b R l ⟨s, h⟩ else 0

theorem partAt_val (a : FVec Ideal S8192x10240 .bf16) (b : FVec Ideal S9248x1024 .bf16) (R : Fin 8192) (l : Fin 1024) (s : Fin 9) :
    partAt a b R l s.val = part a b R l s := dif_pos s.isLt

/-- The reference's element is its parts in order. -/
theorem result_parts (a : FVec Ideal S8192x10240 .bf16) (b : FVec Ideal S9248x1024 .bf16) (z : FVec Ideal S8192x1024 .f32) (R : Fin 8192) (l : Fin 1024) :
    result a b z (ix2 R l) = z (ix2 R l) + ∑ s ∈ Finset.range 9, partAt a b R l s := by
  rw [Finset.sum_range]
  pointwise [result, partAt_val, part]
  refine congrArg (z (ix2 R l) + ·) (Fin.sum_mul_add_congr fun s k hl => ?_).symm
  rw [ordered_apply a R _ (⟨(s + (s + 4) / 8) * 1024 + k, by omega⟩ : Fin 10240) s k k.isLt rfl rfl]

/-- A block's product at an element is the element's part there, the blocks being the arrays' there. -/
theorem block (x0 : FVec Ideal S1024x1024 .bf16) (x1 : FVec Ideal S1024x1024 .bf16) (a : FVec Ideal S8192x10240 .bf16)
    (b : FVec Ideal S9248x1024 .bf16) (r : Fin 1024) (l : Fin 1024) (R : Fin 8192) (s : Fin 9)
    (h0 : ∀ k : Fin 1024, x0 (ix2 r k) = a (ix2 R (⟨(s + (s + 4) / 8) * 1024 + k, by omega⟩ : Fin 10240)))
    (h1 : ∀ k : Fin 1024, x1 (ix2 k l) = b (ix2 (⟨s * 1024 + k, by omega⟩ : Fin 9248) l)) :
    k0_pay1 (F := Ideal) x0 x1 (ix2 r l) = part a b R l s := by
  pointwise [k0_pay1, part, h0, h1]

/-- The weight's block at a grid point, whole at every point, is its rows there. -/
theorem weight (c : Dev nD) (t : Fin cfg0.N) (k l : Fin 1024) :
    X0_1 m c t (ix2 k l) = m ((c : Thread nD τ).loc main_arg1) (ix2 (⟨t.val % 9 * 1024 + k, by omega⟩ : Fin 9248) l) := by
  unfold X0_1 Pipeline.Window.fill; rw [dif_pos (moved0_1 t _)]
  blk_ext [iblk, V, idx t]

/-- The product of the blocks of a grid point is its part of the sum. -/
theorem product (c : Dev nD) (t : Fin cfg0.N) (y : S1024x1024.Idx) (s : Fin 9) (R : Fin 8192) (h : t.val % 9 = s)
    (hR : R.val = t.val / 9 * 1024 + y 0) :
    k0_pay1 (F := Ideal) (iblk m c 0 t) (X0_1 m c t) y = part (m ((c : Thread nD τ).loc main_arg0)) (m ((c : Thread nD τ).loc main_arg1)) R (y 1) s := by
  refine (congrArg _ (eq_ix2 y)).trans (block _ _ _ _ (y 0) (y 1) R s (fun k => ?_) fun k => ?_)
  · blk_ext [iblk, V, idx t]
  · exact (weight m c t k (y 1)).trans (congrArg _ (congrArg (ix2 · (y 1)) (Fin.ext (by dsimp only; rw [h]))))

/-- The point before. -/
def prev (t : Fin cfg0.N) : Fin cfg0.N := ⟨t.val - 1, lt_of_le_of_lt (Nat.sub_le _ _) t.isLt⟩

theorem prev_val (t : Fin cfg0.N) : (prev t).val = t.val - 1 := rfl

/-- The first point of a block leaves its product in the accumulator. -/
theorem scratch_first (c : Dev nD) (t : Fin cfg0.N) (h : t.val % 9 = 0) (y : S1024x1024.Idx) :
    (outsAt0 m c t.val t.isLt).2 y = k0_pay1 (F := Ideal) (iblk m c 0 t) (X0_1 m c t) y := by
  rw [outsAt0_A m c t h (by omega) (by omega)]; dsimp only; frame_out
  pointwise [k0_pay2]

/-- A point between adds its product to the accumulator. -/
theorem scratch_next (c : Dev nD) (t : Fin cfg0.N) (h : 1 ≤ t.val % 9 ∧ t.val % 9 ≤ 7) (y : S1024x1024.Idx) :
    (outsAt0 m c t.val t.isLt).2 y = (outsAt0 m c (prev t).val (prev t).isLt).2 y
      + k0_pay1 (F := Ideal) (iblk m c 0 t) (X0_1 m c t) y := by
  rw [outsAt0_B m c t (by omega) h (by omega)]; dsimp only; frame_out
  pointwise [k0_pay3]
  exact congrArg (· + k0_pay1 (F := Ideal) _ _ y) (congrFun (read_unread_whole cc0_scratch0 _ _) y)

/-- The last point of a block leaves the accumulator and its product in the result's block. -/
theorem out_last (c : Dev nD) (t : Fin cfg0.N) (h : t.val % 9 = 8) (y : S1024x1024.Idx) :
    (outsAt0 m c t.val t.isLt).1 y = (outsAt0 m c (prev t).val (prev t).isLt).2 y
      + k0_pay1 (F := Ideal) (iblk m c 0 t) (X0_1 m c t) y + iblk m c 2 t y := by
  rw [outsAt0_C m c t (by omega) (by omega) h]; dsimp only; frame_out
  pointwise [k0_pay4]
  exact congrArg (fun v => v + k0_pay1 (F := Ideal) _ _ y + iblk m c 2 t y) (congrFun (read_unread_whole cc0_scratch0 _ _) y)

/-- The accumulator after a point that is not the last of its block: the parts so far. -/
theorem scratch_sum (c : Dev nD) (y : S1024x1024.Idx) (R : Fin 8192) (j : ℕ) : ∀ t : Fin cfg0.N, t.val % 9 = j → j < 8 →
    R.val = t.val / 9 * 1024 + y 0 → (outsAt0 m c t.val t.isLt).2 y
      = ∑ s ∈ Finset.range (j + 1), partAt (m ((c : Thread nD τ).loc main_arg0)) (m ((c : Thread nD τ).loc main_arg1)) R (y 1) s := by
  induction j with intro t ht hj hR
  | zero => rw [scratch_first m c t ht y, Finset.sum_range_one, product m c t y ⟨0, by omega⟩ R ht hR]; exact (partAt_val _ _ _ _ ⟨0, by omega⟩).symm
  | succ j ih => rw [scratch_next m c t (by omega) y, ih (prev t) (by rw [prev_val]; omega) (by omega) (by rw [prev_val]; omega),
      Finset.sum_range_succ _ (j + 1), product m c t y ⟨j + 1, by omega⟩ R ht hR]; exact congrArg (_ + ·) (partAt_val _ _ _ _ ⟨j + 1, by omega⟩).symm

/-- The result array is the reference's. -/
theorem final (c : Dev nD) : (dats m 0 c).arrAt 3 (cfgs 0).N
    = result (m ((c : Thread nD τ).loc main_arg0)) (m ((c : Thread nD τ).loc main_arg1)) (m ((c : Thread nD τ).loc main_arg2)) := by
  refine (dats m 0 c).arrAt_eq_of_covers 3 _ (by decide +kernel) fun t hf y => ?_
  have h3 : t.val % 9 = 8 := (flush0_3 t).mp hf
  have hN := lt_of_lt_of_eq t.isLt N_0
  have y0 : (y 0 : ℕ) < 1024 := (y 0).isLt
  have e : ((cfg0.win 3).blk t).view.emb y = ix2 (⟨t.val / 9 * 1024 + y 0, by omega⟩ : Fin 8192) (y 1) := by
    blk_ext [idx t]
  rw [e]
  blk_simp; rw [after0_3]
  refine Eq.trans ?_ (result_parts _ _ _ _ _).symm
  rw [out_last m c t h3, scratch_sum m c y ⟨t.val / 9 * 1024 + y 0, by omega⟩ 7 (prev t) (by rw [prev_val]; omega) (by omega) (by rw [prev_val]; dsimp only; omega),
    Finset.sum_range_succ _ 8, product m c t y ⟨8, by omega⟩ ⟨t.val / 9 * 1024 + y 0, by omega⟩ h3 rfl]
  refine Eq.trans (congrArg₂ (· + ·) (congrArg (_ + ·) (partAt_val _ _ _ _ ⟨8, by omega⟩).symm) ?_) (add_comm (G := EReal) _ _)
  blk_ext [iblk, V, idx t]

/-- Every run of the reference ends, with its arguments unchanged; it declares no semaphore. -/
theorem frame_ref : Cert.quiescent_Reference15Ideal := by
  intro m ρ _
  exact (θ_run Cert.Reference15Ideal.defs _ _).mono (fun r h => ⟨fun c => (h c).2,
    Idealize.ShloMosaic.sem_eq_zero_of_no_sems (by decide) r.2⟩) (Cert.Reference15Ideal.Value.run m ρ)

/-- The kernel's run and the reference's leave the same product. -/
theorem algebraic : Cert.algebraic_Kernel15Ideal_Reference15Ideal := by
  pair_intro
  · run_from Cert.Kernel15Ideal.Gen.run_main m g
  · refine (θ_run Cert.Reference15Ideal.defs _ _).mono (fun r h c => ⟨(h c).1.trans ?_, (h c).2⟩) (Cert.Reference15Ideal.Value.run m' g')
    obtain ⟨e0, e1, e2⟩ := hagree c
    rw [Cert.Reference15Ideal.Read.val_main_v10_eq, e0, e1, e2, final m c]
    exact (Cert.Reference15Ideal.Read.val_main_v10_eq _ _ _).symm

end Cert.Kernel15Ideal.Product

end
-- ==== Proof.InProjDt.lean ====
/- Hand-written, untrusted: the product `in_proj_dt` over the extended reals. -/
module

public import proofs.«01_k».proof.Defs
public import proofs.«01_k».proof.Proof.Gen.Kernel16Ideal.Frame
public import proofs.«01_k».proof.Proof.Gen.Reference16Ideal
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel16Ideal.Product

open Cert.Kernel16Ideal Cert.Kernel16Ideal.Gen

variable (m : (ℓ : Loc nD τ sig) → Buf (Elt Ideal) ℓ)

/-- The block of every window at every grid point: point `t` computes row block `t` with the whole weight. -/
theorem idx : ∀ t : Fin cfg0.N, win0_0.index t = ![t.val, 0] ∧ win0_1.index t = ![0, 0]
    ∧ win0_2.index t = ![t.val, 0] :=
  (by decide +kernel : ∀ t : Fin grid0.N, _)

/-- The reference's result. -/
def result (a : FVec Ideal S8192x1024 .bf16) (b : FVec Ideal S128x1024 .bf16) : FVec Ideal S8192x128 .f32 :=
  Host.dotGeneral Cert.Reference16Ideal.dot_S8192x1024_S1024x128_S8192x128_1_0_0_1_n_n none (extf .f32 a Cert.Reference16Ideal.Facts₀.bitsLt_bf16_f32)
    (transpose Cert.Reference16Ideal.S1024x128 [1, 0] (extf .f32 b Cert.Reference16Ideal.Facts₀.bitsLt_bf16_f32) Cert.Reference16Ideal.Facts₀.transposes_S128x1024_S1024x128_1_0)

/-- A block's product at an element is the whole product at the element's place, the blocks being the arrays' there. -/
theorem block (x0 : FVec Ideal S1024x1024 .bf16) (x1 : FVec Ideal S128x1024 .bf16) (a : FVec Ideal S8192x1024 .bf16)
    (b : FVec Ideal S128x1024 .bf16) (r : Fin 1024) (l : Fin 128) (R : Fin 8192)
    (h0 : ∀ k, x0 (ix2 r k) = a (ix2 R k)) (h1 : ∀ k, x1 (ix2 l k) = b (ix2 l k)) :
    k0_pay1 (F := Ideal) x0 x1 (ix2 r l) = result a b (ix2 R l) := by
  pointwise [k0_pay1, result, h0, h1]

/-- The result array is the reference's. -/
theorem final (c : Dev nD) : (dats m 0 c).arrAt 2 (cfgs 0).N
    = result (m ((c : Thread nD τ).loc main_arg0)) (m ((c : Thread nD τ).loc main_arg1)) := by
  refine (dats m 0 c).arrAt_eq_of_covers 2 _ (by decide +kernel) fun t hf y => ?_
  have hN := lt_of_lt_of_eq t.isLt N_0
  have y0 : (y 0 : ℕ) < 1024 := (y 0).isLt
  have e : ((cfg0.win 2).blk t).view.emb y = ix2 (⟨t.val * 1024 + y 0, by omega⟩ : Fin 8192) (y 1) := by
    blk_ext [idx t]
  rw [e]
  blk_simp; rw [after0_2]; unfold out0_2; frame_out
  refine (congrArg _ (eq_ix2 y)).trans (block _ _ _ _ (y 0) (y 1) _ (fun k => ?_) (fun k => ?_)) <;>
    blk_ext [iblk, V, idx t]

/-- The kernel's run and the reference's leave the same product. -/
theorem algebraic : Cert.algebraic_Kernel16Ideal_Reference16Ideal := by
  pair_intro
  · run_from Cert.Kernel16Ideal.Gen.run_main m g
  · hlo_run
    exact (final m c).symm

end Cert.Kernel16Ideal.Product

end
-- ==== Proof.InProjDtDw.lean ====
/- Hand-written, untrusted: the product `in_proj_dt_dw` over the extended reals. -/
module

public import proofs.«01_k».proof.Defs
public import proofs.«01_k».proof.Proof.Gen.Kernel17Ideal.Frame
public import proofs.«01_k».proof.Proof.Gen.Reference17Ideal
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel17Ideal.Product

open Cert.Kernel17Ideal Cert.Kernel17Ideal.Gen

variable (m : (ℓ : Loc nD τ sig) → Buf (Elt Ideal) ℓ)

/-- The block of every window at every grid point: the sum is taken in 8 parts, one after the other, for each block of the
    result. -/
theorem idx : ∀ t : Fin cfg0.N, win0_0.index t = ![t.val % 8, t.val / 8] ∧ win0_1.index t = ![t.val % 8, 0]
    ∧ win0_2.index t = ![t.val / 8, 0] :=
  (by decide +kernel : ∀ t : Fin grid0.N, _)

/-- The reference's result. -/
def result (a : FVec Ideal S8192x128 .f32) (b : FVec Ideal S8192x1024 .bf16) : FVec Ideal S128x1024 .f32 :=
  transpose Cert.Reference17Ideal.S128x1024 [1, 0] (transpose Cert.Reference17Ideal.S1024x128 [1, 0]
    (Host.dotGeneral Cert.Reference17Ideal.dot_S8192x128_S8192x1024_S128x1024_0_0_1_1_n_n none a (extf .f32 b Cert.Reference17Ideal.Facts₀.bitsLt_bf16_f32))
    Cert.Reference17Ideal.Facts₀.transposes_S128x1024_S1024x128_1_0) Cert.Reference17Ideal.Facts₀.transposes_S1024x128_S128x1024_1_0

/-- Part `s` of an element's sum. -/
def part (a : FVec Ideal S8192x128 .f32) (b : FVec Ideal S8192x1024 .bf16) (R : Fin 128) (l : Fin 1024) (s : Fin 8) : EReal :=
  ∑ k : Fin 1024, a (ix2 (⟨s * 1024 + k, by omega⟩ : Fin 8192) R) * b (ix2 (⟨s * 1024 + k, by omega⟩ : Fin 8192) l)

/-- The same at a number, zero past the last part. -/
def partAt (a : FVec Ideal S8192x128 .f32) (b : FVec Ideal S8192x1024 .bf16) (R : Fin 128) (l : Fin 1024) (s : ℕ) : EReal :=
  if h : s < 8 then part a b R l ⟨s, h⟩ else 0

theorem partAt_val (a : FVec Ideal S8192x128 .f32) (b : FVec Ideal S8192x1024 .bf16) (R : Fin 128) (l : Fin 1024) (s : Fin 8) :
    partAt a b R l s.val = part a b R l s := dif_pos s.isLt

/-- The reference's element is its parts in order. -/
theorem result_parts (a : FVec Ideal S8192x128 .f32) (b : FVec Ideal S8192x1024 .bf16) (R : Fin 128) (l : Fin 1024) :
    result a b (ix2 R l) = ∑ s ∈ Finset.range 8, partAt a b R l s := by
  rw [Finset.sum_range]
  pointwise [result, partAt_val, part]
  exact (Fin.sum_mul_add_congr fun s k hl => rfl).symm

/-- A block's product at an element is the element's part there, the blocks being the arrays' there. -/
theorem block (x0 : FVec Ideal S1024x128 .f32) (x1 : FVec Ideal S1024x1024 .bf16) (a : FVec Ideal S8192x128 .f32)
    (b : FVec Ideal S8192x1024 .bf16) (r : Fin 128) (l : Fin 1024) (R : Fin 128) (s : Fin 8)
    (h0 : ∀ k : Fin 1024, x0 (ix2 k r) = a (ix2 (⟨s * 1024 + k, by omega⟩ : Fin 8192) R))
    (h1 : ∀ k : Fin 1024, x1 (ix2 k l) = b (ix2 (⟨s * 1024 + k, by omega⟩ : Fin 8192) l)) :
    k0_pay1 (F := Ideal) x0 x1 (ix2 r l) = part a b R l s := by
  pointwise [k0_pay1, part, h0, h1]

/-- The product of the blocks of a grid point is its part of the sum. -/
theorem product (c : Dev nD) (t : Fin cfg0.N) (y : S128x1024.Idx) (s : Fin 8) (R : Fin 128) (h : t.val % 8 = s)
    (hR : R.val = t.val / 8 * 128 + y 0) :
    k0_pay1 (F := Ideal) (iblk m c 0 t) (iblk m c 1 t) y = part (m ((c : Thread nD τ).loc main_arg0)) (m ((c : Thread nD τ).loc main_arg1)) R (y 1) s := by
  refine (congrArg _ (eq_ix2 y)).trans (block _ _ _ _ (y 0) (y 1) R s (fun k => ?_) fun k => ?_) <;>
    blk_ext [iblk, V, idx t]

/-- The point before. -/
def prev (t : Fin cfg0.N) : Fin cfg0.N := ⟨t.val - 1, lt_of_le_of_lt (Nat.sub_le _ _) t.isLt⟩

theorem prev_val (t : Fin cfg0.N) : (prev t).val = t.val - 1 := rfl

/-- The first point of a block leaves its product in the accumulator. -/
theorem scratch_first (c : Dev nD) (t : Fin cfg0.N) (h : t.val % 8 = 0) (y : S128x1024.Idx) :
    (outsAt0 m c t.val t.isLt).2 y = k0_pay1 (F := Ideal) (iblk m c 0 t) (iblk m c 1 t) y := by
  rw [outsAt0_A m c t h (by omega) (by omega)]; dsimp only; frame_out
  pointwise [k0_pay2]

/-- A point between adds its product to the accumulator. -/
theorem scratch_next (c : Dev nD) (t : Fin cfg0.N) (h : 1 ≤ t.val % 8 ∧ t.val % 8 ≤ 6) (y : S128x1024.Idx) :
    (outsAt0 m c t.val t.isLt).2 y = (outsAt0 m c (prev t).val (prev t).isLt).2 y
      + k0_pay1 (F := Ideal) (iblk m c 0 t) (iblk m c 1 t) y := by
  rw [outsAt0_B m c t (by omega) h (by omega)]; dsimp only; frame_out
  pointwise [k0_pay3]
  exact congrArg (· + k0_pay1 (F := Ideal) _ _ y) (congrFun (read_unread_whole cc0_scratch0 _ _) y)

/-- The last point of a block leaves the accumulator and its product in the result's block. -/
theorem out_last (c : Dev nD) (t : Fin cfg0.N) (h : t.val % 8 = 7) (y : S128x1024.Idx) :
    (outsAt0 m c t.val t.isLt).1 y = (outsAt0 m c (prev t).val (prev t).isLt).2 y
      + k0_pay1 (F := Ideal) (iblk m c 0 t) (iblk m c 1 t) y := by
  rw [outsAt0_C m c t (by omega) (by omega) h]; dsimp only; frame_out
  pointwise [k0_pay4]
  exact congrArg (· + k0_pay1 (F := Ideal) _ _ y) (congrFun (read_unread_whole cc0_scratch0 _ _) y)

/-- The accumulator after a point that is not the last of its block: the parts so far. -/
theorem scratch_sum (c : Dev nD) (y : S128x1024.Idx) (R : Fin 128) (j : ℕ) : ∀ t : Fin cfg0.N, t.val % 8 = j → j < 7 →
    R.val = t.val / 8 * 128 + y 0 → (outsAt0 m c t.val t.isLt).2 y
      = ∑ s ∈ Finset.range (j + 1), partAt (m ((c : Thread nD τ).loc main_arg0)) (m ((c : Thread nD τ).loc main_arg1)) R (y 1) s := by
  induction j with intro t ht hj hR
  | zero => rw [scratch_first m c t ht y, Finset.sum_range_one, product m c t y ⟨0, by omega⟩ R ht hR]; exact (partAt_val _ _ _ _ ⟨0, by omega⟩).symm
  | succ j ih => rw [scratch_next m c t (by omega) y, ih (prev t) (by rw [prev_val]; omega) (by omega) (by rw [prev_val]; omega),
      Finset.sum_range_succ _ (j + 1), product m c t y ⟨j + 1, by omega⟩ R ht hR]; exact congrArg (_ + ·) (partAt_val _ _ _ _ ⟨j + 1, by omega⟩).symm

/-- The result array is the reference's. -/
theorem final (c : Dev nD) : (dats m 0 c).arrAt 2 (cfgs 0).N
    = result (m ((c : Thread nD τ).loc main_arg0)) (m ((c : Thread nD τ).loc main_arg1)) := by
  refine (dats m 0 c).arrAt_eq_of_covers 2 _ (by decide +kernel) fun t hf y => ?_
  have h3 : t.val % 8 = 7 := (flush0_2 t).mp hf
  have hN := lt_of_lt_of_eq t.isLt N_0
  have y0 : (y 0 : ℕ) < 128 := (y 0).isLt
  have e : ((cfg0.win 2).blk t).view.emb y = ix2 (⟨t.val / 8 * 128 + y 0, by omega⟩ : Fin 128) (y 1) := by
    blk_ext [idx t]
  rw [e]
  blk_simp; rw [after0_2]
  refine Eq.trans ?_ (result_parts _ _ _ _).symm
  rw [out_last m c t h3, scratch_sum m c y ⟨t.val / 8 * 128 + y 0, by omega⟩ 6 (prev t) (by rw [prev_val]; omega) (by omega) (by rw [prev_val]; dsimp only; omega),
    Finset.sum_range_succ _ 7, product m c t y ⟨7, by omega⟩ ⟨t.val / 8 * 128 + y 0, by omega⟩ h3 rfl]
  exact congrArg (_ + ·) (partAt_val _ _ _ _ ⟨7, by omega⟩).symm

/-- The kernel's run and the reference's leave the same product. -/
theorem algebraic : Cert.algebraic_Kernel17Ideal_Reference17Ideal := by
  pair_intro
  · run_from Cert.Kernel17Ideal.Gen.run_main m g
  · hlo_run
    exact (final m c).symm

end Cert.Kernel17Ideal.Product

end
-- ==== Proof.InProjDtDx.lean ====
/- Hand-written, untrusted: the product `in_proj_dt_dx` over the extended reals. -/
module

public import proofs.«01_k».proof.Defs
public import proofs.«01_k».proof.Proof.Gen.Kernel18Ideal.Frame
public import proofs.«01_k».proof.Proof.Gen.Reference18Ideal
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel18Ideal.Product

open Cert.Kernel18Ideal Cert.Kernel18Ideal.Gen

variable (m : (ℓ : Loc nD τ sig) → Buf (Elt Ideal) ℓ)

/-- The block of every window at every grid point: point `t` computes row block `t` with the whole weight. -/
theorem idx : ∀ t : Fin cfg0.N, win0_0.index t = ![t.val, 0] ∧ win0_1.index t = ![0, 0]
    ∧ win0_2.index t = ![t.val, 0] :=
  (by decide +kernel : ∀ t : Fin grid0.N, _)

/-- The reference's result. -/
def result (a : FVec Ideal S8192x128 .f32) (b : FVec Ideal S128x1024 .bf16) : FVec Ideal S8192x1024 .f32 :=
  Host.dotGeneral Cert.Reference18Ideal.dot_S8192x128_S1024x128_S8192x1024_1_1_0_0_n_n none a
    (transpose Cert.Reference18Ideal.S1024x128 [1, 0] (extf .f32 b Cert.Reference18Ideal.Facts₀.bitsLt_bf16_f32) Cert.Reference18Ideal.Facts₀.transposes_S128x1024_S1024x128_1_0)

/-- A block's product at an element is the whole product at the element's place, the blocks being the arrays' there. -/
theorem block (x0 : FVec Ideal S1024x128 .f32) (x1 : FVec Ideal S128x1024 .bf16) (a : FVec Ideal S8192x128 .f32)
    (b : FVec Ideal S128x1024 .bf16) (r : Fin 1024) (l : Fin 1024) (R : Fin 8192)
    (h0 : ∀ k, x0 (ix2 r k) = a (ix2 R k)) (h1 : ∀ k, x1 (ix2 k l) = b (ix2 k l)) :
    k0_pay1 (F := Ideal) x0 x1 (ix2 r l) = result a b (ix2 R l) := by
  pointwise [k0_pay1, result, h0, h1]

/-- The result array is the reference's. -/
theorem final (c : Dev nD) : (dats m 0 c).arrAt 2 (cfgs 0).N
    = result (m ((c : Thread nD τ).loc main_arg0)) (m ((c : Thread nD τ).loc main_arg1)) := by
  refine (dats m 0 c).arrAt_eq_of_covers 2 _ (by decide +kernel) fun t hf y => ?_
  have hN := lt_of_lt_of_eq t.isLt N_0
  have y0 : (y 0 : ℕ) < 1024 := (y 0).isLt
  have e : ((cfg0.win 2).blk t).view.emb y = ix2 (⟨t.val * 1024 + y 0, by omega⟩ : Fin 8192) (y 1) := by
    blk_ext [idx t]
  rw [e]
  blk_simp; rw [after0_2]; unfold out0_2; frame_out
  refine (congrArg _ (eq_ix2 y)).trans (block _ _ _ _ (y 0) (y 1) _ (fun k => ?_) (fun k => ?_)) <;>
    blk_ext [iblk, V, idx t]

/-- The kernel's run and the reference's leave the same product. -/
theorem algebraic : Cert.algebraic_Kernel18Ideal_Reference18Ideal := by
  pair_intro
  · run_from Cert.Kernel18Ideal.Gen.run_main m g
  · hlo_run
    exact (final m c).symm

end Cert.Kernel18Ideal.Product

end
-- ==== Proof.Norm.lean ====
/- Hand-written, untrusted: what a norm's backward call leaves in its two result arrays, over the extended reals, and that it is
   what the reference's `jax.vjp` of the norm computes. -/
module

public import proofs.«01_k».proof.Defs
public import proofs.«01_k».proof.Proof.NormMath
public import proofs.«01_k».proof.Proof.Gen.Kernel19Ideal.Frame
public import proofs.«01_k».proof.Proof.Gen.Reference19Ideal.Read
public import Idealize.ShloMosaic.Lib.Pipeline.ValueKit
public import Idealize.ShloMosaic.Lib.Pointwise
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel19Ideal.Norm

open Cert.Kernel19Ideal Cert.Kernel19Ideal.Gen

/-! ## One row -/

section rows
open Cert.Reference19Ideal.Read

variable (x0 x2 x3 : FVec Ideal S8192x1024 .f32) (x1 : FVec Ideal S1x1024 .f32) (R : Fin 8192)
  (a0 a2 a3 : FVec Ideal S512x1024 .f32) (a1 : FVec Ideal S1x1024 .f32) (r : Fin 512) (l : Fin 1024)

/-- The reference's gradient of a token, with the residual's added. -/
theorem ref_dx : val_main_v34 (F := Ideal) x0 x1 x2 x3 (ix2 R l)
    = x3 (ix2 R l) + (x2 (ix2 R l) * x1 (ix2 0 l) * NormMath.rs (fun k => x0 (ix2 R k))
        + x0 (ix2 R l) * NormMath.through (fun k => x0 (ix2 R k)) (fun k => x2 (ix2 R k) * x1 (ix2 0 k))
        + NormMath.through (fun k => x0 (ix2 R k)) (fun k => x2 (ix2 R k) * x1 (ix2 0 k)) * x0 (ix2 R l)) := by
  pointwise [val_main_v34, val_main_v33, val_main_v32, val_main_v31, val_main_v30, val_main_v29, val_main_v28, val_main_v27,
    val_main_v26, val_main_cst_5, val_main_v25, val_main_v24, val_main_v23, val_main_v22, val_main_v21, val_main_v20,
    val_main_v19, val_main_v18, val_main_v10, val_main_v9, val_main_cst_2, val_main_v8, val_main_v7, val_main_v6, val_main_v5,
    val_main_cst_1, val_main_v4, val_main_v3, val_main_cst_0, val_main_v2, val_main_v1, val_main_cst, val_main_v0,
    val_main_cst_4, val_main_cst_6]
  simp only [Fin.sum_univ_one]
  rfl

/-- The reference's weight gradient: the normed rows times the incoming gradient, summed over the tokens. -/
theorem ref_dw : val_main_v17 (F := Ideal) x0 x2 (ix2 0 l)
    = ∑ R : Fin 8192, x0 (ix2 R l) * NormMath.rs (fun k => x0 (ix2 R k)) * x2 (ix2 R l) := by
  pointwise [val_main_v17, val_main_v16, val_main_v15, val_main_v12, val_main_v11, val_main_v7, val_main_v6, val_main_v5,
    val_main_cst_1, val_main_v4, val_main_v3, val_main_cst_0, val_main_v2, val_main_v1, val_main_cst, val_main_v0,
    val_main_cst_3]
  rfl

/-- The body's gradient of a row. -/
theorem body_dx : k0_pay4 (F := Ideal) a0 a2 a1 a3 (ix2 r l)
    = a3 (ix2 r l) + NormMath.rs (fun k => a0 (ix2 r k)) * (a2 (ix2 r l) * a1 (ix2 0 l)
        - a0 (ix2 r l) * NormMath.rs (fun k => a0 (ix2 r k)) * Ideal.div (∑ k, a2 (ix2 r k) * a1 (ix2 0 k)
            * (a0 (ix2 r k) * NormMath.rs (fun k => a0 (ix2 r k)))) NormMath.len) := by
  pointwise [k0_pay4, k0_pay3, k0_pay2]
  rfl

/-- What the body adds to the weight gradient: the block's normed rows times the incoming gradient, summed. -/
theorem body_dw : k0_pay5 (F := Ideal) a0 a2 (ix2 0 l)
    = ∑ r : Fin 512, a2 (ix2 r l) * (a0 (ix2 r l) * NormMath.rs (fun k => a0 (ix2 r k))) := by
  pointwise [k0_pay5, k0_pay3, k0_pay2]
  rfl

/-- The body's gradient of a row is the reference's, on rows that agree. -/
theorem dx_row (h0 : ∀ l, a0 (ix2 r l) = x0 (ix2 R l)) (h1 : ∀ l, a1 (ix2 0 l) = x1 (ix2 0 l))
    (h2 : ∀ l, a2 (ix2 r l) = x2 (ix2 R l)) (h3 : ∀ l, a3 (ix2 r l) = x3 (ix2 R l)) :
    k0_pay4 (F := Ideal) a0 a2 a1 a3 (ix2 r l) = val_main_v34 (F := Ideal) x0 x1 x2 x3 (ix2 R l) := by
  rw [body_dx, ref_dx]
  simp only [h0, h1, h2, h3]
  exact congrArg _ (NormMath.grad_row (fun k => x0 (ix2 R k)) (fun k => x2 (ix2 R k) * x1 (ix2 0 k)) l)

end rows

/-! ## The result arrays -/

section results
open Cert.Reference19Ideal.Read

variable (m : (ℓ : Loc nD τ sig) → Buf (Elt Ideal) ℓ)

/-- The block of every window at every grid point: the row windows move down by one block per point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] :=
  (by decide +kernel : ∀ t : Fin grid0.N, _)

/-- The array row that row `r` of a point's block is. -/
def row (t : Fin cfg0.N) (r : Fin 512) : Fin 8192 := ⟨t.val * 512 + r, by have := lt_of_lt_of_eq t.isLt N_0; omega⟩

variable (c : Dev nD)

/-- The input's block at a grid point holds the point's 512 rows. -/
theorem x_block (t : Fin cfg0.N) (r : Fin 512) (l : Fin 1024) : (show FVec Ideal S512x1024 .f32 from iblk m c 0 t) (ix2 r l)
    = (show FVec Ideal S8192x1024 .f32 from m ((c : Thread nD τ).loc main_arg0)) (ix2 (row t r) l) := by
  unfold row; blk_ext [iblk, V, idx t]

/-- The incoming gradient's block at a grid point holds the point's 512 rows. -/
theorem dy_block (t : Fin cfg0.N) (r : Fin 512) (l : Fin 1024) : (show FVec Ideal S512x1024 .f32 from iblk m c 2 t) (ix2 r l)
    = (show FVec Ideal S8192x1024 .f32 from m ((c : Thread nD τ).loc main_arg2)) (ix2 (row t r) l) := by
  unfold row; blk_ext [iblk, V, idx t]

/-- The gradient of a token is the reference's. -/
theorem final_dx : (dats m 0 c).arrAt 4 (cfgs 0).N
    = val_main_v34 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  have e : ((cfg0.win 4).blk t).view.emb y = ix2 (row t (y 0)) (y 1) := by unfold row; blk_ext [idx t]
  rw [e]
  blk_simp; rw [after0_4]
  have hN := lt_of_lt_of_eq t.isLt N_0
  have hw : ∀ l, (show FVec Ideal S1x1024 .f32 from iblk m c 1 t) (ix2 0 l)
      = (show FVec Ideal S1x1024 .f32 from m ((c : Thread nD τ).loc main_arg1)) (ix2 0 l) := fun l => by blk_ext [iblk, V, idx t]
  have hr : ∀ r l, (show FVec Ideal S512x1024 .f32 from iblk m c 3 t) (ix2 r l)
      = (show FVec Ideal S8192x1024 .f32 from m ((c : Thread nD τ).loc main_arg3)) (ix2 (row t r) l) := fun r l => by
    unfold row; blk_ext [iblk, V, idx t]
  have hs := (congrArg _ (eq_ix2 y)).trans
    (dx_row _ _ _ _ _ _ _ _ _ (y 0) (y 1) (x_block m c t _) hw (dy_block m c t _) (hr _))
  by_cases h : t.val % 16 = 0
  · rw [outsAt0_A m c t h (by omega)]; dsimp only; frame_out; exact hs
  · rw [outsAt0_B m c t h (by omega)]; dsimp only; frame_out; exact hs

/-- The input's and the incoming gradient's arrays, as vectors. -/
abbrev X : FVec Ideal S8192x1024 .f32 := m ((c : Thread nD τ).loc main_arg0)
abbrev DY : FVec Ideal S8192x1024 .f32 := m ((c : Thread nD τ).loc main_arg2)

/-- What one grid point adds to the weight gradient: its 512 rows' share of the sum. -/
def part (t : Fin cfg0.N) (j : S1x1024.Idx) : EReal :=
  ∑ r : Fin 512, X m c (ix2 (row t r) (j 1)) * NormMath.rs (fun k => X m c (ix2 (row t r) k)) * DY m c (ix2 (row t r) (j 1))

/-- The body's row sum is the point's part. -/
theorem part_eq (t : Fin cfg0.N) (j : S1x1024.Idx) : k0_pay5 (F := Ideal) (iblk m c 0 t) (iblk m c 2 t) j = part m c t j := by
  idx_vars j
  obtain rfl : j0 = 0 := by omega
  refine (body_dw _ _ _).trans (Finset.sum_congr rfl fun r _ => ?_)
  simp only [x_block m c t r, dy_block m c t r]
  exact mul_comm (G := EReal) _ _

/-- The parts of all the points are the reference's weight gradient. -/
theorem parts_eq (j : S1x1024.Idx) : ∑ t : Fin cfg0.N, part m c t j = val_main_v17 (F := Ideal) (X m c) (DY m c) j := by
  idx_vars j
  obtain rfl : j0 = 0 := by omega
  rw [ref_dw]
  exact Fin.sum_mul_add_congr fun s k hl => rfl

/-- The weight gradient is the reference's. -/
theorem final_dw : (dats m 0 c).arrAt 5 (cfgs 0).N = val_main_v17 (F := Ideal) (X m c) (DY m c) := by
  refine (dats m 0 c).arrAt_eq_of_after_last 5 t0_15 (by decide +kernel) _ fun j => ?_
  blk_simp
  rw [after0_5, Pipeline.eq_sum_fin_of_reset_step_apply_last (fun n h => (outsAt0 m c n h).2) 16 (fun _ => (0 : EReal)) (part m c)
    (fun t h j => by
      have hN := lt_of_lt_of_eq t.isLt N_0
      rw [outsAt0_A m c t h (by omega)]; frame_out; exact (part_eq m c t j).trans (zero_add (part m c t j)).symm)
    (fun t h j => by
      have hN := lt_of_lt_of_eq t.isLt N_0
      rw [outsAt0_B m c t h (by omega)]; frame_out; pointwise [k0_pay1]
      exact congrArg _ (part_eq m c t j))
    (le_of_eq N_0) t0_15 rfl j]
  exact (zero_add (_ : EReal)).trans (parts_eq m c j)

end results

/-! ## The claims -/

/-- Every run of the reference ends, with its arguments unchanged; it declares no semaphore. -/
theorem frame_ref : Cert.quiescent_Reference19Ideal := by
  intro m ρ _
  exact (θ_run Cert.Reference19Ideal.defs _ _).mono (fun r h => ⟨fun c => (h c).2.2,
    Idealize.ShloMosaic.sem_eq_zero_of_no_sems (by decide) r.2⟩) (Cert.Reference19Ideal.Value.run m ρ)

/-- The kernel's run and the reference's leave the same two gradients. -/
theorem algebraic : Cert.algebraic_Kernel19Ideal_Reference19Ideal := by
  pair_intro
  · run_from Cert.Kernel19Ideal.Gen.run_main m g
  · refine (θ_run Cert.Reference19Ideal.defs _ _).mono
      (fun r h c => ⟨(h c).1.trans ?_, (h c).2.1.trans ?_, (h c).2.2⟩) (Cert.Reference19Ideal.Value.run m' g')
    · obtain ⟨e0, e1, e2, e3⟩ := hagree c
      rw [Cert.Reference19Ideal.Read.val_main_v34_eq, e0, e1, e2, e3]
      exact (final_dx m c).symm
    · obtain ⟨e0, e1, e2, e3⟩ := hagree c
      rw [Cert.Reference19Ideal.Read.val_main_v17_eq, e0, e2]
      exact (final_dw m c).symm

end Cert.Kernel19Ideal.Norm

end

end
-- ==== Proof.Adam.lean ====
module

public import proofs.«01_k».proof.Proof.Gen.Kernel20Ideal.Value
public import proofs.«01_k».proof.Proof.Gen.Kernel21Ideal.Value
public import proofs.«01_k».proof.Proof.Gen.Kernel22Ideal.Value
public import proofs.«01_k».proof.Proof.Gen.Kernel23Ideal.Value
public import proofs.«01_k».proof.Proof.Gen.Kernel24Ideal.Value
public import proofs.«01_k».proof.Proof.Gen.Reference20Ideal
public import proofs.«01_k».proof.Proof.Gen.Reference21Ideal
public import proofs.«01_k».proof.Proof.Gen.Reference22Ideal
public import proofs.«01_k».proof.Proof.Gen.Reference23Ideal
public import proofs.«01_k».proof.Proof.Gen.Reference24Ideal
public import proofs.«01_k».proof.Defs
public import Idealize.ShloMosaic.Lib.Claim
public import Idealize.ShloMosaic.Lib.Pointwise

/-! # The optimiser on the large weights

Each call updates one weight tile by tile, every element alone, and its three results are the whole-array update's. -/

@[expose] public section

noncomputable section

namespace Cert.Adam

open Idealize.ShloMosaic Idealize.SL.Sem

/-- The change and the two new moments of the output projection's weight, and of the first branch projection's, which has its shape. -/
theorem algebraic_20 : Cert.algebraic_Kernel20Ideal_Reference20Ideal := by
  pair_intro
  · run_from Cert.Kernel20Ideal.Value.run m g
  · hlo_run <;> rfl

/-- The change and the two new moments of the second branch projection's weight. -/
theorem algebraic_21 : Cert.algebraic_Kernel21Ideal_Reference21Ideal := by
  pair_intro
  · run_from Cert.Kernel21Ideal.Value.run m g
  · hlo_run <;> rfl

/-- The change and the two new moments of the down projection's weight. -/
theorem algebraic_22 : Cert.algebraic_Kernel22Ideal_Reference22Ideal := by
  pair_intro
  · run_from Cert.Kernel22Ideal.Value.run m g
  · hlo_run <;> rfl

/-- The change and the two new moments of the up projection's weight, in four tiles of rows. -/
theorem algebraic_23 : Cert.algebraic_Kernel23Ideal_Reference23Ideal := by
  pair_intro
  · run_from Cert.Kernel23Ideal.Value.run m g
  · hlo_run <;> rfl

/-- The change and the two new moments of the shared projection's weight. -/
theorem algebraic_24 : Cert.algebraic_Kernel24Ideal_Reference24Ideal := by
  pair_intro
  · run_from Cert.Kernel24Ideal.Value.run m g
  · hlo_run <;> rfl

end Cert.Adam

end

end
-- ==== Proof.MergeFwd.lean ====
/- Hand-written, untrusted: what the gated merge's forward call leaves in its three result arrays, over the extended reals, and
   that it is what the reference computes. -/
module

public import proofs.«01_k».proof.Defs
public import proofs.«01_k».proof.Proof.Gen.Kernel25Ideal.Frame
public import proofs.«01_k».proof.Proof.Gen.Reference25Ideal.Read
public import Idealize.ShloMosaic.Lib.Pipeline.ValueKit
public import Idealize.ShloMosaic.Lib.Pointwise
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel25Ideal.Merge

open Cert.Kernel25Ideal Cert.Kernel25Ideal.Gen

/-! ## One row of a block against one row of the arrays -/

section rows
open Cert.Reference25Ideal.Read

variable (x0 : FVec Ideal S8192x1024 .bf16) (x1 : FVec Ideal S8192x2048 .bf16) (x2 : FVec Ideal S8192x9216 .bf16)
  (x3 : FVec Ideal S2x1024 .f32) (x4 w4 : FVec Ideal S1024x1024 .bf16) (x5 w5 : FVec Ideal S2048x1024 .bf16) (R : Fin 8192)
  (a : FVec Ideal S512x1024 .bf16) (b P : FVec Ideal S512x2048 .bf16) (ba bb : FVec Ideal S1x1024 .f32) (r : Fin 512) (l : Fin 1024)

/-- The first branch's projection. -/
theorem ya_row (ha : ∀ l, a (ix2 r l) = x0 (ix2 R l)) (hw : ∀ i j, w4 (ix2 i j) = x4 (ix2 i j)) :
    k0_pay3 (F := Ideal) a w4 (ix2 r l) = val_main_v2 (F := Ideal) x0 x4 (ix2 R l) := by
  pointwise [k0_pay3, val_main_v2, val_main_v0, val_main_v1, zero_add, hw, ha]

/-- The second branch's projection. -/
theorem yb_row (hb : ∀ l, b (ix2 r l) = x1 (ix2 R l)) (hw : ∀ i j, w5 (ix2 i j) = x5 (ix2 i j)) :
    k0_pay4 (F := Ideal) b w5 (ix2 r l) = val_main_v5 (F := Ideal) x1 x5 (ix2 R l) := by
  pointwise [k0_pay4, val_main_v5, val_main_v3, val_main_v4, zero_add, hw, hb]

/-- The gated sum of the two projections. -/
theorem merged_row (ha : ∀ l, a (ix2 r l) = x0 (ix2 R l)) (hw4 : ∀ i j, w4 (ix2 i j) = x4 (ix2 i j))
    (hb : ∀ l, b (ix2 r l) = x1 (ix2 R l)) (hw5 : ∀ i j, w5 (ix2 i j) = x5 (ix2 i j))
    (hP : ∀ l : Fin 2048, P (ix2 r l) = x2 (ix2 R ⟨l, by omega⟩))
    (hba : ∀ l, ba (ix2 0 l) = x3 (ix2 0 l)) (hbb : ∀ l, bb (ix2 0 l) = x3 (ix2 1 l)) :
    k0_pay5 (F := Ideal) a w4 b w5 P ba bb (ix2 r l) = val_main_v35 (F := Ideal) x0 x1 x2 x3 x4 x5 (ix2 R l) := by
  pointwise [k0_pay5, val_main_v35, val_main_v34, val_main_v33, val_main_v32, val_main_v31, val_main_v30, val_main_v29,
    val_main_v28, val_main_v27, val_main_v26, val_main_v25, val_main_v24, val_main_v23, val_main_v22, val_main_v21,
    val_main_v20, val_main_v19, val_main_v18, val_main_v17, val_main_v16, val_main_v15, val_main_v14, val_main_v13,
    val_main_v12, val_main_v11, val_main_v10, val_main_v9, val_main_v8, val_main_v7, val_main_v6, val_main_cst, val_main_cst_0,
    val_main_cst_1, val_main_cst_2, zero_sub, hP, hba, hbb, ya_row x0 x4 w4 R a r l ha hw4, yb_row x1 x5 w5 R b r l hb hw5]

end rows

/-! ## The result arrays -/

section results
open Cert.Reference25Ideal.Read

variable (m : (ℓ : Loc nD τ sig) → Buf (Elt Ideal) ℓ) (c : Dev nD)

/-- The block of every window at every grid point: the row windows move down by one block per point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0]
    ∧ win0_6.index t = ![t.val, 0] ∧ win0_7.index t = ![t.val, 0] ∧ win0_8.index t = ![t.val, 0] :=
  (by decide +kernel : ∀ t : Fin grid0.N, _)

/-- The array row that row `r` of a point's block is. -/
def row (t : Fin cfg0.N) (r : Fin 512) : Fin 8192 := ⟨t.val * 512 + r, by have := lt_of_lt_of_eq t.isLt N_0; omega⟩

/-- The first branch's block at a grid point holds the point's 512 rows. -/
theorem a_block (t : Fin cfg0.N) (r : Fin 512) (l : Fin 1024) : (show FVec Ideal S512x1024 .bf16 from iblk m c 0 t) (ix2 r l)
    = (show FVec Ideal S8192x1024 .bf16 from m ((c : Thread nD τ).loc main_arg0)) (ix2 (row t r) l) := by
  unfold row; blk_ext [iblk, V, idx t]

/-- The second branch's block at a grid point holds the point's 512 rows. -/
theorem b_block (t : Fin cfg0.N) (r : Fin 512) (l : Fin 2048) : (show FVec Ideal S512x2048 .bf16 from iblk m c 1 t) (ix2 r l)
    = (show FVec Ideal S8192x2048 .bf16 from m ((c : Thread nD τ).loc main_arg1)) (ix2 (row t r) l) := by
  unfold row; blk_ext [iblk, V, idx t]

/-- The projection's block at a grid point holds the first 2048 columns of the point's 512 rows. -/
theorem proj_block (t : Fin cfg0.N) (r : Fin 512) (l : Fin 2048) :
    (show FVec Ideal S512x2048 .bf16 from X0_2 m c t) (ix2 r l)
      = (show FVec Ideal S8192x9216 .bf16 from m ((c : Thread nD τ).loc main_arg2)) (ix2 (row t r) ⟨l, by omega⟩) := by
  show X0_2 m c t (ix2 r l) = _
  unfold X0_2 Pipeline.Window.fill row
  rw [dif_pos (moved0_2 t (ix2 r l))]
  blk_ext [iblk, V, idx t]

/-- The first branch's weight is whole at every grid point. -/
theorem wa_block (t : Fin cfg0.N) (i j : Fin 1024) : (show FVec Ideal S1024x1024 .bf16 from iblk m c 4 t) (ix2 i j)
    = (show FVec Ideal S1024x1024 .bf16 from m ((c : Thread nD τ).loc main_arg4)) (ix2 i j) := by
  blk_ext [iblk, V, idx t]

/-- The second branch's weight is whole at every grid point. -/
theorem wb_block (t : Fin cfg0.N) (i : Fin 2048) (j : Fin 1024) : (show FVec Ideal S2048x1024 .bf16 from iblk m c 5 t) (ix2 i j)
    = (show FVec Ideal S2048x1024 .bf16 from m ((c : Thread nD τ).loc main_arg5)) (ix2 i j) := by
  blk_ext [iblk, V, idx t]

/-- The merged branches are the reference's. -/
theorem final_merged : (dats m 0 c).arrAt 6 (cfgs 0).N
    = val_main_v35 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 6 _ (by decide +kernel) fun t hf y => ?_
  have e : ((cfg0.win 6).blk t).view.emb y = ix2 (row t (y 0)) (y 1) := by unfold row; blk_ext [idx t]
  rw [e]
  blk_simp; rw [after0_6]
  have hba : ∀ l, View.ld (iblk m c 3 t) (Rect.unit ![0, 0] ![1, 1024] inb_S2x1024_S1x1024_0_0) (ix2 0 l)
      = m ((c : Thread nD τ).loc main_arg3) (ix2 0 l) := fun l => by pointwise; blk_ext [iblk, V, idx t]
  have hbb : ∀ l, View.ld (iblk m c 3 t) (Rect.unit ![1, 0] ![1, 1024] inb_S2x1024_S1x1024_1_0) (ix2 0 l)
      = m ((c : Thread nD τ).loc main_arg3) (ix2 1 l) := fun l => by pointwise; blk_ext [iblk, V, idx t]
  unfold outsAt0; dsimp only; frame_out
  exact (congrArg _ (eq_ix2 y)).trans (merged_row _ _ _ _ _ _ _ _ _ _ _ _ _ _ (y 0) (y 1) (a_block m c t _) (wa_block m c t)
    (b_block m c t _) (wb_block m c t) (proj_block m c t _) hba hbb)

/-- The first branch's projection is the reference's. -/
theorem final_ya : (dats m 0 c).arrAt 7 (cfgs 0).N
    = val_main_v36 (F := Ideal) (m ((c : Thread nD τ).loc main_arg0)) (m ((c : Thread nD τ).loc main_arg4)) := by
  refine (dats m 0 c).arrAt_eq_of_covers 7 _ (by decide +kernel) fun t hf y => ?_
  have e : ((cfg0.win 7).blk t).view.emb y = ix2 (row t (y 0)) (y 1) := by unfold row; blk_ext [idx t]
  rw [e]
  blk_simp; rw [after0_7]
  unfold outsAt0; dsimp only; frame_out
  exact (congrArg _ (eq_ix2 y)).trans (ya_row _ _ _ _ _ (y 0) (y 1) (a_block m c t _) (wa_block m c t))

/-- The second branch's projection is the reference's. -/
theorem final_yb : (dats m 0 c).arrAt 8 (cfgs 0).N
    = val_main_v37 (F := Ideal) (m ((c : Thread nD τ).loc main_arg1)) (m ((c : Thread nD τ).loc main_arg5)) := by
  refine (dats m 0 c).arrAt_eq_of_covers 8 _ (by decide +kernel) fun t hf y => ?_
  have e : ((cfg0.win 8).blk t).view.emb y = ix2 (row t (y 0)) (y 1) := by unfold row; blk_ext [idx t]
  rw [e]
  blk_simp; rw [after0_8]
  unfold outsAt0; dsimp only; frame_out
  exact (congrArg _ (eq_ix2 y)).trans (yb_row _ _ _ _ _ (y 0) (y 1) (b_block m c t _) (wb_block m c t))

end results

/-! ## The claims -/

/-- Every run of the reference ends, with its arguments unchanged; it declares no semaphore. -/
theorem frame_ref : Cert.quiescent_Reference25Ideal := by
  intro m ρ _
  exact (θ_run Cert.Reference25Ideal.defs _ _).mono (fun r h => ⟨fun c => (h c).2.2.2,
    Idealize.ShloMosaic.sem_eq_zero_of_no_sems (by decide) r.2⟩) (Cert.Reference25Ideal.Value.run m ρ)

/-- The kernel's run and the reference's leave the same three arrays. -/
theorem algebraic : Cert.algebraic_Kernel25Ideal_Reference25Ideal := by
  pair_intro
  · run_from Cert.Kernel25Ideal.Gen.run_main m g
  · refine (θ_run Cert.Reference25Ideal.defs _ _).mono
      (fun r h c => ⟨(h c).1.trans ?_, (h c).2.1.trans ?_, (h c).2.2.1.trans ?_, (h c).2.2.2⟩)
      (Cert.Reference25Ideal.Value.run m' g')
    · obtain ⟨e0, e1, e2, e3, e4, e5⟩ := hagree c
      rw [Cert.Reference25Ideal.Read.val_main_v35_eq, e0, e1, e2, e3, e4, e5]
      exact (final_merged m c).symm
    · obtain ⟨e0, e1, e2, e3, e4, e5⟩ := hagree c
      rw [Cert.Reference25Ideal.Read.val_main_v36_eq, e0, e4]
      exact (final_ya m c).symm
    · obtain ⟨e0, e1, e2, e3, e4, e5⟩ := hagree c
      rw [Cert.Reference25Ideal.Read.val_main_v37_eq, e1, e5]
      exact (final_yb m c).symm

end Cert.Kernel25Ideal.Merge

end

end
-- ==== Proof.LossHead.lean ====
/- Hand-written, untrusted: what the loss head's call leaves in its three result arrays, over the extended reals, and that it is
   what the reference's `jax.value_and_grad` of the loss computes. -/
module

public import proofs.«01_k».proof.Defs
public import proofs.«01_k».proof.Proof.NormMath
public import proofs.«01_k».proof.Proof.Gen.Kernel26Ideal.Frame
public import proofs.«01_k».proof.Proof.Gen.Reference26Ideal.Read
public import Idealize.ShloMosaic.Lib.Pipeline.ValueKit
public import Idealize.ShloMosaic.Lib.Pointwise
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel26Ideal.Loss

open Cert.Kernel26Ideal Cert.Kernel26Ideal.Gen

/-- One half, as a float's word. -/
def half : EReal := Ideal.ofBits .f32 1056964608#32
/-- One over the length of a row, as a float's word. -/
def inv : EReal := Ideal.ofBits .f32 981467136#32
/-- Two, as a float's word. -/
def two : EReal := Ideal.ofBits .f32 1073741824#32

theorem half_eq : half = ((1 / 2 : ℝ) : EReal) := by
  unfold half; simp [Ideal.ofBits, Ideal.ieee, -EReal.coe_mul]; norm_num

theorem inv_eq : inv = ((1 / 1024 : ℝ) : EReal) := by
  unfold inv; simp [Ideal.ofBits, Ideal.ieee, -EReal.coe_mul]; norm_num

theorem two_eq : two = ((2 : ℝ) : EReal) := by
  unfold two; simp [Ideal.ofBits, Ideal.ieee, -EReal.coe_mul]; norm_num

/-- The derivative of half a mean square is the element over the length. -/
theorem half_square (e : EReal) : Ideal.div (half * 1) NormMath.len * (two * e) = e * inv := by
  rw [half_eq, inv_eq, two_eq, NormMath.len_eq, Ideal.div_coe (show (1024 : ℝ) ≠ 0 by norm_num), mul_one, ← mul_assoc,
    ← EReal.coe_mul, ← EReal.coe_mul, mul_comm]
  congr 2
  norm_num

/-- A row's error: the normed row, times the weight, less the target. -/
def err (x tgt w : Fin 1024 → EReal) (l : Fin 1024) : EReal := x l * NormMath.rs x * w l - tgt l

/-! ## One row -/

section rows
open Cert.Reference26Ideal.Read

variable (x0 x1 : FVec Ideal S8192x1024 .f32) (x2 : FVec Ideal S1x1024 .f32) (R : Fin 8192)
  (a0 a1 : FVec Ideal S512x1024 .f32) (a2 : FVec Ideal S1x1024 .f32) (r : Fin 512) (l : Fin 1024)

/-- A token's error. -/
abbrev E (R : Fin 8192) : Fin 1024 → EReal := err (fun k => x0 (ix2 R k)) (fun k => x1 (ix2 R k)) (fun k => x2 (ix2 0 k))

/-- The reference's error. -/
theorem ref_err : val_main_v15 (F := Ideal) x0 x1 x2 (ix2 R l) = E x0 x1 x2 R l := by
  pointwise [val_main_v15, val_main_v14, val_main_v13, val_main_v12, val_main_v11, val_main_v7, val_main_v6, val_main_v5,
    val_main_cst_1, val_main_v4, val_main_v3, val_main_cst_0, val_main_v2, val_main_v1, val_main_cst, val_main_v0]
  rfl

/-- The reference's loss. -/
theorem ref_loss (k : Fin 128) : val_main_v49 (F := Ideal) x0 x1 x2 (ix2 0 k)
    = half * ∑ R : Fin 8192, Ideal.div (∑ l, E x0 x1 x2 R l * E x0 x1 x2 R l) NormMath.len := by
  pointwise [val_main_v49, val_main_v23, val_main_v22, val_main_v21, val_main_v20, val_main_v19, val_main_v16, val_main_cst_7,
    val_main_cst_6, val_main_cst_5, val_main_cst_4, ref_err]
  rfl

/-- The reference's gradient of the prediction. -/
theorem ref_dy : val_main_v29 (F := Ideal) x0 x1 x2 (ix2 R l) = E x0 x1 x2 R l * inv := by
  rw [← half_square]
  pointwise [val_main_v29, val_main_v28, val_main_v27, val_main_v26, val_main_v25, val_main_v24, val_main_v18, val_main_v17,
    val_main_cst_3, val_main_cst_8, val_main_cst_9, val_main_cst_10, ref_err]
  rfl

/-- The reference's gradient of a token. -/
theorem ref_dx : val_main_v48 (F := Ideal) x0 x1 x2 (ix2 R l)
    = E x0 x1 x2 R l * inv * x2 (ix2 0 l) * NormMath.rs (fun k => x0 (ix2 R k))
        + x0 (ix2 R l) * NormMath.through (fun k => x0 (ix2 R k)) (fun k => E x0 x1 x2 R k * inv * x2 (ix2 0 k))
        + NormMath.through (fun k => x0 (ix2 R k)) (fun k => E x0 x1 x2 R k * inv * x2 (ix2 0 k)) * x0 (ix2 R l) := by
  pointwise [val_main_v48, val_main_v47, val_main_v46, val_main_v45, val_main_v44, val_main_v43, val_main_v42, val_main_v41,
    val_main_v40, val_main_v39, val_main_v38, val_main_v37, val_main_v36, val_main_v35, val_main_v34, val_main_v33,
    val_main_cst_14, val_main_cst_13, val_main_cst_12, val_main_v10, val_main_v9, val_main_cst_2, val_main_v8, val_main_v7,
    val_main_v6, val_main_v5, val_main_cst_1, val_main_v4, val_main_v3, val_main_cst_0, val_main_v2, val_main_v1, val_main_cst,
    val_main_v0, ref_dy]
  simp only [Fin.sum_univ_one]
  rfl

/-- The reference's weight gradient: the normed rows times the gradient of the prediction, summed over the tokens. -/
theorem ref_dw : val_main_v32 (F := Ideal) x0 x1 x2 (ix2 0 l)
    = ∑ R : Fin 8192, x0 (ix2 R l) * NormMath.rs (fun k => x0 (ix2 R k)) * (E x0 x1 x2 R l * inv) := by
  pointwise [val_main_v32, val_main_v31, val_main_v30, val_main_v12, val_main_v11, val_main_v7, val_main_v6, val_main_v5,
    val_main_cst_1, val_main_v4, val_main_v3, val_main_cst_0, val_main_v2, val_main_v1, val_main_cst, val_main_v0,
    val_main_cst_11, ref_dy]
  rfl

/-- The error of a block's row. -/
abbrev e (r : Fin 512) : Fin 1024 → EReal := err (fun k => a0 (ix2 r k)) (fun k => a1 (ix2 r k)) (fun k => a2 (ix2 0 k))

/-- The body's error. -/
theorem body_err : k0_pay7 (F := Ideal) a0 a2 a1 (ix2 r l) = e a0 a1 a2 r l := by
  pointwise [k0_pay7, k0_pay6, k0_pay5]
  rfl

/-- The body's share of the loss. -/
theorem body_loss (k : Fin 128) : k0_pay2 (F := Ideal) (k0_pay8 a0 a2 a1) (ix2 0 k)
    = half * ∑ r : Fin 512, Ideal.div (∑ l, e a0 a1 a2 r l * e a0 a1 a2 r l) NormMath.len := by
  pointwise [k0_pay2, k0_pay8, body_err]
  rfl

/-- The body's gradient of a token. -/
theorem body_dx : k0_pay10 (F := Ideal) a0 a2 a1 (ix2 r l)
    = NormMath.rs (fun k => a0 (ix2 r k)) * (e a0 a1 a2 r l * inv * a2 (ix2 0 l)
        - a0 (ix2 r l) * NormMath.rs (fun k => a0 (ix2 r k)) * Ideal.div (∑ k, e a0 a1 a2 r k * inv * a2 (ix2 0 k)
            * (a0 (ix2 r k) * NormMath.rs (fun k => a0 (ix2 r k)))) NormMath.len) := by
  pointwise [k0_pay10, k0_pay9, k0_pay6, k0_pay5, body_err]
  rfl

/-- What the body adds to the weight gradient. -/
theorem body_dw : k0_pay1 (F := Ideal) (k0_pay6 a0) (k0_pay9 a0 a2 a1) (ix2 0 l)
    = ∑ r : Fin 512, e a0 a1 a2 r l * inv * (a0 (ix2 r l) * NormMath.rs (fun k => a0 (ix2 r k))) := by
  pointwise [k0_pay1, k0_pay9, k0_pay6, k0_pay5, body_err]
  rfl

/-- The body's gradient of a token is the reference's, on rows that agree. -/
theorem dx_row (h0 : ∀ l, a0 (ix2 r l) = x0 (ix2 R l)) (h1 : ∀ l, a1 (ix2 r l) = x1 (ix2 R l))
    (h2 : ∀ l, a2 (ix2 0 l) = x2 (ix2 0 l)) :
    k0_pay10 (F := Ideal) a0 a2 a1 (ix2 r l) = val_main_v48 (F := Ideal) x0 x1 x2 (ix2 R l) := by
  rw [body_dx, ref_dx]
  unfold e E
  simp only [h0, h1, h2]
  exact NormMath.grad_row (fun k => x0 (ix2 R k)) (fun k => E x0 x1 x2 R k * inv * x2 (ix2 0 k)) l

end rows

/-! ## The result arrays -/

section results
open Cert.Reference26Ideal.Read

variable (m : (ℓ : Loc nD τ sig) → Buf (Elt Ideal) ℓ)

/-- The block of every window at every grid point: the row windows move down by one block per point. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] :=
  (by decide +kernel : ∀ t : Fin grid0.N, _)

/-- The array row that row `r` of a point's block is. -/
def row (t : Fin cfg0.N) (r : Fin 512) : Fin 8192 := ⟨t.val * 512 + r, by have := lt_of_lt_of_eq t.isLt N_0; omega⟩

variable (c : Dev nD)

/-- The hidden state's block at a grid point holds the point's 512 rows. -/
theorem x_block (t : Fin cfg0.N) (r : Fin 512) (l : Fin 1024) : (show FVec Ideal S512x1024 .f32 from iblk m c 0 t) (ix2 r l)
    = (show FVec Ideal S8192x1024 .f32 from m ((c : Thread nD τ).loc main_arg0)) (ix2 (row t r) l) := by
  unfold row; blk_ext [iblk, V, idx t]

/-- The target's block at a grid point holds the point's 512 rows. -/
theorem tgt_block (t : Fin cfg0.N) (r : Fin 512) (l : Fin 1024) : (show FVec Ideal S512x1024 .f32 from iblk m c 1 t) (ix2 r l)
    = (show FVec Ideal S8192x1024 .f32 from m ((c : Thread nD τ).loc main_arg1)) (ix2 (row t r) l) := by
  unfold row; blk_ext [iblk, V, idx t]

/-- The weight is whole at every grid point. -/
theorem w_block (t : Fin cfg0.N) (l : Fin 1024) : (show FVec Ideal S1x1024 .f32 from iblk m c 2 t) (ix2 0 l)
    = (show FVec Ideal S1x1024 .f32 from m ((c : Thread nD τ).loc main_arg2)) (ix2 0 l) := by
  blk_ext [iblk, V, idx t]

/-- The gradient of a token is the reference's. -/
theorem final_dx : (dats m 0 c).arrAt 4 (cfgs 0).N
    = val_main_v48 (F := Ideal) (m ((c : Thread nD τ).loc main_arg0)) (m ((c : Thread nD τ).loc main_arg1))
        (m ((c : Thread nD τ).loc main_arg2)) := by
  refine (dats m 0 c).arrAt_eq_of_covers 4 _ (by decide +kernel) fun t hf y => ?_
  have e : ((cfg0.win 4).blk t).view.emb y = ix2 (row t (y 0)) (y 1) := by unfold row; blk_ext [idx t]
  rw [e]
  blk_simp; rw [after0_4]
  have hN := lt_of_lt_of_eq t.isLt N_0
  have hs := (congrArg _ (eq_ix2 y)).trans
    (dx_row _ _ _ _ _ _ _ (y 0) (y 1) (x_block m c t _) (tgt_block m c t _) (w_block m c t))
  by_cases h : t.val % 16 = 0
  · rw [outsAt0_A m c t h (by omega)]; dsimp only; frame_out; exact hs
  · rw [outsAt0_B m c t h (by omega)]; dsimp only; frame_out; exact hs

/-- The hidden states', the targets' and the weight's arrays, as vectors. -/
abbrev X : FVec Ideal S8192x1024 .f32 := m ((c : Thread nD τ).loc main_arg0)
abbrev TGT : FVec Ideal S8192x1024 .f32 := m ((c : Thread nD τ).loc main_arg1)
abbrev W : FVec Ideal S1x1024 .f32 := m ((c : Thread nD τ).loc main_arg2)

/-- The error of a block's row is the array row's. -/
theorem err_block (t : Fin cfg0.N) (r : Fin 512) : e (iblk m c 0 t) (iblk m c 1 t) (iblk m c 2 t) r
    = E (X m c) (TGT m c) (W m c) (row t r) := by
  have h0 := funext (x_block m c t r)
  have h1 := funext (tgt_block m c t r)
  have h2 := funext (w_block m c t)
  exact congrArg₂ (fun f => f) (congrArg₂ err h0 h1) h2

/-- What one grid point adds to the weight gradient: its 512 rows' share of the sum. -/
def part (t : Fin cfg0.N) (j : S1x1024.Idx) : EReal :=
  ∑ r : Fin 512, X m c (ix2 (row t r) (j 1)) * NormMath.rs (fun k => X m c (ix2 (row t r) k))
    * (E (X m c) (TGT m c) (W m c) (row t r) (j 1) * inv)

/-- The body's row sum is the point's part. -/
theorem part_eq (t : Fin cfg0.N) (j : S1x1024.Idx) :
    k0_pay1 (F := Ideal) (k0_pay6 (iblk m c 0 t)) (k0_pay9 (iblk m c 0 t) (iblk m c 2 t) (iblk m c 1 t)) j = part m c t j := by
  idx_vars j
  obtain rfl : j0 = 0 := by omega
  refine (body_dw _ _ _ _).trans (Finset.sum_congr rfl fun r _ => ?_)
  rw [err_block]
  simp only [x_block m c t r]
  exact mul_comm (G := EReal) _ _

/-- The weight gradient is the reference's. -/
theorem final_dw : (dats m 0 c).arrAt 5 (cfgs 0).N = val_main_v32 (F := Ideal) (X m c) (TGT m c) (W m c) := by
  refine (dats m 0 c).arrAt_eq_of_after_last 5 t0_15 (by decide +kernel) _ fun j => ?_
  blk_simp
  rw [after0_5, Pipeline.eq_sum_fin_of_reset_step_apply_last (fun n h => (outsAt0 m c n h).2.2) 16 (fun _ => (0 : EReal)) (part m c)
    (fun t h j => by
      have hN := lt_of_lt_of_eq t.isLt N_0
      rw [outsAt0_A m c t h (by omega)]; frame_out; exact (part_eq m c t j).trans (zero_add (part m c t j)).symm)
    (fun t h j => by
      have hN := lt_of_lt_of_eq t.isLt N_0
      rw [outsAt0_B m c t h (by omega)]; frame_out; pointwise [k0_pay3]
      exact congrArg _ (part_eq m c t j))
    (le_of_eq N_0) t0_15 rfl j]
  refine (zero_add (_ : EReal)).trans ?_
  idx_vars j
  obtain rfl : j0 = 0 := by omega
  rw [ref_dw]
  exact Fin.sum_mul_add_congr fun s k hl => rfl

/-- A token's mean square error. -/
def mse (R : Fin 8192) : EReal :=
  Ideal.div (∑ l, E (X m c) (TGT m c) (W m c) R l * E (X m c) (TGT m c) (W m c) R l) NormMath.len

/-- What one grid point adds to the loss: half its 512 rows' mean square errors. -/
def share (t : Fin cfg0.N) (_ : S1x128.Idx) : EReal := half * ∑ r : Fin 512, mse m c (row t r)

/-- The body's share of the loss is the point's. -/
theorem share_eq (t : Fin cfg0.N) (j : S1x128.Idx) :
    k0_pay2 (F := Ideal) (k0_pay8 (iblk m c 0 t) (iblk m c 2 t) (iblk m c 1 t)) j = share m c t j := by
  idx_vars j
  obtain rfl : j0 = 0 := by omega
  refine (body_loss _ _ _ _).trans (congrArg _ (Finset.sum_congr rfl fun r _ => ?_))
  rw [err_block]
  rfl

/-- The loss is the reference's. -/
theorem final_loss : (dats m 0 c).arrAt 3 (cfgs 0).N = val_main_v49 (F := Ideal) (X m c) (TGT m c) (W m c) := by
  refine (dats m 0 c).arrAt_eq_of_after_last 3 t0_15 (by decide +kernel) _ fun j => ?_
  blk_simp
  rw [after0_3, Pipeline.eq_sum_fin_of_reset_step_apply_last (fun n h => (outsAt0 m c n h).1) 16 (fun _ => (0 : EReal)) (share m c)
    (fun t h j => by
      have hN := lt_of_lt_of_eq t.isLt N_0
      rw [outsAt0_A m c t h (by omega)]; frame_out; exact (share_eq m c t j).trans (zero_add (share m c t j)).symm)
    (fun t h j => by
      have hN := lt_of_lt_of_eq t.isLt N_0
      rw [outsAt0_B m c t h (by omega)]; frame_out; pointwise [k0_pay4]
      exact congrArg _ (share_eq m c t j))
    (le_of_eq N_0) t0_15 rfl j]
  refine (zero_add (_ : EReal)).trans ?_
  idx_vars j
  obtain rfl : j0 = 0 := by omega
  rw [ref_loss]
  unfold share
  rw [half_eq, ← NormMath.mul_sum (1 / 2) (by norm_num)]
  exact congrArg _ (Fin.sum_mul_add_congr fun s k hl => rfl)

end results

/-! ## The claims -/

/-- Every run of the reference ends, with its arguments unchanged; it declares no semaphore. -/
theorem frame_ref : Cert.quiescent_Reference26Ideal := by
  intro m ρ _
  exact (θ_run Cert.Reference26Ideal.defs _ _).mono (fun r h => ⟨fun c => (h c).2.2.2,
    Idealize.ShloMosaic.sem_eq_zero_of_no_sems (by decide) r.2⟩) (Cert.Reference26Ideal.Value.run m ρ)

/-- The kernel's run and the reference's leave the same loss and the same two gradients. -/
theorem algebraic : Cert.algebraic_Kernel26Ideal_Reference26Ideal := by
  pair_intro
  · run_from Cert.Kernel26Ideal.Gen.run_main m g
  · refine (θ_run Cert.Reference26Ideal.defs _ _).mono
      (fun r h c => ⟨(h c).1.trans ?_, (h c).2.1.trans ?_, (h c).2.2.1.trans ?_, (h c).2.2.2⟩)
      (Cert.Reference26Ideal.Value.run m' g')
    · obtain ⟨e0, e1, e2⟩ := hagree c
      rw [Cert.Reference26Ideal.Read.val_main_v49_eq, e0, e1, e2]
      exact (final_loss m c).symm
    · obtain ⟨e0, e1, e2⟩ := hagree c
      rw [Cert.Reference26Ideal.Read.val_main_v48_eq, e0, e1, e2]
      exact (final_dx m c).symm
    · obtain ⟨e0, e1, e2⟩ := hagree c
      rw [Cert.Reference26Ideal.Read.val_main_v32_eq, e0, e1, e2]
      exact (final_dw m c).symm

end Cert.Kernel26Ideal.Loss

end

end
-- ==== Proof.NormFwd.lean ====
/- Hand-written, untrusted: what the norm's forward call leaves in its result array, over the extended reals, and that it is what
   the reference computes. -/
module

public import proofs.«01_k».proof.Defs
public import proofs.«01_k».proof.Proof.Gen.Kernel27Ideal.Frame
public import proofs.«01_k».proof.Proof.Gen.Reference27Ideal.Read
public import Idealize.ShloMosaic.Lib.Pipeline.ValueKit
public import Idealize.ShloMosaic.Lib.Pointwise
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel27Ideal.Norm

open Cert.Kernel27Ideal Cert.Kernel27Ideal.Gen
open Cert.Reference27Ideal.Read

/-- A normed row, on rows that agree. -/
theorem y_row (x0 : FVec Ideal S8192x1024 .f32) (x1 a1 : FVec Ideal S1x1024 .f32) (R : Fin 8192) (a0 : FVec Ideal S512x1024 .f32)
    (r : Fin 512) (l : Fin 1024) (h0 : ∀ l, a0 (ix2 r l) = x0 (ix2 R l)) (h1 : ∀ l, a1 (ix2 0 l) = x1 (ix2 0 l)) :
    k0_pay1 (F := Ideal) a0 a1 (ix2 r l) = val_main_v12 (F := Ideal) x0 x1 (ix2 R l) := by
  pointwise [k0_pay1, val_main_v12, val_main_v11, val_main_v10, val_main_v9, val_main_v8, val_main_v7, val_main_v6, val_main_v5,
    val_main_cst_1, val_main_v4, val_main_v3, val_main_cst_0, val_main_v2, val_main_v1, val_main_cst, val_main_v0, h0, h1]

variable (m : (ℓ : Loc nD τ sig) → Buf (Elt Ideal) ℓ) (c : Dev nD)

/-- The block of every window at every grid point: the row windows move down by one block per point. -/
theorem idx : ∀ t : Fin cfg0.N, win0_0.index t = ![t.val, 0] ∧ win0_1.index t = ![0, 0] ∧ win0_2.index t = ![t.val, 0] :=
  (by decide +kernel : ∀ t : Fin grid0.N, _)

/-- The array row that row `r` of a point's block is. -/
def row (t : Fin cfg0.N) (r : Fin 512) : Fin 8192 := ⟨t.val * 512 + r, by have := lt_of_lt_of_eq t.isLt N_0; omega⟩

/-- The normed tokens are the reference's. -/
theorem final_y : (dats m 0 c).arrAt 2 (cfgs 0).N
    = val_main_v12 (F := Ideal) (m ((c : Thread nD τ).loc main_arg0)) (m ((c : Thread nD τ).loc main_arg1)) := by
  refine (dats m 0 c).arrAt_eq_of_covers 2 _ (by decide +kernel) fun t hf y => ?_
  have e : ((cfg0.win 2).blk t).view.emb y = ix2 (row t (y 0)) (y 1) := by unfold row; blk_ext [idx t]
  rw [e]
  blk_simp; rw [after0_2]
  have hx : ∀ r l, (show FVec Ideal S512x1024 .f32 from iblk m c 0 t) (ix2 r l)
      = (show FVec Ideal S8192x1024 .f32 from m ((c : Thread nD τ).loc main_arg0)) (ix2 (row t r) l) := fun r l => by
    unfold row; blk_ext [iblk, V, idx t]
  have hw : ∀ l, (show FVec Ideal S1x1024 .f32 from iblk m c 1 t) (ix2 0 l)
      = (show FVec Ideal S1x1024 .f32 from m ((c : Thread nD τ).loc main_arg1)) (ix2 0 l) := fun l => by blk_ext [iblk, V, idx t]
  frame_out
  exact (congrArg _ (eq_ix2 y)).trans (y_row _ _ _ _ _ (y 0) (y 1) (hx _) hw)

/-- The kernel's run and the reference's leave the same array. -/
theorem algebraic : Cert.algebraic_Kernel27Ideal_Reference27Ideal := by
  pair_intro
  · run_from Cert.Kernel27Ideal.Gen.run_main m g
  · refine (θ_run Cert.Reference27Ideal.defs _ _).mono (fun r h c => ⟨(h c).1.trans ?_, (h c).2⟩)
      (Cert.Reference27Ideal.Value.run m' g')
    obtain ⟨e0, e1⟩ := hagree c
    rw [Cert.Reference27Ideal.Read.val_main_v12_eq, e0, e1]
    exact (final_y m c).symm

end Cert.Kernel27Ideal.Norm

end

end
-- ==== Proof.FfnAct.lean ====
/- Hand-written, untrusted: what the feed-forward's convolution and gate leave in their two result arrays, over the extended
   reals, and that it is what the reference computes. -/
module

public import proofs.«01_k».proof.Defs
public import proofs.«01_k».proof.Proof.Shift
public import proofs.«01_k».proof.Proof.Gen.Kernel28Ideal.Frame
public import proofs.«01_k».proof.Proof.Gen.Reference28Ideal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel28Ideal.Act

open Cert.Kernel28Ideal Cert.Kernel28Ideal.Gen

/-! ## The rows above -/

/-- Whether two small numbers agree, as the body asks it of 32-bit words. -/
theorem select_eq (j : ℕ) (hj : j ≤ 8) (q k : Fin 128) (hq : j ≤ q.val) (a b : EReal) :
    Scalar.select (IntOp.cmpi CmpIPredicate.eq (BitVec.ofNat 32 k.val) (IntOp.subi (BitVec.ofNat 32 q.val) (BitVec.ofNat 32 j))) a b
      = if k.val = q.val - j then a else b := by
  have e : (BitVec.ofNat 32 k.val = BitVec.ofNat 32 q.val - BitVec.ofNat 32 j) ↔ k.val = q.val - j := by
    have := k.isLt; have := q.isLt
    rw [← BitVec.toNat_inj, BitVec.toNat_sub, BitVec.toNat_ofNat, BitVec.toNat_ofNat, BitVec.toNat_ofNat]
    omega
  by_cases h : k.val = q.val - j
  · rw [if_pos h]
    simp [Scalar.select, IntOp.cmpi, IntOp.subi, e.2 h]
  · rw [if_neg h]
    have n : (BitVec.ofNat 32 k.val == BitVec.ofNat 32 q.val - BitVec.ofNat 32 j) = false := beq_eq_false_iff_ne.2 (mt e.1 h)
    simp only [Scalar.select, IntOp.cmpi, IntOp.subi, n]
    rfl

/-- The matrix that moves rows down by two takes from a column what stands two rows above. -/
theorem sum2 (q : Fin 128) (hq : 2 ≤ q.val) (f : Fin 128 → EReal) :
    ∑ k, k0_pay6 (F := Ideal) (ix2 q k) * f k = f ⟨q.val - 2, by omega⟩ :=
  Shift.pick _ _ (fun k => k0_pay6 (F := Ideal) (ix2 q k)) f fun k => by
    pointwise [k0_pay6]; exact select_eq 2 (by omega) q k hq 1 0

/-- The matrix that moves rows down by one takes from a column what stands one row above. -/
theorem sum1 (q : Fin 128) (hq : 1 ≤ q.val) (f : Fin 128 → EReal) :
    ∑ k, k0_pay7 (F := Ideal) (ix2 q k) * f k = f ⟨q.val - 1, by omega⟩ :=
  Shift.pick _ _ (fun k => k0_pay7 (F := Ideal) (ix2 q k)) f fun k => by
    pointwise [k0_pay7]; exact select_eq 1 (by omega) q k hq 1 0

variable (xb : FVec Ideal S512x2816 .bf16) (halo : FVec Ideal S8x2816 .f32) (b w0 w1 w2 : FVec Ideal S1x2816 .f32)
  (r : Fin 512) (l : Fin 2816)

/-- Row `r - j` of a block, the rows before the block's first being the last of the eight kept ones. -/
def down (j : ℕ) (hj : j ≤ 8) : EReal :=
  if h : r.val < j then halo (ix2 ⟨8 - j + r.val, by omega⟩ l) else xb (ix2 ⟨r.val - j, by omega⟩ l)

/-- A kept row. -/
theorem halo_eq_down (j : ℕ) (hj : j ≤ 8) (k : Fin 8) (h : k.val + j = 8 + r.val) :
    halo (ix2 k l) = down xb halo r l j hj := by
  unfold down; rw [dif_pos (by omega)]
  exact congrArg (fun k => halo (ix2 k l)) (Fin.ext (by dsimp only; omega))

/-- A row of the block. -/
theorem row_eq_down (j : ℕ) (hj : j ≤ 8) (k : Fin 512) (h : k.val + j = r.val) :
    xb (ix2 k l) = down xb halo r l j hj := by
  unfold down; rw [dif_neg (by omega)]
  exact congrArg (fun k => xb (ix2 k l)) (Fin.ext (by dsimp only; omega))

/-- A choice is what both its branches are. -/
theorem dite_is {p : Prop} [Decidable p] {f : p → EReal} {g : ¬p → EReal} {c : EReal} (hf : ∀ h, f h = c) (hg : ∀ h, g h = c) :
    dite p f g = c := by
  by_cases h : p
  · rw [dif_pos h]; exact hf h
  · rw [dif_neg h]; exact hg h

/-- The body's convolution at a row: the bias, and the three weights times the row and the two above it. -/
theorem body_y : k0_pay1 (F := Ideal) xb (k0_pay17 xb k0_pay6 k0_pay7 (k0_pay10 xb halo) (k0_pay11 xb) (k0_pay12 xb halo)
      (k0_pay13 xb) (k0_pay14 xb) (k0_pay15 xb) (k0_pay16 xb) b w0 w1) w2 (ix2 r l)
    = b (ix2 0 l) + w0 (ix2 0 l) * down xb halo r l 2 (by omega) + w1 (ix2 0 l) * down xb halo r l 1 (by omega)
      + w2 (ix2 0 l) * xb (ix2 r l) := by
  pointwise [k0_pay1, k0_pay17, k0_pay16, k0_pay15, k0_pay14, k0_pay13, k0_pay12, k0_pay11, k0_pay10, k0_pay9, k0_pay8, zero_add]
  refine congrArg₂ _ (congrArg₂ _ (congrArg _ (congrArg _ ?_)) (congrArg _ ?_)) rfl
  · repeat' (with_reducible refine dite_is (fun _ => ?_) (fun _ => ?_))
    all_goals first
    | with_reducible refine halo_eq_down _ _ _ _ _ _ _ ?_
      dsimp only; omega
    | with_reducible refine row_eq_down _ _ _ _ _ _ _ ?_
      dsimp only; omega
    | with_reducible refine Eq.trans (sum2 _ ?_ _) (row_eq_down _ _ _ _ _ _ _ ?_) <;> dsimp only <;> omega
  · repeat' (with_reducible refine dite_is (fun _ => ?_) (fun _ => ?_))
    all_goals first
    | with_reducible refine halo_eq_down _ _ _ _ _ _ _ ?_
      dsimp only; omega
    | with_reducible refine row_eq_down _ _ _ _ _ _ _ ?_
      dsimp only; omega
    | with_reducible refine Eq.trans (sum1 _ ?_ _) (row_eq_down _ _ _ _ _ _ _ ?_) <;> dsimp only <;> omega

/-- A gated element: the gate times its logistic function, times the value. -/
def gated (g v : EReal) : EReal := g * Ideal.div 1 (1 + Ideal.exp (-g)) * v

/-- The body's gated columns: the first half of the convolution's columns gate the second half. -/
theorem body_gated (v87 : FVec Ideal S512x2816 .f32) (l : Fin 1408) : k0_pay3 (F := Ideal) xb v87 w2 (ix2 r l)
    = gated (k0_pay1 (F := Ideal) xb v87 w2 (ix2 r ⟨l, by omega⟩)) (k0_pay1 (F := Ideal) xb v87 w2 (ix2 r ⟨1408 + l, by omega⟩)) := by
  pointwise [k0_pay3, gated, zero_sub]

/-! ## The reference -/

section reference
open Cert.Reference28Ideal.Read

variable (x0 : FVec Ideal S8192x5632 .bf16) (x1 : FVec Ideal S3x5632 .f32) (x2 : FVec Ideal S1x5632 .f32) (R : Fin 8192) (L : Fin 5632)

/-- Row `R - j` of the array, zero before its first. -/
def above (j : ℕ) : EReal := if _ : R.val < j then 0 else x0 (ix2 ⟨R.val - j, by omega⟩ L)

/-- The reference's convolution at a token. -/
theorem ref_y : val_main_v29 (F := Ideal) x0 x1 x2 (ix2 R L)
    = x1 (ix2 0 L) * above x0 R L 2 + x1 (ix2 1 L) * above x0 R L 1 + x1 (ix2 2 L) * x0 (ix2 R L) + x2 (ix2 0 L) := by
  pointwise [val_main_v29, val_main_v19, val_main_v18, val_main_v17, val_main_v16, val_main_v15, val_main_v14, val_main_v13,
    val_main_v12, val_main_v11, val_main_v10, val_main_v9, val_main_v8, val_main_v7, val_main_v6, val_main_v5, val_main_v4,
    val_main_v3, val_main_v2, val_main_v1, val_main_v0, val_main_cst, val_main_cst_0, above]

/-- The reference's gated result: its columns' first half from the first two blocks of columns, its second half from the others. -/
theorem ref_gated (l : Fin 2816) : val_main_v28 (F := Ideal) x0 x1 x2 (ix2 R l)
    = if h : l.val < 1408 then gated (val_main_v29 (F := Ideal) x0 x1 x2 (ix2 R ⟨l, by omega⟩))
          (val_main_v29 (F := Ideal) x0 x1 x2 (ix2 R ⟨1408 + l, by omega⟩))
      else gated (val_main_v29 (F := Ideal) x0 x1 x2 (ix2 R ⟨1408 + l, by omega⟩))
          (val_main_v29 (F := Ideal) x0 x1 x2 (ix2 R ⟨2816 + l, by omega⟩)) := by
  unfold val_main_v29 gated
  pointwise [val_main_v28, val_main_v27, val_main_v26, val_main_v25, val_main_v24, val_main_v23, val_main_v22, val_main_v21, val_main_v20,
    val_main_call0_v5, val_main_call0_v4, val_main_call0_v3, val_main_call0_v2, val_main_call0_v1, val_main_call0_v0,
    val_main_call0_cst, val_main_call0_cst_0]
  by_cases h : l.val < 1408
  · simp only [dif_pos h]
  · simp only [dif_neg h]
    rw [show (⟨2816 + (l.val - 1408), by omega⟩ : Fin 5632) = ⟨1408 + l, by omega⟩ from Fin.ext (by dsimp only; omega),
      show (⟨4224 + (l.val - 1408), by omega⟩ : Fin 5632) = ⟨2816 + l, by omega⟩ from Fin.ext (by dsimp only; omega)]

end reference

/-! ## The result arrays -/

section results
open Cert.Reference28Ideal.Read

variable (m : (ℓ : Loc nD τ sig) → Buf (Elt Ideal) ℓ) (c : Dev nD)

/-- The block of every window at every grid point: down the rows first, then the second half of the columns. -/
theorem idx : ∀ t : Fin cfg0.N, win0_0.index t = ![t.val % 16, t.val / 16] ∧ win0_1.index t = ![0, t.val / 16]
    ∧ win0_2.index t = ![0, t.val / 16] ∧ win0_3.index t = ![t.val % 16, t.val / 16] ∧ win0_4.index t = ![t.val % 16, t.val / 16] :=
  (by decide +kernel : ∀ t : Fin grid0.N, _)

/-- The array row that row `r` of a point's block is. -/
def row (t : Fin cfg0.N) (r : Fin 512) : Fin 8192 := ⟨t.val % 16 * 512 + r, by omega⟩
/-- The array column that column `l` of a point's block is. -/
def col (t : Fin cfg0.N) (l : Fin 2816) : Fin 5632 := ⟨t.val / 16 * 2816 + l, by have := lt_of_lt_of_eq t.isLt N_0; omega⟩

/-- The block of inputs at a grid point. -/
theorem up_block (t : Fin cfg0.N) (r : Fin 512) (l : Fin 2816) : (show FVec Ideal S512x2816 .bf16 from iblk m c 0 t) (ix2 r l)
    = (show FVec Ideal S8192x5632 .bf16 from m ((c : Thread nD τ).loc main_arg0)) (ix2 (row t r) (col t l)) := by
  unfold row col; blk_ext [iblk, V, idx t]

/-- The block of weights at a grid point. -/
theorem cw_block (t : Fin cfg0.N) (i : Fin 3) (l : Fin 2816) : (show FVec Ideal S3x2816 .f32 from iblk m c 1 t) (ix2 i l)
    = (show FVec Ideal S3x5632 .f32 from m ((c : Thread nD τ).loc main_arg1)) (ix2 i (col t l)) := by
  unfold col; blk_ext [iblk, V, idx t]

/-- The block of the bias at a grid point. -/
theorem cb_block (t : Fin cfg0.N) (i : Fin 1) (l : Fin 2816) : (show FVec Ideal S1x2816 .f32 from iblk m c 2 t) (ix2 i l)
    = (show FVec Ideal S1x5632 .f32 from m ((c : Thread nD τ).loc main_arg2)) (ix2 i (col t l)) := by
  unfold col; blk_ext [iblk, V, idx t]

/-- Before the first block of rows the kept rows are zero, before the others they are the eight rows above the block. -/
def kept (t : Fin cfg0.N) (halo : FVec Ideal S8x2816 .f32) : Prop :=
  ∀ (q : Fin 8) (l : Fin 2816), halo (ix2 q l) = if h : t.val % 16 = 0 then 0
    else (show FVec Ideal S8192x5632 .bf16 from m ((c : Thread nD τ).loc main_arg0)) (ix2 ⟨t.val % 16 * 512 - 8 + q, by omega⟩ (col t l))

/-- The row `j` rows above, kept or in the block, is the array's. -/
theorem down_above (t : Fin cfg0.N) (halo : FVec Ideal S8x2816 .f32) (h : kept m c t halo) (r : Fin 512) (l : Fin 2816) (j : ℕ) (hj : j ≤ 8) :
    down (show FVec Ideal S512x2816 .bf16 from iblk m c 0 t) halo r l j hj
      = above (show FVec Ideal S8192x5632 .bf16 from m ((c : Thread nD τ).loc main_arg0)) (row t r) (col t l) j := by
  unfold down above
  by_cases hr : r.val < j
  · rw [dif_pos hr, h]
    by_cases h0 : t.val % 16 = 0
    · rw [dif_pos h0, dif_pos (by show t.val % 16 * 512 + r.val < j; omega)]
    · rw [dif_neg h0, dif_neg (by show ¬t.val % 16 * 512 + r.val < j; omega)]
      exact congrArg (fun k => m ((c : Thread nD τ).loc main_arg0) (ix2 k (col t l)))
        (Fin.ext (by show t.val % 16 * 512 - 8 + (8 - j + r.val) = t.val % 16 * 512 + r.val - j; omega))
  · rw [dif_neg hr, up_block, dif_neg (by show ¬t.val % 16 * 512 + r.val < j; omega)]
    exact congrArg (fun k => m ((c : Thread nD τ).loc main_arg0) (ix2 k (col t l)))
      (Fin.ext (by show t.val % 16 * 512 + (r.val - j) = t.val % 16 * 512 + r.val - j; omega))

/-- The body's convolution at a point of the grid is the reference's. -/
theorem y_block (t : Fin cfg0.N) (halo : FVec Ideal S8x2816 .f32) (h : kept m c t halo) (r : Fin 512) (l : Fin 2816) :
    k0_pay1 (F := Ideal) (iblk m c 0 t) (k0_pay17 (iblk m c 0 t) k0_pay6 k0_pay7 (k0_pay10 (iblk m c 0 t) halo) (k0_pay11 (iblk m c 0 t))
        (k0_pay12 (iblk m c 0 t) halo) (k0_pay13 (iblk m c 0 t)) (k0_pay14 (iblk m c 0 t)) (k0_pay15 (iblk m c 0 t))
        (k0_pay16 (iblk m c 0 t)) (iblk m c 2 t) (View.ld (iblk m c 1 t) (Rect.unit ![0, 0] ![1, 2816] inb_S3x2816_S1x2816_0_0))
        (View.ld (iblk m c 1 t) (Rect.unit ![1, 0] ![1, 2816] inb_S3x2816_S1x2816_1_0)))
      (View.ld (iblk m c 1 t) (Rect.unit ![2, 0] ![1, 2816] inb_S3x2816_S1x2816_2_0)) (ix2 r l)
      = val_main_v29 (F := Ideal) (m ((c : Thread nD τ).loc main_arg0)) (m ((c : Thread nD τ).loc main_arg1))
          (m ((c : Thread nD τ).loc main_arg2)) (ix2 (row t r) (col t l)) := by
  have w0 : View.ld (iblk m c 1 t) (Rect.unit ![0, 0] ![1, 2816] inb_S3x2816_S1x2816_0_0) (ix2 0 l)
      = m ((c : Thread nD τ).loc main_arg1) (ix2 0 (col t l)) := by unfold col; pointwise; blk_ext [iblk, V, idx t]
  have w1 : View.ld (iblk m c 1 t) (Rect.unit ![1, 0] ![1, 2816] inb_S3x2816_S1x2816_1_0) (ix2 0 l)
      = m ((c : Thread nD τ).loc main_arg1) (ix2 1 (col t l)) := by unfold col; pointwise; blk_ext [iblk, V, idx t]
  have w2 : View.ld (iblk m c 1 t) (Rect.unit ![2, 0] ![1, 2816] inb_S3x2816_S1x2816_2_0) (ix2 0 l)
      = m ((c : Thread nD τ).loc main_arg1) (ix2 2 (col t l)) := by unfold col; pointwise; blk_ext [iblk, V, idx t]
  refine (body_y _ halo _ _ _ _ r l).trans ?_
  rw [ref_y, down_above m c t halo h, down_above m c t halo h]
  refine Eq.trans (congrArg₂ _ (congrArg₂ _ (congrArg₂ _ (cb_block m c t 0 l) (congrArg (· * _) w0)) (congrArg (· * _) w1))
    (congrArg₂ _ w2 (up_block m c t r l))) ?_
  rw [add_assoc (G := EReal), add_assoc (G := EReal), add_comm (G := EReal) (m ((c : Thread nD τ).loc main_arg2) _), ← add_assoc (G := EReal)]

/-- What the scratch holds after a point: the last eight rows of its block. -/
theorem scratch (t : Fin cfg0.N) : (outsAt0 m c t.val t.isLt).2.2 = k0_pay4 (F := Ideal) (iblk m c 0 t) := by
  by_cases h0 : t.val % 16 = 0
  · rw [outsAt0_A m c t h0]; dsimp only; frame_out
  · rw [outsAt0_B m c t h0]; dsimp only; frame_out

/-- Before the first block of rows the kept rows are zero. -/
theorem kept_first (t : Fin cfg0.N) (h0 : t.val % 16 = 0) : kept m c t (k0_pay5 (F := Ideal)) := fun q l => by
  rw [dif_pos h0]; pointwise [k0_pay5]

/-- Before the other blocks of rows the scratch holds the eight rows above. -/
theorem kept_next (t : Fin cfg0.N) (h0 : ¬t.val % 16 = 0) : kept m c t (View.read (Elt Ideal) (View.whole cc0_scratch0)
    ((Memref.isWhole_whole cc0_scratch0).unread (outsAt0 m c (t.val - 1) (Nat.lt_of_le_of_lt (Nat.sub_le _ _) t.isLt)).2.2)) := fun q l => by
  rw [dif_neg h0]
  have p : t.val - 1 < cfg0.N := Nat.lt_of_le_of_lt (Nat.sub_le _ _) t.isLt
  have e : k0_pay4 (F := Ideal) (iblk m c 0 ⟨t.val - 1, p⟩) (ix2 q l)
      = (show FVec Ideal S512x2816 .bf16 from iblk m c 0 ⟨t.val - 1, p⟩) (ix2 ⟨504 + q, by omega⟩ l) := by
    pointwise [k0_pay4]; exact congrArg (fun k => iblk m c 0 ⟨t.val - 1, p⟩ (ix2 k l)) (Fin.ext (by dsimp only; omega))
  refine (congrFun (read_unread_whole cc0_scratch0 _ _) _).trans
    ((congrFun (scratch m c ⟨t.val - 1, p⟩) _).trans (e.trans ((up_block m c _ _ _).trans ?_)))
  refine congrArg₂ (fun k l => m ((c : Thread nD τ).loc main_arg0) (ix2 k l)) (Fin.ext ?_) (Fin.ext ?_)
  · show (t.val - 1) % 16 * 512 + (504 + q.val) = t.val % 16 * 512 - 8 + q.val; omega
  · show (t.val - 1) / 16 * 2816 + l.val = t.val / 16 * 2816 + l.val; omega

/-- The convolution's result array is the reference's. -/
theorem final_xc : (dats m 0 c).arrAt 4 (cfgs 0).N
    = val_main_v29 (F := Ideal) (m ((c : Thread nD τ).loc main_arg0)) (m ((c : Thread nD τ).loc main_arg1))
        (m ((c : Thread nD τ).loc main_arg2)) := by
  refine (dats m 0 c).arrAt_eq_of_covers 4 _ (by decide +kernel) fun t hf y => ?_
  have e : ((cfg0.win 4).blk t).view.emb y = ix2 (row t (y 0)) (col t (y 1)) := by unfold row col; blk_ext [idx t]
  rw [e]
  blk_simp; rw [after0_4]
  by_cases h0 : t.val % 16 = 0
  · rw [outsAt0_A m c t h0]; dsimp only; frame_out
    exact (congrArg _ (eq_ix2 y)).trans (y_block m c t _ (kept_first m c t h0) (y 0) (y 1))
  · rw [outsAt0_B m c t h0]; dsimp only; frame_out
    exact (congrArg _ (eq_ix2 y)).trans (y_block m c t _ (kept_next m c t h0) (y 0) (y 1))

/-- The array column that column `l` of a point's result block is. -/
def rcol (t : Fin cfg0.N) (l : Fin 1408) : Fin 2816 := ⟨t.val / 16 * 1408 + l, by have := lt_of_lt_of_eq t.isLt N_0; omega⟩

/-- A gated element of the reference at a point of the grid: its gate and its value stand in one block of the convolution's columns. -/
theorem gated_block (x0 : FVec Ideal S8192x5632 .bf16) (x1 : FVec Ideal S3x5632 .f32) (x2 : FVec Ideal S1x5632 .f32)
    (t : Fin cfg0.N) (R : Fin 8192) (l : Fin 1408) : val_main_v28 (F := Ideal) x0 x1 x2 (ix2 R (rcol t l))
      = gated (val_main_v29 (F := Ideal) x0 x1 x2 (ix2 R (col t ⟨l, by omega⟩)))
          (val_main_v29 (F := Ideal) x0 x1 x2 (ix2 R (col t ⟨1408 + l, by omega⟩))) := by
  have ht := lt_of_lt_of_eq t.isLt N_0
  rw [ref_gated]
  by_cases h : t.val / 16 = 0
  · rw [dif_pos (by show t.val / 16 * 1408 + l.val < 1408; omega)]
    refine congrArg₂ (fun i j => gated (val_main_v29 (F := Ideal) x0 x1 x2 (ix2 R i)) (val_main_v29 (F := Ideal) x0 x1 x2 (ix2 R j)))
      (Fin.ext ?_) (Fin.ext ?_)
    · show t.val / 16 * 1408 + l.val = t.val / 16 * 2816 + l.val; omega
    · show 1408 + (t.val / 16 * 1408 + l.val) = t.val / 16 * 2816 + (1408 + l.val); omega
  · rw [dif_neg (by show ¬t.val / 16 * 1408 + l.val < 1408; omega)]
    refine congrArg₂ (fun i j => gated (val_main_v29 (F := Ideal) x0 x1 x2 (ix2 R i)) (val_main_v29 (F := Ideal) x0 x1 x2 (ix2 R j)))
      (Fin.ext ?_) (Fin.ext ?_)
    · show 1408 + (t.val / 16 * 1408 + l.val) = t.val / 16 * 2816 + l.val; omega
    · show 2816 + (t.val / 16 * 1408 + l.val) = t.val / 16 * 2816 + (1408 + l.val); omega

/-- The gated result array is the reference's. -/
theorem final_o : (dats m 0 c).arrAt 3 (cfgs 0).N
    = val_main_v28 (F := Ideal) (m ((c : Thread nD τ).loc main_arg0)) (m ((c : Thread nD τ).loc main_arg1))
        (m ((c : Thread nD τ).loc main_arg2)) := by
  refine (dats m 0 c).arrAt_eq_of_covers 3 _ (by decide +kernel) fun t hf y => ?_
  have e : ((cfg0.win 3).blk t).view.emb y = ix2 (row t (y 0)) (rcol t (y 1)) := by unfold row rcol; blk_ext [idx t]
  rw [e]
  refine Eq.trans ?_ (gated_block _ _ _ t (row t (y 0)) (y 1)).symm
  blk_simp; rw [after0_3]
  by_cases h0 : t.val % 16 = 0
  · rw [outsAt0_A m c t h0]; dsimp only; frame_out
    exact (congrArg _ (eq_ix2 y)).trans ((body_gated _ _ (y 0) _ (y 1)).trans
      (congrArg₂ gated (y_block m c t _ (kept_first m c t h0) _ _) (y_block m c t _ (kept_first m c t h0) _ _)))
  · rw [outsAt0_B m c t h0]; dsimp only; frame_out
    exact (congrArg _ (eq_ix2 y)).trans ((body_gated _ _ (y 0) _ (y 1)).trans
      (congrArg₂ gated (y_block m c t _ (kept_next m c t h0) _ _) (y_block m c t _ (kept_next m c t h0) _ _)))

end results

/-! ## The claims -/

/-- Every run of the reference ends, with its arguments unchanged; it declares no semaphore. -/
theorem frame_ref : Cert.quiescent_Reference28Ideal := by
  intro m ρ _
  exact (θ_run Cert.Reference28Ideal.defs _ _).mono (fun r h => ⟨fun c => (h c).2.2,
    Idealize.ShloMosaic.sem_eq_zero_of_no_sems (by decide) r.2⟩) (Cert.Reference28Ideal.Value.run m ρ)

/-- The kernel's run and the reference's leave the same two arrays. -/
theorem algebraic : Cert.algebraic_Kernel28Ideal_Reference28Ideal := by
  pair_intro
  · run_from Cert.Kernel28Ideal.Gen.run_main m g
  · refine (θ_run Cert.Reference28Ideal.defs _ _).mono
      (fun r h c => ⟨(h c).1.trans ?_, (h c).2.1.trans ?_, (h c).2.2⟩)
      (Cert.Reference28Ideal.Value.run m' g')
    · obtain ⟨e0, e1, e2⟩ := hagree c
      rw [Cert.Reference28Ideal.Read.val_main_v28_eq, e0, e1, e2]
      exact (final_o m c).symm
    · obtain ⟨e0, e1, e2⟩ := hagree c
      rw [Cert.Reference28Ideal.Read.val_main_v29_eq, e0, e1, e2]
      exact (final_xc m c).symm

end Cert.Kernel28Ideal.Act

end

end
-- ==== Proof.FfnActBwd.lean ====
/- Hand-written, untrusted: what the feed-forward's convolution and gate leave as gradients, over the extended reals, and that it
   is what the reference computes. -/
module

public import proofs.«01_k».proof.Defs
public import proofs.«01_k».proof.Proof.Gen.Kernel29Ideal.Frame
public import proofs.«01_k».proof.Proof.Gen.Reference29Ideal.Read
public import proofs.«01_k».proof.Proof.Shift
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel29Ideal.Act

open Cert.Kernel29Ideal Cert.Kernel29Ideal.Gen

/-! ## One row of a block -/

/-- A sum whose last terms are zero is the sum of the others. -/
theorem sum_short {N n j : ℕ} (e : N = n + j) (f : Fin N → EReal) (g : Fin n → EReal) (h : ∀ x : Fin n, f ⟨x, by omega⟩ = g x)
    (h0 : ∀ x : Fin N, n ≤ x.val → f x = 0) : ∑ x, f x = ∑ x, g x := by
  subst e
  rw [Fin.sum_univ_add, Finset.sum_eq_zero (fun x _ => h0 (Fin.natAdd n x) (Nat.le_add_right _ _)), add_zero]
  exact Finset.sum_congr rfl fun x _ => h x

/-- Whether a small number is another plus `j`, as the body asks it of 32-bit words. -/
theorem select_eq (j : ℕ) (j0 : 0 < j) (hj : j ≤ 8) (q k : Fin 128) (a b : EReal) :
    Scalar.select (IntOp.cmpi CmpIPredicate.eq (BitVec.ofNat 32 k.val) (IntOp.subi (BitVec.ofNat 32 q.val) (BitVec.ofNat 32 (2 ^ 32 - j)))) a b
      = if k.val = q.val + j then a else b := by
  have e : (BitVec.ofNat 32 k.val = BitVec.ofNat 32 q.val - BitVec.ofNat 32 (2 ^ 32 - j)) ↔ k.val = q.val + j := by
    have := k.isLt; have := q.isLt
    rw [← BitVec.toNat_inj, BitVec.toNat_sub, BitVec.toNat_ofNat, BitVec.toNat_ofNat, BitVec.toNat_ofNat]
    omega
  by_cases h : k.val = q.val + j
  · rw [if_pos h]
    simp [Scalar.select, IntOp.cmpi, IntOp.subi, e.2 h]
  · rw [if_neg h]
    have n : (BitVec.ofNat 32 k.val == BitVec.ofNat 32 q.val - BitVec.ofNat 32 (2 ^ 32 - j)) = false := beq_eq_false_iff_ne.2 (mt e.1 h)
    simp only [Scalar.select, IntOp.cmpi, IntOp.subi, n]
    rfl

/-- The matrix that moves rows up by one takes from a column what stands one row below. -/
theorem sum1 (q : Fin 128) (hq : q.val + 1 < 128) (f : Fin 128 → EReal) :
    ∑ k, k0_pay8 (F := Ideal) (ix2 q k) * f k = f ⟨q.val + 1, hq⟩ :=
  Shift.pick _ _ (fun k => k0_pay8 (F := Ideal) (ix2 q k)) f fun k => by
    pointwise [k0_pay8]; exact select_eq 1 (by omega) (by omega) q k 1 0

/-- The matrix that moves rows up by two, of its two index arrays. -/
abbrev up2 : FVec Ideal S128x128 .bf16 :=
  k0_pay9 (iota .tc S128x128 32 [0] iota_S128x128_d0_w32) (iota .tc S128x128 32 [1] iota_S128x128_d1_w32) 4294967294#32

/-- The matrix that moves rows up by two takes from a column what stands two rows below. -/
theorem sum2 (q : Fin 128) (hq : q.val + 2 < 128) (f : Fin 128 → EReal) :
    ∑ k, k0_pay9 (F := Ideal) (iota .tc S128x128 32 [0] iota_S128x128_d0_w32) (iota .tc S128x128 32 [1] iota_S128x128_d1_w32)
      4294967294#32 (ix2 q k) * f k = f ⟨q.val + 2, hq⟩ :=
  Shift.pick _ _ (fun k => up2 (ix2 q k)) f fun k => by
    unfold up2; pointwise [k0_pay9]; exact select_eq 2 (by omega) (by omega) q k 1 0

variable (d : FVec Ideal S512x2816 .bf16) (ahead : FVec Ideal S8x2816 .f32) (r : Fin 512) (l : Fin 2816)

/-- Row `r + j` of a block, the rows after the block's last being the first of the eight kept ones. -/
def up (j : ℕ) (hj : j ≤ 8) : EReal :=
  if h : r.val + j < 512 then d (ix2 ⟨r.val + j, h⟩ l) else ahead (ix2 ⟨r.val + j - 512, by omega⟩ l)

/-- A kept row. -/
theorem ahead_eq_up (j : ℕ) (hj : j ≤ 8) (k : Fin 8) (h : k.val + 512 = r.val + j) :
    ahead (ix2 k l) = up d ahead r l j hj := by
  unfold up; rw [dif_neg (by omega)]
  exact congrArg (fun k => ahead (ix2 k l)) (Fin.ext (by dsimp only; omega))

/-- A row of the block. -/
theorem row_eq_up (j : ℕ) (hj : j ≤ 8) (k : Fin 512) (h : k.val = r.val + j) :
    d (ix2 k l) = up d ahead r l j hj := by
  unfold up; rw [dif_pos (by omega)]
  exact congrArg (fun k => d (ix2 k l)) (Fin.ext (by dsimp only; omega))

/-- A choice is what both its branches are. -/
theorem dite_is {p : Prop} [Decidable p] {f : p → EReal} {g : ¬p → EReal} {c : EReal} (hf : ∀ h, f h = c) (hg : ∀ h, g h = c) :
    dite p f g = c := by
  by_cases h : p
  · rw [dif_pos h]; exact hf h
  · rw [dif_neg h]; exact hg h

/-- The block's rows moved up by one. -/
theorem body_up1 : k0_pay31 (F := Ideal) ahead k0_pay8 (k0_pay12 d k0_pay8) (k0_pay13 d) (k0_pay18 d k0_pay8) (k0_pay19 d)
    (k0_pay24 d k0_pay8) (k0_pay25 d) (k0_pay28 d) (k0_pay29 d) (ix2 r l) = up d ahead r l 1 (by omega) := by
  pointwise [k0_pay31, zero_add]
  repeat' (with_reducible refine dite_is (fun _ => ?_) (fun _ => ?_))
  all_goals
    (pointwise [k0_pay30, k0_pay29, k0_pay28, k0_pay25, k0_pay24, k0_pay23, k0_pay22, k0_pay19, k0_pay18, k0_pay17,
        k0_pay16, k0_pay13, k0_pay12, k0_pay11, k0_pay10, zero_add]
     repeat' (with_reducible refine dite_is (fun _ => ?_) (fun _ => ?_)))
  all_goals first
    | with_reducible refine ahead_eq_up _ _ _ _ _ _ _ ?_
      dsimp only; omega
    | with_reducible refine row_eq_up _ _ _ _ _ _ _ ?_
      dsimp only; omega
    | with_reducible refine Eq.trans (sum1 _ ?_ _) (row_eq_up _ _ _ _ _ _ _ ?_) <;> dsimp only <;> omega

/-- The block's rows moved up by two. -/
theorem body_up2 : k0_pay32 (F := Ideal) ahead (k0_pay9 (iota .tc S128x128 32 [0] iota_S128x128_d0_w32)
      (iota .tc S128x128 32 [1] iota_S128x128_d1_w32) 4294967294#32)
    (k0_pay14 d (iota .tc S128x128 32 [0] iota_S128x128_d0_w32) (iota .tc S128x128 32 [1] iota_S128x128_d1_w32) 4294967294#32)
    (k0_pay15 d)
    (k0_pay20 d (iota .tc S128x128 32 [0] iota_S128x128_d0_w32) (iota .tc S128x128 32 [1] iota_S128x128_d1_w32) 4294967294#32)
    (k0_pay21 d)
    (k0_pay26 d (iota .tc S128x128 32 [0] iota_S128x128_d0_w32) (iota .tc S128x128 32 [1] iota_S128x128_d1_w32) 4294967294#32)
    (k0_pay27 d) (k0_pay28 d) (k0_pay29 d) (ix2 r l) = up d ahead r l 2 (by omega) := by
  pointwise [k0_pay32, zero_add]
  repeat' (with_reducible refine dite_is (fun _ => ?_) (fun _ => ?_))
  all_goals
    (pointwise [k0_pay30, k0_pay29, k0_pay28, k0_pay27, k0_pay26, k0_pay23, k0_pay22, k0_pay21, k0_pay20, k0_pay17,
        k0_pay16, k0_pay15, k0_pay14, k0_pay11, k0_pay10, zero_add]
     repeat' (with_reducible refine dite_is (fun _ => ?_) (fun _ => ?_)))
  all_goals first
    | with_reducible refine ahead_eq_up _ _ _ _ _ _ _ ?_
      dsimp only; omega
    | with_reducible refine row_eq_up _ _ _ _ _ _ _ ?_
      dsimp only; omega
    | with_reducible refine Eq.trans (sum2 _ ?_ _) (row_eq_up _ _ _ _ _ _ _ ?_) <;> dsimp only <;> omega

/-! ## The gate's gradient -/

/-- The logistic function. -/
def sg (g : EReal) : EReal := Ideal.div 1 (1 + Ideal.exp (-g))
/-- The gradient of the gate's argument. -/
def dgate (g v e : EReal) : EReal := e * v * sg g * (1 + g * (1 - sg g))
/-- The gradient of the gated value. -/
def dval (g e : EReal) : EReal := e * g * sg g

/-- The logistic function of a real is a real. -/
theorem sg_coe (g : ℝ) : ∃ s : ℝ, sg g = s := by
  unfold sg
  refine ⟨1 / (1 + Real.exp (-g)), ?_⟩
  rw [← EReal.coe_neg, Ideal.exp_coe, ← EReal.coe_one, ← EReal.coe_add,
    Ideal.div_coe (by positivity), ← EReal.coe_mul, one_mul]

/-- For finite elements the gradient of the gate's argument is the derivative's sum of two products. -/
theorem dgate_eq (g v e : ℝ) : (e : EReal) * v * sg g + g * ((e : EReal) * v) * (sg g * (1 - sg g)) = dgate g v e := by
  unfold dgate
  obtain ⟨s, hs⟩ := sg_coe g
  rw [hs, ← EReal.coe_one]
  simp only [← EReal.coe_mul, ← EReal.coe_add, ← EReal.coe_sub]
  congr 1; ring

variable (xb : FVec Ideal S512x2816 .bf16) (eb : FVec Ideal S512x1408 .bf16)

/-- The body's gradient of the convolution's result: of the gate in the first half of the columns, of the value in the second. -/
theorem body_gate (l : Fin 1408) : k0_pay6 (F := Ideal) xb eb (ix2 r ⟨l, by omega⟩)
    = dgate (xb (ix2 r ⟨l, by omega⟩)) (xb (ix2 r ⟨1408 + l, by omega⟩)) (eb (ix2 r l)) := by
  pointwise [k0_pay6, dgate, sg, zero_sub]

theorem body_val (l : Fin 1408) : k0_pay6 (F := Ideal) xb eb (ix2 r ⟨1408 + l, by omega⟩)
    = dval (xb (ix2 r ⟨l, by omega⟩)) (eb (ix2 r l)) := by
  pointwise [k0_pay6, dval, sg, zero_sub]

/-- What the body adds to the bias's gradient. -/
theorem body_db (v : FVec Ideal S512x2816 .f32) (acc : FVec Ideal S1x2816 .f32) (l : Fin 2816) :
    k0_pay33 (F := Ideal) v acc (ix2 0 l) = acc (ix2 0 l) + ∑ r, v (ix2 r l) := by
  pointwise [k0_pay33]

/-- The body's gradient of the convolution's input: the three weights times the row and the two below it. -/
theorem body_dup (v : FVec Ideal S512x2816 .f32) (w0 w1 w2 : FVec Ideal S1x2816 .f32) : k0_pay1 (F := Ideal)
      (k0_pay32 ahead (k0_pay9 (iota .tc S128x128 32 [0] iota_S128x128_d0_w32) (iota .tc S128x128 32 [1] iota_S128x128_d1_w32) 4294967294#32)
      (k0_pay14 d (iota .tc S128x128 32 [0] iota_S128x128_d0_w32) (iota .tc S128x128 32 [1] iota_S128x128_d1_w32) 4294967294#32)
      (k0_pay15 d) (k0_pay20 d (iota .tc S128x128 32 [0] iota_S128x128_d0_w32) (iota .tc S128x128 32 [1] iota_S128x128_d1_w32) 4294967294#32)
      (k0_pay21 d) (k0_pay26 d (iota .tc S128x128 32 [0] iota_S128x128_d0_w32) (iota .tc S128x128 32 [1] iota_S128x128_d1_w32) 4294967294#32)
      (k0_pay27 d) (k0_pay28 d) (k0_pay29 d))
      (k0_pay35 v w2)
      (k0_pay36 ahead k0_pay8 (k0_pay12 d k0_pay8) (k0_pay13 d) (k0_pay18 d k0_pay8) (k0_pay19 d) (k0_pay24 d k0_pay8) (k0_pay25 d)
        (k0_pay28 d) (k0_pay29 d) w1) w0 (ix2 r l)
    = w2 (ix2 0 l) * v (ix2 r l) + w1 (ix2 0 l) * up d ahead r l 1 (by omega) + w0 (ix2 0 l) * up d ahead r l 2 (by omega) := by
  pointwise [k0_pay1, k0_pay35, k0_pay36]
  rw [body_up1, body_up2]

/-- What the body adds to the weights' gradient: the rows of the gradient at, one below and two below the input's. -/
theorem body_dw (v : FVec Ideal S512x2816 .f32) (acc : FVec Ideal S3x2816 .f32) (i : Fin 3) : k0_pay34 (F := Ideal) v ahead k0_pay8
      (k0_pay9 (iota .tc S128x128 32 [0] iota_S128x128_d0_w32) (iota .tc S128x128 32 [1] iota_S128x128_d1_w32) 4294967294#32)
      (k0_pay12 d k0_pay8) (k0_pay13 d)
      (k0_pay14 d (iota .tc S128x128 32 [0] iota_S128x128_d0_w32) (iota .tc S128x128 32 [1] iota_S128x128_d1_w32) 4294967294#32)
      (k0_pay15 d) (k0_pay18 d k0_pay8) (k0_pay19 d)
      (k0_pay20 d (iota .tc S128x128 32 [0] iota_S128x128_d0_w32) (iota .tc S128x128 32 [1] iota_S128x128_d1_w32) 4294967294#32)
      (k0_pay21 d) (k0_pay24 d k0_pay8) (k0_pay25 d)
      (k0_pay26 d (iota .tc S128x128 32 [0] iota_S128x128_d0_w32) (iota .tc S128x128 32 [1] iota_S128x128_d1_w32) 4294967294#32)
      (k0_pay27 d) (k0_pay28 d) (k0_pay29 d) xb acc (ix2 i l)
    = acc (ix2 i l) + ∑ r, (if i = 0 then up d ahead r l 2 (by omega) else if i = 1 then up d ahead r l 1 (by omega) else v (ix2 r l))
        * xb (ix2 r l) := by
  pointwise [k0_pay34]
  refine congrArg _ ?_
  obtain rfl | rfl | rfl : i = 0 ∨ i = 1 ∨ i = 2 := by omega
  · rw [dif_pos (by decide)]
    exact Finset.sum_congr rfl fun r _ => by rw [body_up2, if_pos rfl]
  · rw [dif_neg (by decide), dif_pos (by decide)]
    exact Finset.sum_congr rfl fun r _ => by rw [body_up1, if_neg (by decide), if_pos rfl]
  · rw [dif_neg (by decide), dif_neg (by decide)]
    exact Finset.sum_congr rfl fun r _ => by rw [if_neg (by decide), if_neg (by decide)]

section reference
open Cert.Reference29Ideal.Read

variable (x0 x1 : FVec Ideal S8192x5632 .bf16) (x2 : FVec Ideal S8192x2816 .bf16) (x3 : FVec Ideal S3x5632 .f32) (R : Fin 8192)
  (L : Fin 5632)

/-- The reference's gradient of the gate's argument, at finite elements. -/
theorem ref_dgate (l : Fin 2816) (g v e : ℝ) (hg : val_main_v5 (F := Ideal) x1 (ix2 R l) = g) (hv : val_main_v6 (F := Ideal) x1 (ix2 R l) = v)
    (he : x2 (ix2 R l) = e) : val_main_v12 (F := Ideal) x1 x2 (ix2 R l)
      = dgate (val_main_v5 (F := Ideal) x1 (ix2 R l)) (val_main_v6 (F := Ideal) x1 (ix2 R l)) (x2 (ix2 R l)) := by
  rw [hg, hv, he, ← dgate_eq, ← hg, ← hv, ← he]
  unfold sg
  pointwise [val_main_v12, val_main_v11, val_main_v9, val_main_v7_2, val_main_v7_1, val_main_call0_v0, val_main_call0_v1,
    val_main_call0_v2, val_main_call0_v3, val_main_call0_v4, val_main_call0_v6, val_main_call0_v7, val_main_call0_cst,
    val_main_call0_cst_0, val_main_call0_cst_1, val_main_call1_v0, val_main_call1_v1, val_main_call1_v2]

/-- The reference's gradient of the gated value. -/
theorem ref_dval (l : Fin 2816) : val_main_v10 (F := Ideal) x1 x2 (ix2 R l)
      = dval (val_main_v5 (F := Ideal) x1 (ix2 R l)) (x2 (ix2 R l)) := by
  unfold dval sg
  pointwise [val_main_v10, val_main_v9, val_main_v7_2, val_main_v7_0, val_main_call0_v0, val_main_call0_v1,
    val_main_call0_v2, val_main_call0_v3, val_main_call0_v4, val_main_call0_cst, val_main_call0_cst_0]
  rw [mul_comm (G := EReal), ← mul_assoc (G := EReal)]

/-- Row `R + j` of the gradient of the convolution's result, zero after its last. -/
def below (j : ℕ) : EReal := if h : R.val + j < 8192 then val_main_v17 (F := Ideal) x1 x2 (ix2 ⟨R.val + j, h⟩ L) else 0

/-- The reference's gradient of the convolution's input. -/
theorem ref_dup : val_main_v71 (F := Ideal) x1 x2 x3 (ix2 R L) = x3 (ix2 2 L) * val_main_v17 (F := Ideal) x1 x2 (ix2 R L)
    + x3 (ix2 1 L) * below x1 x2 R L 1 + x3 (ix2 0 L) * below x1 x2 R L 2 := by
  pointwise [val_main_v71, val_main_v70, val_main_v69, val_main_v68, val_main_v66, val_main_v65, val_main_v64, val_main_v57,
    val_main_v56, val_main_v50, val_main_v49, val_main_v44, val_main_v43, val_main_v35, val_main_v31, val_main_v28,
    val_main_cst_11, val_main_cst_12]
  unfold below
  refine (add_right_comm (G := EReal) _ _ _).trans (congrArg₂ _ (congrArg₂ _ rfl ?_) ?_)
  · refine dite_is (fun h => ?_) (fun h => ?_)
    · rw [dif_pos (by omega)]
      exact congrArg (fun k => _ * val_main_v17 (F := Ideal) x1 x2 (ix2 k L)) (Fin.ext (by dsimp only; omega))
    · rw [dif_neg (by omega), mul_zero]
  · refine dite_is (fun h => ?_) (fun h => ?_)
    · rw [dif_pos (by omega)]
      exact congrArg (fun k => _ * val_main_v17 (F := Ideal) x1 x2 (ix2 k L)) (Fin.ext (by dsimp only; omega))
    · rw [dif_neg (by omega), mul_zero]

/-- The reference's gradient of the convolution's weights: with `2 - i` rows between the gradient and the input. -/
theorem ref_dw (i : Fin 3) : val_main_v62 (F := Ideal) x0 x1 x2 (ix2 i L)
    = ∑ R : Fin 8192, below x1 x2 R L (2 - i.val) * x0 (ix2 R L) := by
  pointwise [val_main_v62, val_main_v61, val_main_v60, val_main_v59, val_main_v58, val_main_v55, val_main_v54, val_main_v53,
    val_main_v52, val_main_v51, val_main_v48, val_main_v47, val_main_v46, val_main_v45, val_main_v26, val_main_v25, val_main_v24,
    val_main_v23, val_main_v22, val_main_v21, val_main_v20, val_main_v18, val_main_cst_0, val_main_cst_1, val_main_cst_2,
    val_main_cst_5, val_main_cst_6, val_main_cst_7, val_main_cst_8, val_main_cst_9, val_main_cst_10]
  simp only [mul_zero, Finset.sum_const_zero, zero_add]
  have short (j n : ℕ) (hn : 8192 = n + j) : ∑ R : Fin 8192, below x1 x2 R L j * x0 (ix2 R L)
      = ∑ R : Fin n, val_main_v17 (F := Ideal) x1 x2 (ix2 ⟨j + R, by omega⟩ L) * x0 (ix2 ⟨R, by omega⟩ L) :=
    sum_short hn _ _ (fun R => by
      unfold below; rw [dif_pos (by dsimp only; omega)]
      exact congrArg (fun k => val_main_v17 (F := Ideal) x1 x2 (ix2 k L) * _) (Fin.ext (by dsimp only; omega)))
      (fun R h => by unfold below; rw [dif_neg (by omega), zero_mul])
  obtain rfl | rfl | rfl : i = 0 ∨ i = 1 ∨ i = 2 := by omega
  · rw [dif_neg (by decide), dif_neg (by decide), dif_pos (by decide), zero_add, zero_add]
    exact (short 2 8190 rfl).symm
  · rw [dif_neg (by decide), dif_pos (by decide), dif_neg (by decide), zero_add, add_zero]
    exact (short 1 8191 rfl).symm
  · rw [dif_pos (by decide), dif_neg (by decide), dif_neg (by decide), add_zero, add_zero]
    refine Eq.trans (Finset.sum_congr rfl fun R _ => ?_) (short 0 8192 rfl).symm
    exact congrArg (fun k => val_main_v17 (F := Ideal) x1 x2 (ix2 k L) * _) (Fin.ext (by dsimp only; omega))

/-- The reference's gradient of the bias. -/
theorem ref_db : val_main_v42 (F := Ideal) x1 x2 (ix2 0 L) = ∑ R : Fin 8192, below x1 x2 R L 0 := by
  pointwise [val_main_v42, val_main_v41, val_main_cst_4]
  refine Finset.sum_congr rfl fun R _ => ?_
  unfold below; rw [dif_pos (by omega)]; rfl

/-- The gate's column of a gated column, and its value's. -/
def gcol (l : Fin 2816) : Fin 5632 := if l.val < 1408 then ⟨l, by omega⟩ else ⟨1408 + l, by omega⟩
def vcol (l : Fin 2816) : Fin 5632 := if l.val < 1408 then ⟨1408 + l, by omega⟩ else ⟨2816 + l, by omega⟩

/-- The reference's gates and values are those columns. -/
theorem ref_g (l : Fin 2816) : val_main_v5 (F := Ideal) x1 (ix2 R l) = x1 (ix2 R (gcol l)) := by
  unfold gcol
  pointwise [val_main_v5, val_main_v4, val_main_v3, val_main_v2, val_main_v1, val_main_v0]
  split_ifs
  all_goals first
    | rfl
    | exact congrArg (fun k => x1 (ix2 R k)) (Fin.ext (by dsimp only; omega))
    | omega

theorem ref_v (l : Fin 2816) : val_main_v6 (F := Ideal) x1 (ix2 R l) = x1 (ix2 R (vcol l)) := by
  unfold vcol
  pointwise [val_main_v6, val_main_v4, val_main_v3, val_main_v2, val_main_v1, val_main_v0]
  split_ifs
  all_goals first
    | rfl
    | exact congrArg (fun k => x1 (ix2 R k)) (Fin.ext (by dsimp only; omega))
    | omega

end reference

/-! ## The result arrays -/

section results
open Cert.Reference29Ideal.Read

variable (m : (ℓ : Loc nD τ sig) → Buf (Elt Ideal) ℓ) (c : Dev nD)

/-- The block of every window at every grid point: up the rows first, then the second half of the columns. -/
theorem idx : ∀ t : Fin cfg0.N, win0_0.index t = ![15 - t.val % 16, t.val / 16] ∧ win0_1.index t = ![15 - t.val % 16, t.val / 16]
    ∧ win0_2.index t = ![15 - t.val % 16, t.val / 16] ∧ win0_3.index t = ![0, t.val / 16]
    ∧ win0_4.index t = ![15 - t.val % 16, t.val / 16] ∧ win0_5.index t = ![0, t.val / 16] ∧ win0_6.index t = ![0, t.val / 16] :=
  (by decide +kernel : ∀ t : Fin grid0.N, _)

/-- The array row that row `r` of a point's block is. -/
def row (t : Fin cfg0.N) (r : Fin 512) : Fin 8192 := ⟨(15 - t.val % 16) * 512 + r, by omega⟩
/-- The array column that column `l` of a point's block is. -/
def col (t : Fin cfg0.N) (l : Fin 2816) : Fin 5632 := ⟨t.val / 16 * 2816 + l, by have := lt_of_lt_of_eq t.isLt N_0; omega⟩
/-- The array column that column `l` of a point's gated block is. -/
def rcol (t : Fin cfg0.N) (l : Fin 1408) : Fin 2816 := ⟨t.val / 16 * 1408 + l, by have := lt_of_lt_of_eq t.isLt N_0; omega⟩

/-- The four argument arrays, as vectors. -/
abbrev UP : FVec Ideal S8192x5632 .bf16 := m ((c : Thread nD τ).loc main_arg0)
abbrev XC : FVec Ideal S8192x5632 .bf16 := m ((c : Thread nD τ).loc main_arg1)
abbrev DA : FVec Ideal S8192x2816 .bf16 := m ((c : Thread nD τ).loc main_arg2)
abbrev CW : FVec Ideal S3x5632 .f32 := m ((c : Thread nD τ).loc main_arg3)

/-- The convolution's saved result and the gated result's gradient hold no infinity. -/
def Finite : Prop := (∀ j, ∃ a : ℝ, XC m c j = a) ∧ ∀ j, ∃ a : ℝ, DA m c j = a

/-- The blocks of the convolution's inputs, its saved results and the gated result's gradient at a grid point. -/
theorem up_block (t : Fin cfg0.N) (r : Fin 512) (l : Fin 2816) : (show FVec Ideal S512x2816 .bf16 from iblk m c 0 t) (ix2 r l)
    = UP m c (ix2 (row t r) (col t l)) := by
  unfold row col; blk_ext [iblk, V, idx t]

theorem xc_block (t : Fin cfg0.N) (r : Fin 512) (l : Fin 2816) : (show FVec Ideal S512x2816 .bf16 from iblk m c 1 t) (ix2 r l)
    = XC m c (ix2 (row t r) (col t l)) := by
  unfold row col; blk_ext [iblk, V, idx t]

theorem da_block (t : Fin cfg0.N) (r : Fin 512) (l : Fin 1408) : (show FVec Ideal S512x1408 .bf16 from iblk m c 2 t) (ix2 r l)
    = DA m c (ix2 (row t r) (rcol t l)) := by
  unfold row rcol; blk_ext [iblk, V, idx t]

/-- The gate of a point's gated column stands in the first half of the point's block, its value in the second. -/
theorem gcol_rcol (t : Fin cfg0.N) (l : Fin 1408) : gcol (rcol t l) = col t ⟨l, by omega⟩ := by
  have := lt_of_lt_of_eq t.isLt N_0
  unfold gcol rcol col; dsimp only; split_ifs <;> exact Fin.ext (by dsimp only; omega)

theorem vcol_rcol (t : Fin cfg0.N) (l : Fin 1408) : vcol (rcol t l) = col t ⟨1408 + l, by omega⟩ := by
  have := lt_of_lt_of_eq t.isLt N_0
  unfold vcol rcol col; dsimp only; split_ifs <;> exact Fin.ext (by dsimp only; omega)

/-- The columns of the reference's gradient of the convolution's result in a point's block. -/
theorem ref_d_gate (x1 : FVec Ideal S8192x5632 .bf16) (x2 : FVec Ideal S8192x2816 .bf16) (t : Fin cfg0.N) (R : Fin 8192) (l : Fin 1408) :
    val_main_v17 (F := Ideal) x1 x2 (ix2 R (col t ⟨l, by omega⟩)) = val_main_v12 (F := Ideal) x1 x2 (ix2 R (rcol t l)) := by
  have := lt_of_lt_of_eq t.isLt N_0
  unfold col rcol
  pointwise [val_main_v17, val_main_v16, val_main_v15, val_main_v14, val_main_v13]
  repeat' (with_reducible refine dite_is (fun _ => ?_) (fun _ => ?_))
  all_goals first
    | exfalso; omega
    | exact congrArg (fun k => val_main_v12 (F := Ideal) x1 x2 (ix2 R k)) (Fin.ext (by dsimp only; omega))

theorem ref_d_val (x1 : FVec Ideal S8192x5632 .bf16) (x2 : FVec Ideal S8192x2816 .bf16) (t : Fin cfg0.N) (R : Fin 8192) (l : Fin 1408) :
    val_main_v17 (F := Ideal) x1 x2 (ix2 R (col t ⟨1408 + l, by omega⟩)) = val_main_v10 (F := Ideal) x1 x2 (ix2 R (rcol t l)) := by
  have := lt_of_lt_of_eq t.isLt N_0
  unfold col rcol
  pointwise [val_main_v17, val_main_v16, val_main_v15, val_main_v14, val_main_v13]
  repeat' (with_reducible refine dite_is (fun _ => ?_) (fun _ => ?_))
  all_goals first
    | exfalso; omega
    | exact congrArg (fun k => val_main_v10 (F := Ideal) x1 x2 (ix2 R k)) (Fin.ext (by dsimp only; omega))

/-- The body's gradient of the convolution's result at a point of the grid is the reference's. -/
theorem d_block (h : Finite m c) (t : Fin cfg0.N) (r : Fin 512) (l : Fin 2816) :
    k0_pay6 (F := Ideal) (iblk m c 1 t) (iblk m c 2 t) (ix2 r l)
      = val_main_v17 (F := Ideal) (XC m c) (DA m c) (ix2 (row t r) (col t l)) := by
  by_cases hl : l.val < 1408
  · obtain ⟨g, hg⟩ := h.1 (ix2 (row t r) (gcol (rcol t ⟨l, hl⟩)))
    obtain ⟨v, hv⟩ := h.1 (ix2 (row t r) (vcol (rcol t ⟨l, hl⟩)))
    obtain ⟨e, he⟩ := h.2 (ix2 (row t r) (rcol t ⟨l, hl⟩))
    refine (body_gate r _ _ ⟨l, hl⟩).trans (Eq.trans ?_ ((ref_d_gate (XC m c) (DA m c) t (row t r) ⟨l, hl⟩).trans
      (ref_dgate _ _ (row t r) (rcol t ⟨l, hl⟩) g v e ((ref_g _ _ _).trans hg) ((ref_v _ _ _).trans hv) he)).symm)
    rw [ref_g, ref_v, gcol_rcol, vcol_rcol]
    rw [← xc_block, ← xc_block, ← da_block]
  · obtain ⟨k, rfl⟩ : ∃ k : Fin 1408, l = ⟨1408 + k, Nat.add_lt_add_left k.isLt 1408⟩ := ⟨⟨l.val - 1408, by omega⟩, Fin.ext (by dsimp only; omega)⟩
    refine (body_val r _ _ k).trans (Eq.trans ?_ ((ref_d_val (XC m c) (DA m c) t (row t r) k).trans
      (ref_dval _ _ (row t r) (rcol t k))).symm)
    rw [ref_g, gcol_rcol]
    rw [← xc_block, ← da_block]

/-- Before the last block of rows the kept rows are zero, before the others they are the eight rows below the block. -/
def kept (t : Fin cfg0.N) (ahead : FVec Ideal S8x2816 .f32) : Prop :=
  ∀ (q : Fin 8) (l : Fin 2816), ahead (ix2 q l) = if h : t.val % 16 = 0 then 0
    else val_main_v17 (F := Ideal) (XC m c) (DA m c) (ix2 ⟨(16 - t.val % 16) * 512 + q, by omega⟩ (col t l))

/-- The row `j` rows below, kept or in the block, is the array's. -/
theorem up_below (h : Finite m c) (t : Fin cfg0.N) (ahead : FVec Ideal S8x2816 .f32) (k : kept m c t ahead) (r : Fin 512) (l : Fin 2816)
    (j : ℕ) (hj : j ≤ 8) : up (k0_pay7 (F := Ideal) (iblk m c 1 t) (iblk m c 2 t)) ahead r l j hj
      = below (XC m c) (DA m c) (row t r) (col t l) j := by
  unfold up below
  by_cases hr : r.val + j < 512
  · have e : k0_pay7 (F := Ideal) (iblk m c 1 t) (iblk m c 2 t) (ix2 ⟨r.val + j, hr⟩ l)
        = k0_pay6 (F := Ideal) (iblk m c 1 t) (iblk m c 2 t) (ix2 ⟨r.val + j, hr⟩ l) := by pointwise [k0_pay7]
    rw [dif_pos hr, e, d_block m c h, dif_pos (by show (15 - t.val % 16) * 512 + r.val + j < 8192; omega)]
    exact congrArg (fun k => val_main_v17 (F := Ideal) (XC m c) (DA m c) (ix2 k (col t l)))
      (Fin.ext (by show (15 - t.val % 16) * 512 + (r.val + j) = (15 - t.val % 16) * 512 + r.val + j; omega))
  · rw [dif_neg hr, k]
    by_cases h0 : t.val % 16 = 0
    · rw [dif_pos h0, dif_neg (by show ¬(15 - t.val % 16) * 512 + r.val + j < 8192; omega)]
    · rw [dif_neg h0, dif_pos (by show (15 - t.val % 16) * 512 + r.val + j < 8192; omega)]
      exact congrArg (fun k => val_main_v17 (F := Ideal) (XC m c) (DA m c) (ix2 k (col t l)))
        (Fin.ext (by show (16 - t.val % 16) * 512 + (r.val + j - 512) = (15 - t.val % 16) * 512 + r.val + j; omega))

/-- A row of the block is the array's. -/
theorem d_below (h : Finite m c) (t : Fin cfg0.N) (r : Fin 512) (l : Fin 2816) :
    k0_pay6 (F := Ideal) (iblk m c 1 t) (iblk m c 2 t) (ix2 r l) = below (XC m c) (DA m c) (row t r) (col t l) 0 := by
  rw [d_block m c h]; unfold below; rw [dif_pos (by show (row t r).val + 0 < 8192; omega)]; rfl

/-- What the scratch holds after a point: the first eight rows of its block. -/
theorem scratch (t : Fin cfg0.N) : (outsAt0 m c t.val t.isLt).2.2.2 = k0_pay2 (F := Ideal) (k0_pay6 (iblk m c 1 t) (iblk m c 2 t)) := by
  by_cases h0 : t.val % 16 = 0
  · rw [outsAt0_A m c t h0]; dsimp only; frame_out
  · rw [outsAt0_B m c t h0]; dsimp only; frame_out

/-- Before the last block of rows the kept rows are zero. -/
theorem kept_first (t : Fin cfg0.N) (h0 : t.val % 16 = 0) : kept m c t (k0_pay3 (F := Ideal)) := fun q l => by
  rw [dif_pos h0]; pointwise [k0_pay3]

/-- Before the other blocks of rows the scratch holds the eight rows below. -/
theorem kept_next (h : Finite m c) (t : Fin cfg0.N) (h0 : ¬t.val % 16 = 0) : kept m c t (View.read (Elt Ideal) (View.whole cc0_scratch0)
    ((Memref.isWhole_whole cc0_scratch0).unread (outsAt0 m c (t.val - 1) (Nat.lt_of_le_of_lt (Nat.sub_le _ _) t.isLt)).2.2.2)) := fun q l => by
  rw [dif_neg h0]
  have p : t.val - 1 < cfg0.N := Nat.lt_of_le_of_lt (Nat.sub_le _ _) t.isLt
  have e (v : FVec Ideal S512x2816 .f32) : k0_pay2 (F := Ideal) v (ix2 q l) = v (ix2 ⟨q, by omega⟩ l) := by pointwise [k0_pay2]
  refine (congrFun (read_unread_whole cc0_scratch0 _ _) _).trans
    ((congrFun (scratch m c ⟨t.val - 1, p⟩) _).trans ((e _).trans ((d_block m c h _ _ _).trans ?_)))
  refine congrArg₂ (fun k l => val_main_v17 (F := Ideal) (XC m c) (DA m c) (ix2 k l)) (Fin.ext ?_) (Fin.ext ?_)
  · show (15 - (t.val - 1) % 16) * 512 + q.val = (16 - t.val % 16) * 512 + q.val; omega
  · show (t.val - 1) / 16 * 2816 + l.val = t.val / 16 * 2816 + l.val; omega

/-- The body's gradient of the convolution's input at a point of the grid is the reference's. -/
theorem dup_block (h : Finite m c) (t : Fin cfg0.N) (ahead : FVec Ideal S8x2816 .f32) (k : kept m c t ahead) (r : Fin 512) (l : Fin 2816) :
    k0_pay1 (F := Ideal)
      (k0_pay32 ahead (k0_pay9 (iota .tc S128x128 32 [0] iota_S128x128_d0_w32) (iota .tc S128x128 32 [1] iota_S128x128_d1_w32) 4294967294#32)
      (k0_pay14 (k0_pay7 (iblk m c 1 t) (iblk m c 2 t)) (iota .tc S128x128 32 [0] iota_S128x128_d0_w32) (iota .tc S128x128 32 [1] iota_S128x128_d1_w32) 4294967294#32)
      (k0_pay15 (k0_pay7 (iblk m c 1 t) (iblk m c 2 t))) (k0_pay20 (k0_pay7 (iblk m c 1 t) (iblk m c 2 t)) (iota .tc S128x128 32 [0] iota_S128x128_d0_w32) (iota .tc S128x128 32 [1] iota_S128x128_d1_w32) 4294967294#32)
      (k0_pay21 (k0_pay7 (iblk m c 1 t) (iblk m c 2 t))) (k0_pay26 (k0_pay7 (iblk m c 1 t) (iblk m c 2 t)) (iota .tc S128x128 32 [0] iota_S128x128_d0_w32) (iota .tc S128x128 32 [1] iota_S128x128_d1_w32) 4294967294#32)
      (k0_pay27 (k0_pay7 (iblk m c 1 t) (iblk m c 2 t))) (k0_pay28 (k0_pay7 (iblk m c 1 t) (iblk m c 2 t))) (k0_pay29 (k0_pay7 (iblk m c 1 t) (iblk m c 2 t))))
      (k0_pay35 (k0_pay6 (iblk m c 1 t) (iblk m c 2 t)) (View.ld (iblk m c 3 t) (Rect.unit ![2, 0] ![1, 2816] inb_S3x2816_S1x2816_2_0)))
      (k0_pay36 ahead k0_pay8 (k0_pay12 (k0_pay7 (iblk m c 1 t) (iblk m c 2 t)) k0_pay8) (k0_pay13 (k0_pay7 (iblk m c 1 t) (iblk m c 2 t))) (k0_pay18 (k0_pay7 (iblk m c 1 t) (iblk m c 2 t)) k0_pay8) (k0_pay19 (k0_pay7 (iblk m c 1 t) (iblk m c 2 t))) (k0_pay24 (k0_pay7 (iblk m c 1 t) (iblk m c 2 t)) k0_pay8) (k0_pay25 (k0_pay7 (iblk m c 1 t) (iblk m c 2 t)))
        (k0_pay28 (k0_pay7 (iblk m c 1 t) (iblk m c 2 t))) (k0_pay29 (k0_pay7 (iblk m c 1 t) (iblk m c 2 t))) (View.ld (iblk m c 3 t) (Rect.unit ![1, 0] ![1, 2816] inb_S3x2816_S1x2816_1_0)))
      (View.ld (iblk m c 3 t) (Rect.unit ![0, 0] ![1, 2816] inb_S3x2816_S1x2816_0_0)) (ix2 r l)
      = val_main_v71 (F := Ideal) (XC m c) (DA m c) (CW m c) (ix2 (row t r) (col t l)) := by
  have w0 : View.ld (iblk m c 3 t) (Rect.unit ![0, 0] ![1, 2816] inb_S3x2816_S1x2816_0_0) (ix2 0 l)
      = m ((c : Thread nD τ).loc main_arg3) (ix2 0 (col t l)) := by unfold col; pointwise; blk_ext [iblk, V, idx t]
  have w1 : View.ld (iblk m c 3 t) (Rect.unit ![1, 0] ![1, 2816] inb_S3x2816_S1x2816_1_0) (ix2 0 l)
      = m ((c : Thread nD τ).loc main_arg3) (ix2 1 (col t l)) := by unfold col; pointwise; blk_ext [iblk, V, idx t]
  have w2 : View.ld (iblk m c 3 t) (Rect.unit ![2, 0] ![1, 2816] inb_S3x2816_S1x2816_2_0) (ix2 0 l)
      = m ((c : Thread nD τ).loc main_arg3) (ix2 2 (col t l)) := by unfold col; pointwise; blk_ext [iblk, V, idx t]
  refine (body_dup _ ahead r l _ _ _ _).trans ?_
  rw [ref_dup, up_below m c h t ahead k, up_below m c h t ahead k]
  exact congrArg₂ _ (congrArg₂ _ (congrArg₂ _ w2 (d_block m c h t r l)) (congrArg (· * _) w1)) (congrArg (· * _) w0)

/-- What one grid point adds to the weights' gradient and to the bias's: its 512 rows' share of the sums. -/
def wpart (t : Fin cfg0.N) (j : S3x2816.Idx) : EReal :=
  ∑ r : Fin 512, below (XC m c) (DA m c) (row t r) (col t (j 1)) (2 - (j 0).val) * UP m c (ix2 (row t r) (col t (j 1)))

def bpart (t : Fin cfg0.N) (j : S1x2816.Idx) : EReal :=
  ∑ r : Fin 512, below (XC m c) (DA m c) (row t r) (col t (j 1)) 0

/-- The body adds the point's part to the weights' gradient. -/
theorem dw_block (h : Finite m c) (t : Fin cfg0.N) (ahead : FVec Ideal S8x2816 .f32) (k : kept m c t ahead) (acc : FVec Ideal S3x2816 .f32)
    (j : S3x2816.Idx) : k0_pay34 (F := Ideal) (k0_pay6 (iblk m c 1 t) (iblk m c 2 t)) ahead k0_pay8
      (k0_pay9 (iota .tc S128x128 32 [0] iota_S128x128_d0_w32) (iota .tc S128x128 32 [1] iota_S128x128_d1_w32) 4294967294#32)
      (k0_pay12 (k0_pay7 (iblk m c 1 t) (iblk m c 2 t)) k0_pay8) (k0_pay13 (k0_pay7 (iblk m c 1 t) (iblk m c 2 t)))
      (k0_pay14 (k0_pay7 (iblk m c 1 t) (iblk m c 2 t)) (iota .tc S128x128 32 [0] iota_S128x128_d0_w32) (iota .tc S128x128 32 [1] iota_S128x128_d1_w32) 4294967294#32)
      (k0_pay15 (k0_pay7 (iblk m c 1 t) (iblk m c 2 t))) (k0_pay18 (k0_pay7 (iblk m c 1 t) (iblk m c 2 t)) k0_pay8) (k0_pay19 (k0_pay7 (iblk m c 1 t) (iblk m c 2 t)))
      (k0_pay20 (k0_pay7 (iblk m c 1 t) (iblk m c 2 t)) (iota .tc S128x128 32 [0] iota_S128x128_d0_w32) (iota .tc S128x128 32 [1] iota_S128x128_d1_w32) 4294967294#32)
      (k0_pay21 (k0_pay7 (iblk m c 1 t) (iblk m c 2 t))) (k0_pay24 (k0_pay7 (iblk m c 1 t) (iblk m c 2 t)) k0_pay8) (k0_pay25 (k0_pay7 (iblk m c 1 t) (iblk m c 2 t)))
      (k0_pay26 (k0_pay7 (iblk m c 1 t) (iblk m c 2 t)) (iota .tc S128x128 32 [0] iota_S128x128_d0_w32) (iota .tc S128x128 32 [1] iota_S128x128_d1_w32) 4294967294#32)
      (k0_pay27 (k0_pay7 (iblk m c 1 t) (iblk m c 2 t))) (k0_pay28 (k0_pay7 (iblk m c 1 t) (iblk m c 2 t))) (k0_pay29 (k0_pay7 (iblk m c 1 t) (iblk m c 2 t))) (iblk m c 0 t) acc j
      = acc j + wpart m c t j := by
  idx_vars j
  refine (body_dw _ ahead _ _ _ _ _).trans (congrArg (acc (ix2 j0 j1) + ·) (Finset.sum_congr rfl fun r _ => congrArg₂ _ ?_ (up_block m c t r _)))
  rw [up_below m c h t ahead k, up_below m c h t ahead k, d_below m c h]
  obtain rfl | rfl | rfl : j0 = 0 ∨ j0 = 1 ∨ j0 = 2 := by omega
  · rw [if_pos rfl]; rfl
  · rw [if_neg (by decide), if_pos rfl]; rfl
  · rw [if_neg (by decide), if_neg (by decide)]; rfl

/-- The body adds the point's part to the bias's gradient. -/
theorem db_block (h : Finite m c) (t : Fin cfg0.N) (acc : FVec Ideal S1x2816 .f32) (j : S1x2816.Idx) :
    k0_pay33 (F := Ideal) (k0_pay6 (iblk m c 1 t) (iblk m c 2 t)) acc j = acc j + bpart m c t j := by
  idx_vars j
  obtain rfl : j0 = 0 := by omega
  exact (body_db _ _ _).trans (congrArg (acc (ix2 0 j1) + ·) (Finset.sum_congr rfl fun r _ => d_below m c h t r _))

/-- The sums over the blocks of rows, from the last block up, are the sum over all rows. -/
theorem sum_rows (t : Fin cfg0.N) (ht : t.val % 16 = 16 - 1) (f : Fin 8192 → EReal) :
    ∑ s : Fin 16, ∑ r : Fin 512, f (row ⟨16 * (t.val / 16) + s.val, Pipeline.run_point_lt_of_flush t ht s⟩ r) = ∑ R, f R := by
  rw [← Equiv.sum_comp Fin.revPerm]
  refine Fin.sum_mul_add_congr fun s r hl => congrArg f (Fin.ext ?_)
  show (15 - (16 * (t.val / 16) + (16 - (s.val + 1))) % 16) * 512 + r.val = s.val * 512 + r.val
  omega

/-- The points of one half of the columns have the same columns. -/
theorem col_run (t : Fin cfg0.N) (ht : t.val % 16 = 16 - 1) (s : Fin 16) (l : Fin 2816) :
    col ⟨16 * (t.val / 16) + s.val, Pipeline.run_point_lt_of_flush t ht s⟩ l = col t l :=
  Fin.ext (by show (16 * (t.val / 16) + s.val) / 16 * 2816 + l.val = t.val / 16 * 2816 + l.val; omega)

/-- The gradient of the convolution's input is the reference's. -/
theorem final_dup (h : Finite m c) : (dats m 0 c).arrAt 4 (cfgs 0).N = val_main_v71 (F := Ideal) (XC m c) (DA m c) (CW m c) := by
  refine (dats m 0 c).arrAt_eq_of_covers 4 _ (by decide +kernel) fun t hf y => ?_
  have e : ((cfg0.win 4).blk t).view.emb y = ix2 (row t (y 0)) (col t (y 1)) := by unfold row col; blk_ext [idx t]
  rw [e]
  blk_simp; rw [after0_4]
  by_cases h0 : t.val % 16 = 0
  · rw [outsAt0_A m c t h0]; dsimp only; frame_out
    exact (congrArg _ (eq_ix2 y)).trans (dup_block m c h t _ (kept_first m c t h0) (y 0) (y 1))
  · rw [outsAt0_B m c t h0]; dsimp only; frame_out
    exact (congrArg _ (eq_ix2 y)).trans (dup_block m c h t _ (kept_next m c h t h0) (y 0) (y 1))

/-- The gradient of the convolution's weights is the reference's. -/
theorem final_dw (h : Finite m c) : (dats m 0 c).arrAt 5 (cfgs 0).N = val_main_v62 (F := Ideal) (UP m c) (XC m c) (DA m c) := by
  refine (dats m 0 c).arrAt_eq_of_covers 5 _ (by decide +kernel) fun t hf y => ?_
  have ht : t.val % 16 = 16 - 1 := (flush0_5 t).mp hf
  have e : ((cfg0.win 5).blk t).view.emb y = ix2 (y 0) (col t (y 1)) := by unfold col; blk_ext [idx t]
  rw [e]
  refine Eq.trans ?_ (ref_dw _ _ _ (col t (y 1)) (y 0)).symm
  blk_simp
  rw [after0_5, Pipeline.eq_sum_fin_of_reset_step_apply_of_flush (fun n h => (outsAt0 m c n h).2.1) 16 (fun _ => (0 : EReal)) (wpart m c)
    (fun t h0 j => by
      rw [outsAt0_A m c t h0]; dsimp only; frame_out
      exact (dw_block m c h t _ (kept_first m c t h0) _ j).trans (congrArg (· + wpart m c t j) (by pointwise [k0_pay4])))
    (fun t h0 j => by
      rw [outsAt0_B m c t h0]; dsimp only; frame_out
      exact dw_block m c h t _ (kept_next m c h t h0) _ j)
    t ht y]
  refine (zero_add (_ : EReal)).trans (Eq.trans (Finset.sum_congr rfl fun s _ => ?_) (sum_rows t ht fun R =>
    below (XC m c) (DA m c) R (col t (y 1)) (2 - (y 0).val) * UP m c (ix2 R (col t (y 1)))))
  exact Finset.sum_congr rfl fun r _ => congrArg (fun k => below (XC m c) (DA m c) (row _ r) k (2 - (y 0).val) * UP m c (ix2 (row _ r) k))
    (col_run t ht s (y 1))

/-- The gradient of the convolution's bias is the reference's. -/
theorem final_db (h : Finite m c) : (dats m 0 c).arrAt 6 (cfgs 0).N = val_main_v42 (F := Ideal) (XC m c) (DA m c) := by
  refine (dats m 0 c).arrAt_eq_of_covers 6 _ (by decide +kernel) fun t hf y => ?_
  have ht : t.val % 16 = 16 - 1 := (flush0_6 t).mp hf
  have e : ((cfg0.win 6).blk t).view.emb y = ix2 (0 : Fin 1) (col t (y 1)) := by unfold col; blk_ext [idx t]
  rw [e]
  refine Eq.trans ?_ (ref_db _ _ (col t (y 1))).symm
  blk_simp
  rw [after0_6, Pipeline.eq_sum_fin_of_reset_step_apply_of_flush (fun n h => (outsAt0 m c n h).2.2.1) 16 (fun _ => (0 : EReal)) (bpart m c)
    (fun t h0 j => by
      rw [outsAt0_A m c t h0]; dsimp only; frame_out
      exact (db_block m c h t _ j).trans (congrArg (· + bpart m c t j) (by pointwise [k0_pay5])))
    (fun t h0 j => by
      rw [outsAt0_B m c t h0]; dsimp only; frame_out
      exact db_block m c h t _ j)
    t ht y]
  refine (zero_add (_ : EReal)).trans (Eq.trans (Finset.sum_congr rfl fun s _ => ?_) (sum_rows t ht fun R =>
    below (XC m c) (DA m c) R (col t (y 1)) 0))
  exact Finset.sum_congr rfl fun r _ => congrArg (fun k => below (XC m c) (DA m c) (row _ r) k 0) (col_run t ht s (y 1))

end results

/-! ## The claims -/

/-- An extended real smaller in size than the infinite one is a real. -/
theorem real_of_lt (x : EReal) (h : Ideal.cmp .olt (max x (-x)) (Ideal.ofBits .f32 0x7F800000#32) = 1) : ∃ a : ℝ, x = a := by
  rw [Ideal.cmp_olt_eq_one] at h
  have e : Ideal.ofBits .f32 0x7F800000#32 = ⊤ := by simp [Ideal.ofBits, Ideal.ieee]
  rw [e] at h
  induction x with
  | bot => simp at h
  | top => simp at h
  | coe a => exact ⟨a, rfl⟩

/-- The precondition says that the convolution's saved result and the gated result's gradient hold no infinity. -/
theorem finite_of_pre [Cert.Pre_finite_acts.Facts] (m : (ℓ : Loc nD τ sig) → Buf (Elt Ideal) ℓ) (h : Cert.Pre_Kernel29Ideal_finite_acts m)
    (c : Dev nD) : Finite m c :=
  ⟨fun j => real_of_lt _ (congrFun (h c).1 j), fun j => real_of_lt _ (congrFun (h c).2 j)⟩

/-- Every run of the reference ends, with its arguments unchanged; it declares no semaphore. -/
theorem frame_ref : Cert.quiescent_Reference29Ideal := by
  intro m ρ _
  exact (θ_run Cert.Reference29Ideal.defs _ _).mono (fun r h => ⟨fun c => (h c).2.2.2,
    Idealize.ShloMosaic.sem_eq_zero_of_no_sems (by decide) r.2⟩) (Cert.Reference29Ideal.Value.run m ρ)

/-- The kernel's run and the reference's leave the same three gradients. -/
theorem algebraic [Cert.Pre_finite_acts.Facts] : Cert.algebraic_Kernel29Ideal_Reference29Ideal_pre_finite_acts := by
  pair_intro
  · run_from Cert.Kernel29Ideal.Gen.run_main m g
  · refine (θ_run Cert.Reference29Ideal.defs _ _).mono
      (fun r h c => ⟨(h c).1.trans ?_, (h c).2.1.trans ?_, (h c).2.2.1.trans ?_, (h c).2.2.2⟩)
      (Cert.Reference29Ideal.Value.run m' g')
    · obtain ⟨e0, e1, e2, e3⟩ := hagree c
      rw [Cert.Reference29Ideal.Read.val_main_v71_eq, e1, e2, e3]
      exact (final_dup m c (finite_of_pre m hpre c)).symm
    · obtain ⟨e0, e1, e2, e3⟩ := hagree c
      rw [Cert.Reference29Ideal.Read.val_main_v62_eq, e0, e1, e2]
      exact (final_dw m c (finite_of_pre m hpre c)).symm
    · obtain ⟨e0, e1, e2, e3⟩ := hagree c
      rw [Cert.Reference29Ideal.Read.val_main_v42_eq, e1, e2]
      exact (final_db m c (finite_of_pre m hpre c)).symm

end Cert.Kernel29Ideal.Act

end

end
-- ==== Proof.LatePairSum.lean ====
/- Hand-written, untrusted: what the sum over the cores of a chip leaves, over the extended reals, and that it is what the reference computes. -/
module

public import proofs.«01_k».proof.Defs
public import proofs.«01_k».proof.Proof.Gen.Kernel30.Frame
public import proofs.«01_k».proof.Proof.Gen.Kernel30Ideal.Frame
public import proofs.«01_k».proof.Proof.Gen.Reference30Ideal.Read
public import proofs.«01_k».proof.Proof.Gen.Pre_late_core
public import proofs.«01_k».proof.Proof.GradMath
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)
open Cert.GradMath

namespace Cert.Kernel30.Sum

open Cert.Kernel30 Cert.Kernel30.Gen

section table
variable (m : (ℓ : Loc nD τ sig) → Buf (Elt Bits) ℓ)

/-- The number in the table, as the kernel reads it. -/
def num : BitVec 32 := (show IVec S1 32 from m (((0 : Dev nD).tc : Thread nD τ).loc main_arg0)) (ix1 0)

/-- The block of the device's own array that the kernel fetches. -/
theorem at_num (i : grid0.Coords) :
    cc0_transform_0 Facts₀.inb_S1_S1_0 Facts₀.numel1_S1 (tbl m) i = ![(BitVec.ofNat 32 (i 0).val).toNat, (num m).toNat, (BitVec.ofNat 32 (i 1).val).toNat, 0] := by
  have e : (tbl m).at 0 (Rect.unit (s := S1) ![0] S1.size Facts₀.inb_S1_S1_0) Facts₀.numel1_S1 = num m :=
    congrArg (show IVec S1 32 from m (((0 : Dev nD).tc : Thread nD τ).loc main_arg0)) (eq_first _)
  unfold cc0_transform_0
  dsimp only
  rw [e]
  rfl

theorem in_range (h : Cert.Pre_Kernel30 m) : Two (num m) := two _ (congrFun (h 0) (ix1 0))

/-- The blocks the table names lie in the array. -/
theorem ok_of_pre (h : Cert.Pre_Kernel30 m) : Gen.Ok m := by
  have h := in_range m h
  intro i
  rw [at_num]
  generalize num m = q at h
  rcases h with rfl | rfl <;> revert i <;> decide +kernel

end table

/-- Every run ends, its arguments unchanged and its counters at zero. -/
theorem frame : Cert.quiescent_Kernel30 := fun m ρ h => Gen.frame m ρ (ok_of_pre m h)

end Cert.Kernel30.Sum

namespace Cert.Kernel30Ideal.Sum

open Cert.Kernel30Ideal Cert.Kernel30Ideal.Gen

section table
variable (m : (ℓ : Loc nD τ sig) → Buf (Elt Ideal) ℓ)

/-- The number in the table, as the kernel reads it. -/
def num : BitVec 32 := (show IVec S1 32 from m (((0 : Dev nD).tc : Thread nD τ).loc main_arg0)) (ix1 0)

/-- The block of the device's own array that the kernel fetches. -/
theorem at_num (i : grid0.Coords) :
    cc0_transform_0 Facts₀.inb_S1_S1_0 Facts₀.numel1_S1 (tbl m) i = ![(BitVec.ofNat 32 (i 0).val).toNat, (num m).toNat, (BitVec.ofNat 32 (i 1).val).toNat, 0] := by
  have e : (tbl m).at 0 (Rect.unit (s := S1) ![0] S1.size Facts₀.inb_S1_S1_0) Facts₀.numel1_S1 = num m :=
    congrArg (show IVec S1 32 from m (((0 : Dev nD).tc : Thread nD τ).loc main_arg0)) (eq_first _)
  unfold cc0_transform_0
  dsimp only
  rw [e]
  rfl

theorem in_range (h : Cert.Pre_Kernel30Ideal m) : Two (num m) := two _ (congrFun (h 0) (ix1 0))

/-- The blocks the table names lie in the array. -/
theorem ok_of_pre (h : Cert.Pre_Kernel30Ideal m) : Gen.Ok m := by
  have h := in_range m h
  intro i
  rw [at_num]
  generalize num m = q at h
  rcases h with rfl | rfl <;> revert i <;> decide +kernel

end table

/-- Every run ends, its arguments unchanged and its counters at zero. -/
theorem frame : Cert.quiescent_Kernel30Ideal := fun m ρ h => Gen.frame m ρ (ok_of_pre m h)

end Cert.Kernel30Ideal.Sum

namespace Cert.Kernel30Ideal.Sum

open Cert.Kernel30Ideal Cert.Kernel30Ideal.Gen Cert.Reference30Ideal.Read

section results
variable (m : (ℓ : Loc nD τ sig) → Buf (Elt Ideal) ℓ) (hO : Gen.Ok m) (c : Dev nD)

/-- Tables that hold a zero. -/
def adm0 : (pcfg0 (F := Ideal)).Adm :=
  ⟨fun | 0 => fun _ => 0#32 | ⟨_ + 1, h⟩ => absurd h (Nat.not_lt.2 (Nat.le_add_left _ _)), by decide +kernel⟩

/-- The blocks written back cover the array, whatever the tables. -/
theorem covers : ((cfgM m hO).win 2).Covers :=
  (by decide +kernel : ((cfg0 adm0).win 2).Covers)

/-- The block of every window at every grid point: the four shares, one after another, each a block of rows at a time. -/
theorem idx (t : Fin (cfgM m hO).N) : ((cfgM m hO).win 0).index t = ![t.val / 7, (num m).toNat, t.val % 7, 0]
    ∧ ((cfgM m hO).win 1).index t = ![t.val / 7, t.val % 7, 0] ∧ ((cfgM m hO).win 2).index t = ![t.val / 7, t.val % 7, 0] := by
  refine ⟨(at_num m _).trans ?_, ?_, ?_⟩
  · rw [(by decide +kernel : ∀ t : Fin grid0.N, (BitVec.ofNat 32 (grid0.coords t 0).val).toNat = t.val / 7),
      (by decide +kernel : ∀ t : Fin grid0.N, (BitVec.ofNat 32 (grid0.coords t 1).val).toNat = t.val % 7)]
  · exact (by decide +kernel : ∀ t : Fin grid0.N, cc0_transform_1 (grid0.coords t) = ![t.val / 7, t.val % 7, 0]) t
  · exact (by decide +kernel : ∀ t : Fin grid0.N, cc0_transform_2 (grid0.coords t) = ![t.val / 7, t.val % 7, 0]) t

/-- The share a point's block is of. -/
def part (t : Fin (cfgM m hO).N) : Fin 4 := ⟨t.val / 7, by have := lt_of_lt_of_eq t.isLt N_0; omega⟩

/-- The row of that share that row `r` of the block is. -/
def row (t : Fin (cfgM m hO).N) (r : Fin 224) : Fin 1568 := ⟨t.val % 7 * 224 + r, by have := Nat.mod_lt t.val (show 0 < 7 by decide); omega⟩

/-- The half the reference adds to: the device's own. -/
theorem own (x0 : IVec S1 32) (x1 : FVec Ideal S4x2x1568x1024 .bf16) (k : Fin 2) (h : x0 (ix1 0) = BitVec.ofNat 32 k.val) (a : Fin 4)
    (R : Fin 1568) (l : Fin 1024) : val_main_v6 (F := Ideal) x0 x1 (ix3 a R l) = x1 (ix4 a k R l) := by
  obtain rfl : x0 = fun _ => BitVec.ofNat 32 k.val := funext fun z => (congrArg x0 (eq_first z)).trans h
  fin_cases k <;> pointwise [val_main_v6, val_main_v5, val_main_v4, val_main_v3, val_main_v2, val_main_v1, val_main_c, val_main_v0] <;> rfl

/-- What the body leaves of its blocks. -/
theorem step_eq (i : grid0.Coords) (a2 : Memref sig .tc .vmem S1x1x224x1024 .bf16) (h2 : a2.IsWhole) (a3 : Memref sig .tc .vmem S1x224x1024 .bf16)
    (h3 : a3.IsWhole) (a4 : Memref sig .tc .vmem S1x224x1024 .bf16) (h4 : a4.IsWhole) (p : FVec Ideal S1x1x224x1024 .bf16)
    (b : FVec Ideal S1x224x1024 .bf16) (x : TbBuf0 (F := Ideal) c tbM0_0) (r : Fin 224) (l : Fin 1024) :
    out0_A_2 c i a2 h2 a3 h3 a4 h4 p b x (ix3 0 r l) = add2 (p (ix4 0 0 r l)) (b (ix3 0 r l)) := by
  unfold out0_A_2
  frame_out
  pointwise [k0_pay1, add2]

/-- What the reference leaves. -/
theorem ref_eq (x0 : IVec S1 32) (x1 : FVec Ideal S4x2x1568x1024 .bf16) (x2 : FVec Ideal S4x1568x1024 .bf16) (k : Fin 2)
    (h : x0 (ix1 0) = BitVec.ofNat 32 k.val) (a : Fin 4) (R : Fin 1568) (l : Fin 1024) :
    val_main_v10 (F := Ideal) x0 x1 x2 (ix3 a R l) = add2 (x1 (ix4 a k R l)) (x2 (ix3 a R l)) := by
  rw [val_main_v10_apply, val_main_v9_apply, val_main_v8_apply, val_main_v7_apply, own x0 x1 k h]
  pointwise [add2]

/-- The sum the kernel leaves is the reference's. -/
theorem final (h : Two (num m)) : (dats m hO 0 c).arrAt 2 ((Pipeline.pin (pcfgs (F := Ideal)) fun _ => adm m hO) 0).N
    = val_main_v10 (F := Ideal) (m ((c.tc : Thread nD τ).loc main_arg0)) (m ((c.tc : Thread nD τ).loc main_arg1))
      (m ((c.tc : Thread nD τ).loc main_arg2)) := by
  refine (dats m hO 0 c).arrAt_eq_of_covers 2 _ (covers m hO) fun t hf (y : S1x224x1024.Idx) => ?_
  obtain ⟨r, l, rfl⟩ : ∃ r l, y = ix3 0 r l := ⟨y 1, y 2, (eq_ix3 y).trans (congrArg (ix3 · (y 1) (y 2)) (Subsingleton.elim (α := Fin 1) _ _))⟩
  have e : (((cfgM m hO).win 2).blk t).view.emb (ix3 0 r l : S1x224x1024.Idx) = ix3 (part m hO t) (row m hO t r) l := by
    unfold row part; blk_ext [idx m hO t]
  rw [e]
  blk_simp; rw [after0_2]
  have hx : (show FVec Ideal S1x1x224x1024 .bf16 from iblk m hO c 0 t) (ix4 0 0 r l)
      = (show FVec Ideal S4x2x1568x1024 .bf16 from m ((c : Thread nD τ).loc main_arg1)) (ix4 (part m hO t) (half h) (row m hO t r) l) := by
    unfold row part half; blk_ext [iblk, V, idx m hO t]
  have hw : (show FVec Ideal S1x224x1024 .bf16 from iblk m hO c 1 t) (ix3 0 r l)
      = (show FVec Ideal S4x1568x1024 .bf16 from m ((c : Thread nD τ).loc main_arg2)) (ix3 (part m hO t) (row m hO t r) l) := by
    unfold row part; blk_ext [iblk, V, idx m hO t]
  unfold outsAt0
  refine (step_eq c _ _ _ _ _ _ _ _ _ _ r l).trans ((congr (congrArg add2 hx) hw).trans (ref_eq _ _ _ (half h) ?_ _ _ _).symm)
  obtain rfl := Subsingleton.elim c 0
  exact (half_eq h).symm

end results

/-- The kernel's run and the reference's leave the same array. -/
theorem algebraic : Cert.algebraic_Kernel30Ideal_Reference30Ideal := by
  intro m g m' g' hpre hagree
  have hO := ok_of_pre m hpre
  refine ⟨fun c => val_main_v10 (F := Ideal) (m ((c.tc : Thread nD τ).loc main_arg0)) (m ((c.tc : Thread nD τ).loc main_arg1))
    (m ((c.tc : Thread nD τ).loc main_arg2)), ?_, ?_⟩
  · exact (θ_run Cert.Kernel30Ideal.defs _ _).mono (fun r h c => ⟨((h c).1 2).trans (final m hO c (in_range m hpre)),
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).1 1).trans (((dats m hO 0 c).arrAt_in 1 rfl _).trans ((A_eq m hO c 1).trans (V_main_arg2 m c)))⟩)
      (Cert.Kernel30Ideal.Gen.run_main m g hO)
  · refine (θ_run Cert.Reference30Ideal.defs _ _).mono (fun r h c => ⟨(h c).1.trans ?_, (h c).2⟩)
      (Cert.Reference30Ideal.Value.run m' g')
    obtain ⟨e0, e1, e2⟩ := hagree c
    rw [Cert.Reference30Ideal.Read.val_main_v10_eq, e0, e1, e2]

end Cert.Kernel30Ideal.Sum

end

end
-- ==== Proof.WindowPairSum.lean ====
/- Hand-written, untrusted: what the sum over the cores of a chip leaves, over the extended reals, and that it is what the reference computes. -/
module

public import proofs.«01_k».proof.Defs
public import proofs.«01_k».proof.Proof.Gen.Kernel31.Frame
public import proofs.«01_k».proof.Proof.Gen.Kernel31Ideal.Frame
public import proofs.«01_k».proof.Proof.Gen.Reference31Ideal.Read
public import proofs.«01_k».proof.Proof.Gen.Pre_w_in_core
public import proofs.«01_k».proof.Proof.GradMath
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)
open Cert.GradMath

namespace Cert.Kernel31.Sum

open Cert.Kernel31 Cert.Kernel31.Gen

section table
variable (m : (ℓ : Loc nD τ sig) → Buf (Elt Bits) ℓ)

/-- The number in the table, as the kernel reads it. -/
def num : BitVec 32 := (show IVec S1 32 from m (((0 : Dev nD).tc : Thread nD τ).loc main_arg0)) (ix1 0)

/-- The block of the device's own array that the kernel fetches. -/
theorem at_num (i : grid0.Coords) :
    cc0_transform_0 Facts₀.inb_S1_S1_0 Facts₀.numel1_S1 (tbl m) i = ![(BitVec.ofNat 32 (i 0).val).toNat, (num m).toNat, (BitVec.ofNat 32 (i 1).val).toNat, 0] := by
  have e : (tbl m).at 0 (Rect.unit (s := S1) ![0] S1.size Facts₀.inb_S1_S1_0) Facts₀.numel1_S1 = num m :=
    congrArg (show IVec S1 32 from m (((0 : Dev nD).tc : Thread nD τ).loc main_arg0)) (eq_first _)
  unfold cc0_transform_0
  dsimp only
  rw [e]
  rfl

theorem in_range (h : Cert.Pre_Kernel31 m) : Two (num m) := two _ (congrFun (h 0) (ix1 0))

/-- The blocks the table names lie in the array. -/
theorem ok_of_pre (h : Cert.Pre_Kernel31 m) : Gen.Ok m := by
  have h := in_range m h
  intro i
  rw [at_num]
  generalize num m = q at h
  rcases h with rfl | rfl <;> revert i <;> decide +kernel

end table

/-- Every run ends, its arguments unchanged and its counters at zero. -/
theorem frame : Cert.quiescent_Kernel31 := fun m ρ h => Gen.frame m ρ (ok_of_pre m h)

end Cert.Kernel31.Sum

namespace Cert.Kernel31Ideal.Sum

open Cert.Kernel31Ideal Cert.Kernel31Ideal.Gen

section table
variable (m : (ℓ : Loc nD τ sig) → Buf (Elt Ideal) ℓ)

/-- The number in the table, as the kernel reads it. -/
def num : BitVec 32 := (show IVec S1 32 from m (((0 : Dev nD).tc : Thread nD τ).loc main_arg0)) (ix1 0)

/-- The block of the device's own array that the kernel fetches. -/
theorem at_num (i : grid0.Coords) :
    cc0_transform_0 Facts₀.inb_S1_S1_0 Facts₀.numel1_S1 (tbl m) i = ![(BitVec.ofNat 32 (i 0).val).toNat, (num m).toNat, (BitVec.ofNat 32 (i 1).val).toNat, 0] := by
  have e : (tbl m).at 0 (Rect.unit (s := S1) ![0] S1.size Facts₀.inb_S1_S1_0) Facts₀.numel1_S1 = num m :=
    congrArg (show IVec S1 32 from m (((0 : Dev nD).tc : Thread nD τ).loc main_arg0)) (eq_first _)
  unfold cc0_transform_0
  dsimp only
  rw [e]
  rfl

theorem in_range (h : Cert.Pre_Kernel31Ideal m) : Two (num m) := two _ (congrFun (h 0) (ix1 0))

/-- The blocks the table names lie in the array. -/
theorem ok_of_pre (h : Cert.Pre_Kernel31Ideal m) : Gen.Ok m := by
  have h := in_range m h
  intro i
  rw [at_num]
  generalize num m = q at h
  rcases h with rfl | rfl <;> revert i <;> decide +kernel

end table

/-- Every run ends, its arguments unchanged and its counters at zero. -/
theorem frame : Cert.quiescent_Kernel31Ideal := fun m ρ h => Gen.frame m ρ (ok_of_pre m h)

end Cert.Kernel31Ideal.Sum

namespace Cert.Kernel31Ideal.Sum

open Cert.Kernel31Ideal Cert.Kernel31Ideal.Gen Cert.Reference31Ideal.Read

section results
variable (m : (ℓ : Loc nD τ sig) → Buf (Elt Ideal) ℓ) (hO : Gen.Ok m) (c : Dev nD)

/-- Tables that hold a zero. -/
def adm0 : (pcfg0 (F := Ideal)).Adm :=
  ⟨fun | 0 => fun _ => 0#32 | ⟨_ + 1, h⟩ => absurd h (Nat.not_lt.2 (Nat.le_add_left _ _)), by decide +kernel⟩

/-- The blocks written back cover the array, whatever the tables. -/
theorem covers : ((cfgM m hO).win 2).Covers :=
  (by decide +kernel : ((cfg0 adm0).win 2).Covers)

/-- The block of every window at every grid point: the four shares, one after another, each a block of rows at a time. -/
theorem idx (t : Fin (cfgM m hO).N) : ((cfgM m hO).win 0).index t = ![t.val / 1, (num m).toNat, t.val % 1, 0]
    ∧ ((cfgM m hO).win 1).index t = ![t.val / 1, t.val % 1, 0] ∧ ((cfgM m hO).win 2).index t = ![t.val / 1, t.val % 1, 0] := by
  refine ⟨(at_num m _).trans ?_, ?_, ?_⟩
  · rw [(by decide +kernel : ∀ t : Fin grid0.N, (BitVec.ofNat 32 (grid0.coords t 0).val).toNat = t.val / 1),
      (by decide +kernel : ∀ t : Fin grid0.N, (BitVec.ofNat 32 (grid0.coords t 1).val).toNat = t.val % 1)]
  · exact (by decide +kernel : ∀ t : Fin grid0.N, cc0_transform_1 (grid0.coords t) = ![t.val / 1, t.val % 1, 0]) t
  · exact (by decide +kernel : ∀ t : Fin grid0.N, cc0_transform_2 (grid0.coords t) = ![t.val / 1, t.val % 1, 0]) t

/-- The share a point's block is of. -/
def part (t : Fin (cfgM m hO).N) : Fin 4 := ⟨t.val / 1, by have := lt_of_lt_of_eq t.isLt N_0; omega⟩

/-- The row of that share that row `r` of the block is. -/
def row (t : Fin (cfgM m hO).N) (r : Fin 1168) : Fin 1168 := ⟨t.val % 1 * 1168 + r, by have := Nat.mod_lt t.val (show 0 < 1 by decide); omega⟩

/-- The half the reference adds to: the device's own. -/
theorem own (x0 : IVec S1 32) (x1 : FVec Ideal S4x2x1168x1024 .bf16) (k : Fin 2) (h : x0 (ix1 0) = BitVec.ofNat 32 k.val) (a : Fin 4)
    (R : Fin 1168) (l : Fin 1024) : val_main_v6 (F := Ideal) x0 x1 (ix3 a R l) = x1 (ix4 a k R l) := by
  obtain rfl : x0 = fun _ => BitVec.ofNat 32 k.val := funext fun z => (congrArg x0 (eq_first z)).trans h
  fin_cases k <;> pointwise [val_main_v6, val_main_v5, val_main_v4, val_main_v3, val_main_v2, val_main_v1, val_main_c, val_main_v0] <;> rfl

/-- What the body leaves of its blocks. -/
theorem step_eq (i : grid0.Coords) (a2 : Memref sig .tc .vmem S1x1x1168x1024 .bf16) (h2 : a2.IsWhole) (a3 : Memref sig .tc .vmem S1x1168x1024 .bf16)
    (h3 : a3.IsWhole) (a4 : Memref sig .tc .vmem S1x1168x1024 .bf16) (h4 : a4.IsWhole) (p : FVec Ideal S1x1x1168x1024 .bf16)
    (b : FVec Ideal S1x1168x1024 .bf16) (x : TbBuf0 (F := Ideal) c tbM0_0) (r : Fin 1168) (l : Fin 1024) :
    out0_A_2 c i a2 h2 a3 h3 a4 h4 p b x (ix3 0 r l) = add2 (p (ix4 0 0 r l)) (b (ix3 0 r l)) := by
  unfold out0_A_2
  frame_out
  pointwise [k0_pay1, add2]

/-- What the reference leaves. -/
theorem ref_eq (x0 : IVec S1 32) (x1 : FVec Ideal S4x2x1168x1024 .bf16) (x2 : FVec Ideal S4x1168x1024 .bf16) (k : Fin 2)
    (h : x0 (ix1 0) = BitVec.ofNat 32 k.val) (a : Fin 4) (R : Fin 1168) (l : Fin 1024) :
    val_main_v10 (F := Ideal) x0 x1 x2 (ix3 a R l) = add2 (x1 (ix4 a k R l)) (x2 (ix3 a R l)) := by
  rw [val_main_v10_apply, val_main_v9_apply, val_main_v8_apply, val_main_v7_apply, own x0 x1 k h]
  pointwise [add2]

/-- The sum the kernel leaves is the reference's. -/
theorem final (h : Two (num m)) : (dats m hO 0 c).arrAt 2 ((Pipeline.pin (pcfgs (F := Ideal)) fun _ => adm m hO) 0).N
    = val_main_v10 (F := Ideal) (m ((c.tc : Thread nD τ).loc main_arg0)) (m ((c.tc : Thread nD τ).loc main_arg1))
      (m ((c.tc : Thread nD τ).loc main_arg2)) := by
  refine (dats m hO 0 c).arrAt_eq_of_covers 2 _ (covers m hO) fun t hf (y : S1x1168x1024.Idx) => ?_
  obtain ⟨r, l, rfl⟩ : ∃ r l, y = ix3 0 r l := ⟨y 1, y 2, (eq_ix3 y).trans (congrArg (ix3 · (y 1) (y 2)) (Subsingleton.elim (α := Fin 1) _ _))⟩
  have e : (((cfgM m hO).win 2).blk t).view.emb (ix3 0 r l : S1x1168x1024.Idx) = ix3 (part m hO t) (row m hO t r) l := by
    unfold row part; blk_ext [idx m hO t]
  rw [e]
  blk_simp; rw [after0_2]
  have hx : (show FVec Ideal S1x1x1168x1024 .bf16 from iblk m hO c 0 t) (ix4 0 0 r l)
      = (show FVec Ideal S4x2x1168x1024 .bf16 from m ((c : Thread nD τ).loc main_arg1)) (ix4 (part m hO t) (half h) (row m hO t r) l) := by
    unfold row part half; blk_ext [iblk, V, idx m hO t]
  have hw : (show FVec Ideal S1x1168x1024 .bf16 from iblk m hO c 1 t) (ix3 0 r l)
      = (show FVec Ideal S4x1168x1024 .bf16 from m ((c : Thread nD τ).loc main_arg2)) (ix3 (part m hO t) (row m hO t r) l) := by
    unfold row part; blk_ext [iblk, V, idx m hO t]
  unfold outsAt0
  refine (step_eq c _ _ _ _ _ _ _ _ _ _ r l).trans ((congr (congrArg add2 hx) hw).trans (ref_eq _ _ _ (half h) ?_ _ _ _).symm)
  obtain rfl := Subsingleton.elim c 0
  exact (half_eq h).symm

end results

/-- The kernel's run and the reference's leave the same array. -/
theorem algebraic : Cert.algebraic_Kernel31Ideal_Reference31Ideal := by
  intro m g m' g' hpre hagree
  have hO := ok_of_pre m hpre
  refine ⟨fun c => val_main_v10 (F := Ideal) (m ((c.tc : Thread nD τ).loc main_arg0)) (m ((c.tc : Thread nD τ).loc main_arg1))
    (m ((c.tc : Thread nD τ).loc main_arg2)), ?_, ?_⟩
  · exact (θ_run Cert.Kernel31Ideal.defs _ _).mono (fun r h c => ⟨((h c).1 2).trans (final m hO c (in_range m hpre)),
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).1 1).trans (((dats m hO 0 c).arrAt_in 1 rfl _).trans ((A_eq m hO c 1).trans (V_main_arg2 m c)))⟩)
      (Cert.Kernel31Ideal.Gen.run_main m g hO)
  · refine (θ_run Cert.Reference31Ideal.defs _ _).mono (fun r h c => ⟨(h c).1.trans ?_, (h c).2⟩)
      (Cert.Reference31Ideal.Value.run m' g')
    obtain ⟨e0, e1, e2⟩ := hagree c
    rw [Cert.Reference31Ideal.Read.val_main_v10_eq, e0, e1, e2]

end Cert.Kernel31Ideal.Sum

end

end
-- ==== Proof.LateChipSum.lean ====
/- Hand-written, untrusted: what the sum over the chips leaves, over the extended reals, and that it is what the reference computes. -/
module

public import proofs.«01_k».proof.Defs
public import proofs.«01_k».proof.Proof.Gen.Kernel32.Frame
public import proofs.«01_k».proof.Proof.Gen.Kernel32Ideal.Frame
public import proofs.«01_k».proof.Proof.Gen.Reference32Ideal.Read
public import proofs.«01_k».proof.Proof.Gen.Pre_late_chip
public import proofs.«01_k».proof.Proof.GradMath
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)
open Cert.GradMath

namespace Cert.Kernel32.Sum

open Cert.Kernel32 Cert.Kernel32.Gen

section table
variable (m : (ℓ : Loc nD τ sig) → Buf (Elt Bits) ℓ)

/-- The number in the table, as the kernel reads it. -/
def num : BitVec 32 := (show IVec S1 32 from m (((0 : Dev nD).tc : Thread nD τ).loc main_arg0)) (ix1 0)

/-- The block of the device's own array that the kernel fetches. -/
theorem at_num (i : grid0.Coords) :
    cc0_transform_0 Facts₀.inb_S1_S1_0 Facts₀.numel1_S1 (tbl m) i = ![(num m).toNat, (BitVec.ofNat 32 (i 0).val).toNat, 0] := by
  have e : (tbl m).at 0 (Rect.unit (s := S1) ![0] S1.size Facts₀.inb_S1_S1_0) Facts₀.numel1_S1 = num m :=
    congrArg (show IVec S1 32 from m (((0 : Dev nD).tc : Thread nD τ).loc main_arg0)) (eq_first _)
  unfold cc0_transform_0
  dsimp only
  rw [e]
  rfl

theorem in_range (h : Cert.Pre_Kernel32 m) : Four (num m) := four _ (congrFun (h 0) (ix1 0))

/-- The blocks the table names lie in the array. -/
theorem ok_of_pre (h : Cert.Pre_Kernel32 m) : Gen.Ok m := by
  have h := in_range m h
  intro i
  rw [at_num]
  generalize num m = q at h
  rcases h with rfl | rfl | rfl | rfl <;> revert i <;> decide +kernel

end table

/-- Every run ends, its arguments unchanged and its counters at zero. -/
theorem frame : Cert.quiescent_Kernel32 := fun m ρ h => Gen.frame m ρ (ok_of_pre m h)

end Cert.Kernel32.Sum

namespace Cert.Kernel32Ideal.Sum

open Cert.Kernel32Ideal Cert.Kernel32Ideal.Gen

section table
variable (m : (ℓ : Loc nD τ sig) → Buf (Elt Ideal) ℓ)

/-- The number in the table, as the kernel reads it. -/
def num : BitVec 32 := (show IVec S1 32 from m (((0 : Dev nD).tc : Thread nD τ).loc main_arg0)) (ix1 0)

/-- The block of the device's own array that the kernel fetches. -/
theorem at_num (i : grid0.Coords) :
    cc0_transform_0 Facts₀.inb_S1_S1_0 Facts₀.numel1_S1 (tbl m) i = ![(num m).toNat, (BitVec.ofNat 32 (i 0).val).toNat, 0] := by
  have e : (tbl m).at 0 (Rect.unit (s := S1) ![0] S1.size Facts₀.inb_S1_S1_0) Facts₀.numel1_S1 = num m :=
    congrArg (show IVec S1 32 from m (((0 : Dev nD).tc : Thread nD τ).loc main_arg0)) (eq_first _)
  unfold cc0_transform_0
  dsimp only
  rw [e]
  rfl

theorem in_range (h : Cert.Pre_Kernel32Ideal m) : Four (num m) := four _ (congrFun (h 0) (ix1 0))

/-- The blocks the table names lie in the array. -/
theorem ok_of_pre (h : Cert.Pre_Kernel32Ideal m) : Gen.Ok m := by
  have h := in_range m h
  intro i
  rw [at_num]
  generalize num m = q at h
  rcases h with rfl | rfl | rfl | rfl <;> revert i <;> decide +kernel

end table

/-- Every run ends, its arguments unchanged and its counters at zero. -/
theorem frame : Cert.quiescent_Kernel32Ideal := fun m ρ h => Gen.frame m ρ (ok_of_pre m h)

end Cert.Kernel32Ideal.Sum

namespace Cert.Kernel32Ideal.Sum

open Cert.Kernel32Ideal Cert.Kernel32Ideal.Gen Cert.Reference32Ideal.Read

section results
variable (m : (ℓ : Loc nD τ sig) → Buf (Elt Ideal) ℓ) (hO : Gen.Ok m) (c : Dev nD)

/-- Tables that hold a zero. -/
def adm0 : (pcfg0 (F := Ideal)).Adm :=
  ⟨fun | 0 => fun _ => 0#32 | ⟨_ + 1, h⟩ => absurd h (Nat.not_lt.2 (Nat.le_add_left _ _)), by decide +kernel⟩

/-- The blocks written back cover the array, whatever the tables. -/
theorem covers : ((cfgM m hO).win 2).Covers :=
  (by decide +kernel : ((cfg0 adm0).win 2).Covers)

/-- The block of every window at every grid point. -/
theorem idx (t : Fin (cfgM m hO).N) : ((cfgM m hO).win 0).index t = ![(num m).toNat, t.val, 0]
    ∧ ((cfgM m hO).win 1).index t = ![0, t.val, 0] ∧ ((cfgM m hO).win 2).index t = ![t.val, 0] := by
  refine ⟨(at_num m _).trans ?_, ?_, ?_⟩
  · rw [(by decide +kernel : ∀ t : Fin grid0.N, (BitVec.ofNat 32 (grid0.coords t 0).val).toNat = t.val)]
  · exact (by decide +kernel : ∀ t : Fin grid0.N, cc0_transform_1 (grid0.coords t) = ![0, t.val, 0]) t
  · exact (by decide +kernel : ∀ t : Fin grid0.N, cc0_transform_2 (grid0.coords t) = ![t.val, 0]) t

/-- The array row that row `r` of a point's block is. -/
def row (t : Fin (cfgM m hO).N) (r : Fin 224) : Fin 1568 := ⟨t.val * 224 + r, by have := lt_of_lt_of_eq t.isLt N_0; omega⟩

/-- The share the reference adds to: that of its chip. -/
theorem own (x0 : IVec S1 32) (x1 : FVec Ideal S4x1568x1024 .bf16) (k : Fin 4) (h : x0 (ix1 0) = BitVec.ofNat 32 k.val) (R : Fin 1568)
    (l : Fin 1024) : val_main_v16 (F := Ideal) x0 x1 (ix2 R l) = x1 (ix3 k R l) := by
  obtain rfl : x0 = fun _ => BitVec.ofNat 32 k.val := funext fun z => (congrArg x0 (eq_first z)).trans h
  fin_cases k <;> pointwise [val_main_v16, val_main_v8, val_main_v15, val_main_v10, val_main_c_1, val_main_v9, val_main_v3, val_main_c_0,
    val_main_v2, val_main_v1, val_main_c, val_main_v0, val_main_v5, val_main_v7, val_main_v12, val_main_v14, val_main_v4, val_main_v6,
    val_main_v11, val_main_v13] <;> rfl

/-- What the body leaves of its blocks. -/
theorem step_eq (i : grid0.Coords) (a2 : Memref sig .tc .vmem S1x224x1024 .bf16) (h2 : a2.IsWhole) (a3 : Memref sig .tc .vmem S3x224x1024 .bf16)
    (h3 : a3.IsWhole) (a4 : Memref sig .tc .vmem S224x1024 .f32) (h4 : a4.IsWhole) (p : FVec Ideal S1x224x1024 .bf16)
    (b : FVec Ideal S3x224x1024 .bf16) (x : TbBuf0 (F := Ideal) c tbM0_0) (r : Fin 224) (l : Fin 1024) :
    out0_A_2 c i a2 h2 a3 h3 a4 h4 p b x (ix2 r l) = add4 (p (ix3 0 r l)) (b (ix3 0 r l)) (b (ix3 1 r l)) (b (ix3 2 r l)) := by
  unfold out0_A_2
  frame_out
  pointwise [k0_pay1, View.ld_unit, add4]

/-- What the reference leaves. -/
theorem ref_eq (x0 : IVec S1 32) (x1 : FVec Ideal S4x1568x1024 .bf16) (x2 : FVec Ideal S3x1568x1024 .bf16) (k : Fin 4)
    (h : x0 (ix1 0) = BitVec.ofNat 32 k.val) (R : Fin 1568) (l : Fin 1024) : val_main_v29 (F := Ideal) x0 x1 x2 (ix2 R l)
      = add4 (x1 (ix3 k R l)) (x2 (ix3 0 R l)) (x2 (ix3 1 R l)) (x2 (ix3 2 R l)) := by
  rw [val_main_v29_apply, val_main_v25_apply, val_main_v21_apply, val_main_v17_apply, own x0 x1 k h]
  pointwise [add4, val_main_v28, val_main_v27, val_main_v26, val_main_v24, val_main_v23, val_main_v22, val_main_v20, val_main_v19,
    val_main_v18]

/-- The sum the kernel leaves is the reference's. -/
theorem final (h : Four (num m)) : (dats m hO 0 c).arrAt 2 ((Pipeline.pin (pcfgs (F := Ideal)) fun _ => adm m hO) 0).N
    = val_main_v29 (F := Ideal) (m ((c.tc : Thread nD τ).loc main_arg0)) (m ((c.tc : Thread nD τ).loc main_arg1))
      (m ((c.tc : Thread nD τ).loc main_arg2)) := by
  refine (dats m hO 0 c).arrAt_eq_of_covers 2 _ (covers m hO) fun t hf (y : S224x1024.Idx) => ?_
  have e : (((cfgM m hO).win 2).blk t).view.emb y = ix2 (row m hO t (y 0)) (y 1) := by unfold row; blk_ext [idx m hO t]
  rw [e]
  blk_simp; rw [after0_2]
  have hx : ∀ r l, (show FVec Ideal S1x224x1024 .bf16 from iblk m hO c 0 t) (ix3 0 r l)
      = (show FVec Ideal S4x1568x1024 .bf16 from m ((c : Thread nD τ).loc main_arg1)) (ix3 (share h) (row m hO t r) l) := fun r l => by
    unfold row share; blk_ext [iblk, V, idx m hO t]
  have hw : ∀ k r l, (show FVec Ideal S3x224x1024 .bf16 from iblk m hO c 1 t) (ix3 k r l)
      = (show FVec Ideal S3x1568x1024 .bf16 from m ((c : Thread nD τ).loc main_arg2)) (ix3 k (row m hO t r) l) := fun k r l => by
    unfold row; blk_ext [iblk, V, idx m hO t]
  unfold outsAt0
  refine (congrArg _ (eq_ix2 y)).trans ((step_eq c _ _ _ _ _ _ _ _ _ _ (y 0) (y 1)).trans ?_)
  refine (congr (congr (congr (congrArg add4 (hx _ _)) (hw 0 _ _)) (hw 1 _ _)) (hw 2 _ _)).trans
    (ref_eq _ _ _ (share h) ?_ _ _).symm
  obtain rfl := Subsingleton.elim c 0
  exact (share_eq h).symm

end results

/-- The kernel's run and the reference's leave the same array. -/
theorem algebraic : Cert.algebraic_Kernel32Ideal_Reference32Ideal := by
  intro m g m' g' hpre hagree
  have hO := ok_of_pre m hpre
  refine ⟨fun c => val_main_v29 (F := Ideal) (m ((c.tc : Thread nD τ).loc main_arg0)) (m ((c.tc : Thread nD τ).loc main_arg1))
    (m ((c.tc : Thread nD τ).loc main_arg2)), ?_, ?_⟩
  · exact (θ_run Cert.Kernel32Ideal.defs _ _).mono (fun r h c => ⟨((h c).1 2).trans (final m hO c (in_range m hpre)),
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).1 1).trans (((dats m hO 0 c).arrAt_in 1 rfl _).trans ((A_eq m hO c 1).trans (V_main_arg2 m c)))⟩)
      (Cert.Kernel32Ideal.Gen.run_main m g hO)
  · refine (θ_run Cert.Reference32Ideal.defs _ _).mono (fun r h c => ⟨(h c).1.trans ?_, (h c).2⟩)
      (Cert.Reference32Ideal.Value.run m' g')
    obtain ⟨e0, e1, e2⟩ := hagree c
    rw [Cert.Reference32Ideal.Read.val_main_v29_eq, e0, e1, e2]

end Cert.Kernel32Ideal.Sum

end

end
-- ==== Proof.WindowChipSum.lean ====
/- Hand-written, untrusted: what the sum over the chips leaves, over the extended reals, and that it is what the reference computes. -/
module

public import proofs.«01_k».proof.Defs
public import proofs.«01_k».proof.Proof.Gen.Kernel33.Frame
public import proofs.«01_k».proof.Proof.Gen.Kernel33Ideal.Frame
public import proofs.«01_k».proof.Proof.Gen.Reference33Ideal.Read
public import proofs.«01_k».proof.Proof.Gen.Pre_w_in_chip
public import proofs.«01_k».proof.Proof.GradMath
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)
open Cert.GradMath

namespace Cert.Kernel33.Sum

open Cert.Kernel33 Cert.Kernel33.Gen

section table
variable (m : (ℓ : Loc nD τ sig) → Buf (Elt Bits) ℓ)

/-- The number in the table, as the kernel reads it. -/
def num : BitVec 32 := (show IVec S1 32 from m (((0 : Dev nD).tc : Thread nD τ).loc main_arg0)) (ix1 0)

/-- The block of the device's own array that the kernel fetches. -/
theorem at_num (i : grid0.Coords) :
    cc0_transform_0 Facts₀.inb_S1_S1_0 Facts₀.numel1_S1 (tbl m) i = ![(num m).toNat, (BitVec.ofNat 32 (i 0).val).toNat, 0] := by
  have e : (tbl m).at 0 (Rect.unit (s := S1) ![0] S1.size Facts₀.inb_S1_S1_0) Facts₀.numel1_S1 = num m :=
    congrArg (show IVec S1 32 from m (((0 : Dev nD).tc : Thread nD τ).loc main_arg0)) (eq_first _)
  unfold cc0_transform_0
  dsimp only
  rw [e]
  rfl

theorem in_range (h : Cert.Pre_Kernel33 m) : Four (num m) := four _ (congrFun (h 0) (ix1 0))

/-- The blocks the table names lie in the array. -/
theorem ok_of_pre (h : Cert.Pre_Kernel33 m) : Gen.Ok m := by
  have h := in_range m h
  intro i
  rw [at_num]
  generalize num m = q at h
  rcases h with rfl | rfl | rfl | rfl <;> revert i <;> decide +kernel

end table

/-- Every run ends, its arguments unchanged and its counters at zero. -/
theorem frame : Cert.quiescent_Kernel33 := fun m ρ h => Gen.frame m ρ (ok_of_pre m h)

end Cert.Kernel33.Sum

namespace Cert.Kernel33Ideal.Sum

open Cert.Kernel33Ideal Cert.Kernel33Ideal.Gen

section table
variable (m : (ℓ : Loc nD τ sig) → Buf (Elt Ideal) ℓ)

/-- The number in the table, as the kernel reads it. -/
def num : BitVec 32 := (show IVec S1 32 from m (((0 : Dev nD).tc : Thread nD τ).loc main_arg0)) (ix1 0)

/-- The block of the device's own array that the kernel fetches. -/
theorem at_num (i : grid0.Coords) :
    cc0_transform_0 Facts₀.inb_S1_S1_0 Facts₀.numel1_S1 (tbl m) i = ![(num m).toNat, (BitVec.ofNat 32 (i 0).val).toNat, 0] := by
  have e : (tbl m).at 0 (Rect.unit (s := S1) ![0] S1.size Facts₀.inb_S1_S1_0) Facts₀.numel1_S1 = num m :=
    congrArg (show IVec S1 32 from m (((0 : Dev nD).tc : Thread nD τ).loc main_arg0)) (eq_first _)
  unfold cc0_transform_0
  dsimp only
  rw [e]
  rfl

theorem in_range (h : Cert.Pre_Kernel33Ideal m) : Four (num m) := four _ (congrFun (h 0) (ix1 0))

/-- The blocks the table names lie in the array. -/
theorem ok_of_pre (h : Cert.Pre_Kernel33Ideal m) : Gen.Ok m := by
  have h := in_range m h
  intro i
  rw [at_num]
  generalize num m = q at h
  rcases h with rfl | rfl | rfl | rfl <;> revert i <;> decide +kernel

end table

/-- Every run ends, its arguments unchanged and its counters at zero. -/
theorem frame : Cert.quiescent_Kernel33Ideal := fun m ρ h => Gen.frame m ρ (ok_of_pre m h)

end Cert.Kernel33Ideal.Sum

namespace Cert.Kernel33Ideal.Sum

open Cert.Kernel33Ideal Cert.Kernel33Ideal.Gen Cert.Reference33Ideal.Read

section results
variable (m : (ℓ : Loc nD τ sig) → Buf (Elt Ideal) ℓ) (hO : Gen.Ok m) (c : Dev nD)

/-- Tables that hold a zero. -/
def adm0 : (pcfg0 (F := Ideal)).Adm :=
  ⟨fun | 0 => fun _ => 0#32 | ⟨_ + 1, h⟩ => absurd h (Nat.not_lt.2 (Nat.le_add_left _ _)), by decide +kernel⟩

/-- The blocks written back cover the array, whatever the tables. -/
theorem covers : ((cfgM m hO).win 2).Covers :=
  (by decide +kernel : ((cfg0 adm0).win 2).Covers)

/-- The block of every window at every grid point. -/
theorem idx (t : Fin (cfgM m hO).N) : ((cfgM m hO).win 0).index t = ![(num m).toNat, t.val, 0]
    ∧ ((cfgM m hO).win 1).index t = ![0, t.val, 0] ∧ ((cfgM m hO).win 2).index t = ![t.val, 0] := by
  refine ⟨(at_num m _).trans ?_, ?_, ?_⟩
  · rw [(by decide +kernel : ∀ t : Fin grid0.N, (BitVec.ofNat 32 (grid0.coords t 0).val).toNat = t.val)]
  · exact (by decide +kernel : ∀ t : Fin grid0.N, cc0_transform_1 (grid0.coords t) = ![0, t.val, 0]) t
  · exact (by decide +kernel : ∀ t : Fin grid0.N, cc0_transform_2 (grid0.coords t) = ![t.val, 0]) t

/-- The array row that row `r` of a point's block is. -/
def row (t : Fin (cfgM m hO).N) (r : Fin 1168) : Fin 1168 := ⟨t.val * 1168 + r, by have := lt_of_lt_of_eq t.isLt N_0; omega⟩

/-- The share the reference adds to: that of its chip. -/
theorem own (x0 : IVec S1 32) (x1 : FVec Ideal S4x1168x1024 .bf16) (k : Fin 4) (h : x0 (ix1 0) = BitVec.ofNat 32 k.val) (R : Fin 1168)
    (l : Fin 1024) : val_main_v16 (F := Ideal) x0 x1 (ix2 R l) = x1 (ix3 k R l) := by
  obtain rfl : x0 = fun _ => BitVec.ofNat 32 k.val := funext fun z => (congrArg x0 (eq_first z)).trans h
  fin_cases k <;> pointwise [val_main_v16, val_main_v8, val_main_v15, val_main_v10, val_main_c_1, val_main_v9, val_main_v3, val_main_c_0,
    val_main_v2, val_main_v1, val_main_c, val_main_v0, val_main_v5, val_main_v7, val_main_v12, val_main_v14, val_main_v4, val_main_v6,
    val_main_v11, val_main_v13] <;> rfl

/-- What the body leaves of its blocks. -/
theorem step_eq (i : grid0.Coords) (a2 : Memref sig .tc .vmem S1x1168x1024 .bf16) (h2 : a2.IsWhole) (a3 : Memref sig .tc .vmem S3x1168x1024 .bf16)
    (h3 : a3.IsWhole) (a4 : Memref sig .tc .vmem S1168x1024 .f32) (h4 : a4.IsWhole) (p : FVec Ideal S1x1168x1024 .bf16)
    (b : FVec Ideal S3x1168x1024 .bf16) (x : TbBuf0 (F := Ideal) c tbM0_0) (r : Fin 1168) (l : Fin 1024) :
    out0_A_2 c i a2 h2 a3 h3 a4 h4 p b x (ix2 r l) = add4 (p (ix3 0 r l)) (b (ix3 0 r l)) (b (ix3 1 r l)) (b (ix3 2 r l)) := by
  unfold out0_A_2
  frame_out
  pointwise [k0_pay1, View.ld_unit, add4]

/-- What the reference leaves. -/
theorem ref_eq (x0 : IVec S1 32) (x1 : FVec Ideal S4x1168x1024 .bf16) (x2 : FVec Ideal S3x1168x1024 .bf16) (k : Fin 4)
    (h : x0 (ix1 0) = BitVec.ofNat 32 k.val) (R : Fin 1168) (l : Fin 1024) : val_main_v29 (F := Ideal) x0 x1 x2 (ix2 R l)
      = add4 (x1 (ix3 k R l)) (x2 (ix3 0 R l)) (x2 (ix3 1 R l)) (x2 (ix3 2 R l)) := by
  rw [val_main_v29_apply, val_main_v25_apply, val_main_v21_apply, val_main_v17_apply, own x0 x1 k h]
  pointwise [add4, val_main_v28, val_main_v27, val_main_v26, val_main_v24, val_main_v23, val_main_v22, val_main_v20, val_main_v19,
    val_main_v18]

/-- The sum the kernel leaves is the reference's. -/
theorem final (h : Four (num m)) : (dats m hO 0 c).arrAt 2 ((Pipeline.pin (pcfgs (F := Ideal)) fun _ => adm m hO) 0).N
    = val_main_v29 (F := Ideal) (m ((c.tc : Thread nD τ).loc main_arg0)) (m ((c.tc : Thread nD τ).loc main_arg1))
      (m ((c.tc : Thread nD τ).loc main_arg2)) := by
  refine (dats m hO 0 c).arrAt_eq_of_covers 2 _ (covers m hO) fun t hf (y : S1168x1024.Idx) => ?_
  have e : (((cfgM m hO).win 2).blk t).view.emb y = ix2 (row m hO t (y 0)) (y 1) := by unfold row; blk_ext [idx m hO t]
  rw [e]
  blk_simp; rw [after0_2]
  have hx : ∀ r l, (show FVec Ideal S1x1168x1024 .bf16 from iblk m hO c 0 t) (ix3 0 r l)
      = (show FVec Ideal S4x1168x1024 .bf16 from m ((c : Thread nD τ).loc main_arg1)) (ix3 (share h) (row m hO t r) l) := fun r l => by
    unfold row share; blk_ext [iblk, V, idx m hO t]
  have hw : ∀ k r l, (show FVec Ideal S3x1168x1024 .bf16 from iblk m hO c 1 t) (ix3 k r l)
      = (show FVec Ideal S3x1168x1024 .bf16 from m ((c : Thread nD τ).loc main_arg2)) (ix3 k (row m hO t r) l) := fun k r l => by
    unfold row; blk_ext [iblk, V, idx m hO t]
  unfold outsAt0
  refine (congrArg _ (eq_ix2 y)).trans ((step_eq c _ _ _ _ _ _ _ _ _ _ (y 0) (y 1)).trans ?_)
  refine (congr (congr (congr (congrArg add4 (hx _ _)) (hw 0 _ _)) (hw 1 _ _)) (hw 2 _ _)).trans
    (ref_eq _ _ _ (share h) ?_ _ _).symm
  obtain rfl := Subsingleton.elim c 0
  exact (share_eq h).symm

end results

/-- The kernel's run and the reference's leave the same array. -/
theorem algebraic : Cert.algebraic_Kernel33Ideal_Reference33Ideal := by
  intro m g m' g' hpre hagree
  have hO := ok_of_pre m hpre
  refine ⟨fun c => val_main_v29 (F := Ideal) (m ((c.tc : Thread nD τ).loc main_arg0)) (m ((c.tc : Thread nD τ).loc main_arg1))
    (m ((c.tc : Thread nD τ).loc main_arg2)), ?_, ?_⟩
  · exact (θ_run Cert.Kernel33Ideal.defs _ _).mono (fun r h c => ⟨((h c).1 2).trans (final m hO c (in_range m hpre)),
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).1 1).trans (((dats m hO 0 c).arrAt_in 1 rfl _).trans ((A_eq m hO c 1).trans (V_main_arg2 m c)))⟩)
      (Cert.Kernel33Ideal.Gen.run_main m g hO)
  · refine (θ_run Cert.Reference33Ideal.defs _ _).mono (fun r h c => ⟨(h c).1.trans ?_, (h c).2⟩)
      (Cert.Reference33Ideal.Value.run m' g')
    obtain ⟨e0, e1, e2⟩ := hagree c
    rw [Cert.Reference33Ideal.Read.val_main_v29_eq, e0, e1, e2]

end Cert.Kernel33Ideal.Sum

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Reference24Ideal
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Reference25Ideal
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Reference26Ideal
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Reference27Ideal
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Reference28Ideal
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Reference29Ideal
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Reference30Ideal
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Reference31Ideal
public import proofs.«01_k».proof.Proof.Gen.Kernel32
public import proofs.«01_k».proof.Proof.Gen.Kernel32.Skeleton
public import proofs.«01_k».proof.Proof.Gen.Kernel32.Launch
public import proofs.«01_k».proof.Proof.Gen.Kernel32.Points
public import proofs.«01_k».proof.Proof.Gen.Kernel32.Frame
public import proofs.«01_k».proof.Proof.Gen.Kernel32Ideal
public import proofs.«01_k».proof.Proof.Gen.Kernel32Ideal.Skeleton
public import proofs.«01_k».proof.Proof.Gen.Kernel32Ideal.Launch
public import proofs.«01_k».proof.Proof.Gen.Kernel32Ideal.Points
public import proofs.«01_k».proof.Proof.Gen.Kernel32Ideal.Frame
public import proofs.«01_k».proof.Proof.Gen.Reference32Ideal
public import proofs.«01_k».proof.Proof.Gen.Kernel33
public import proofs.«01_k».proof.Proof.Gen.Kernel33.Skeleton
public import proofs.«01_k».proof.Proof.Gen.Kernel33.Launch
public import proofs.«01_k».proof.Proof.Gen.Kernel33.Points
public import proofs.«01_k».proof.Proof.Gen.Kernel33.Frame
public import proofs.«01_k».proof.Proof.Gen.Kernel33Ideal
public import proofs.«01_k».proof.Proof.Gen.Kernel33Ideal.Skeleton
public import proofs.«01_k».proof.Proof.Gen.Kernel33Ideal.Launch
public import proofs.«01_k».proof.Proof.Gen.Kernel33Ideal.Points
public import proofs.«01_k».proof.Proof.Gen.Kernel33Ideal.Frame
public import proofs.«01_k».proof.Proof.Gen.Reference33Ideal
public import proofs.«01_k».proof.Proof.Gen.Pre_finite_acts
public import proofs.«01_k».proof.Proof.Gen.Pre_late_core
public import proofs.«01_k».proof.Proof.Gen.Pre_w_in_core
public import proofs.«01_k».proof.Proof.Gen.Pre_late_chip
public import proofs.«01_k».proof.Proof.Gen.Pre_w_in_chip
public import proofs.«01_k».proof.Proof.Gen.On_gate_columns
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Reference8Ideal.Run
public import proofs.«01_k».proof.Proof.Gen.Reference8Ideal.Read
public import proofs.«01_k».proof.Proof.Gen.Reference14Ideal.Run
public import proofs.«01_k».proof.Proof.Gen.Reference14Ideal.Read
public import proofs.«01_k».proof.Proof.Gen.Reference15Ideal.Run
public import proofs.«01_k».proof.Proof.Gen.Reference15Ideal.Read
public import proofs.«01_k».proof.Proof.Gen.Reference19Ideal.Run
public import proofs.«01_k».proof.Proof.Gen.Reference19Ideal.Read
public import proofs.«01_k».proof.Proof.Gen.Kernel20Ideal.Value
public import proofs.«01_k».proof.Proof.Gen.Kernel21Ideal.Value
public import proofs.«01_k».proof.Proof.Gen.Kernel22Ideal.Value
public import proofs.«01_k».proof.Proof.Gen.Kernel23Ideal.Value
public import proofs.«01_k».proof.Proof.Gen.Kernel24Ideal.Value
public import proofs.«01_k».proof.Proof.Gen.Reference25Ideal.Run
public import proofs.«01_k».proof.Proof.Gen.Reference25Ideal.Read
public import proofs.«01_k».proof.Proof.Gen.Reference26Ideal.Run
public import proofs.«01_k».proof.Proof.Gen.Reference26Ideal.Read
public import proofs.«01_k».proof.Proof.Gen.Reference27Ideal.Run
public import proofs.«01_k».proof.Proof.Gen.Reference27Ideal.Read
public import proofs.«01_k».proof.Proof.Gen.Reference28Ideal.Run
public import proofs.«01_k».proof.Proof.Gen.Reference28Ideal.Read
public import proofs.«01_k».proof.Proof.Gen.Reference29Ideal.Run
public import proofs.«01_k».proof.Proof.Gen.Reference29Ideal.Read
public import proofs.«01_k».proof.Proof.Gen.Reference32Ideal.Run
public import proofs.«01_k».proof.Proof.Gen.Reference32Ideal.Read
public import proofs.«01_k».proof.Proof.Gen.Reference33Ideal.Run
public import proofs.«01_k».proof.Proof.Gen.Reference33Ideal.Read
public import proofs.«01_k».proof.Proof.Gen.Reference30Ideal.Run
public import proofs.«01_k».proof.Proof.Gen.Reference30Ideal.Read
public import proofs.«01_k».proof.Proof.Gen.Reference31Ideal.Run
public import proofs.«01_k».proof.Proof.Gen.Reference31Ideal.Read
public import proofs.«01_k».proof.Proof.MergeClaim
public import proofs.«01_k».proof.Proof.NormMath
public import proofs.«01_k».proof.Proof.Shift
public import proofs.«01_k».proof.Proof.GradMath
public import proofs.«01_k».proof.Proof.FfnUp
public import proofs.«01_k».proof.Proof.FfnDown
public import proofs.«01_k».proof.Proof.FfnDownDx
public import proofs.«01_k».proof.Proof.OutProj
public import proofs.«01_k».proof.Proof.OutProjDx
public import proofs.«01_k».proof.Proof.FfnUpDx
public import proofs.«01_k».proof.Proof.FfnUpDw
public import proofs.«01_k».proof.Proof.FfnDownDw
public import proofs.«01_k».proof.Proof.OutProjDw
public import proofs.«01_k».proof.Proof.ProjADw
public import proofs.«01_k».proof.Proof.ProjBDw
public import proofs.«01_k».proof.Proof.InProj
public import proofs.«01_k».proof.Proof.InProjDw
public import proofs.«01_k».proof.Proof.InProjDx
public import proofs.«01_k».proof.Proof.InProjDt
public import proofs.«01_k».proof.Proof.InProjDtDw
public import proofs.«01_k».proof.Proof.InProjDtDx
public import proofs.«01_k».proof.Proof.Norm
public import proofs.«01_k».proof.Proof.Adam
public import proofs.«01_k».proof.Proof.MergeFwd
public import proofs.«01_k».proof.Proof.LossHead
public import proofs.«01_k».proof.Proof.NormFwd
public import proofs.«01_k».proof.Proof.FfnAct
public import proofs.«01_k».proof.Proof.FfnActBwd
public import proofs.«01_k».proof.Proof.LatePairSum
public import proofs.«01_k».proof.Proof.WindowPairSum
public import proofs.«01_k».proof.Proof.LateChipSum
public import proofs.«01_k».proof.Proof.WindowChipSum
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The backward of the merge as printed: every run ends, its arguments unchanged and its counters at zero. -/
theorem frame_merge : Cert.quiescent_Kernel := fun m ρ _ => Cert.Kernel.Gen.frame m ρ

/-- The same of the idealized program. -/
theorem frame_merge_ideal : Cert.quiescent_KernelIdeal := fun m ρ _ => Cert.KernelIdeal.Gen.frame m ρ

/-- The same of the reference. -/
theorem frame_merge_ref : Cert.quiescent_ReferenceIdeal := Cert.KernelIdeal.Merge.frame_ref

/-- The call `ffn_up` as printed: every run ends, its arguments unchanged and its counters at zero. -/
theorem frame_ffn_up : Cert.quiescent_Kernel2 := fun m ρ _ => Cert.Kernel2.Gen.frame m ρ

/-- The same of the idealized program. -/
theorem frame_ffn_up_ideal : Cert.quiescent_Kernel2Ideal := fun m ρ _ => Cert.Kernel2Ideal.Gen.frame m ρ

/-- The same of the reference. -/
theorem frame_ffn_up_ref : Cert.quiescent_Reference2Ideal := by
  intro m ρ _
  hlo_run
  · exact fun _ => by simp
  · exact Idealize.ShloMosaic.sem_eq_zero_of_no_sems (by decide) r.2

/-- The call `ffn_down` as printed: every run ends, its arguments unchanged and its counters at zero. -/
theorem frame_ffn_down : Cert.quiescent_Kernel3 := fun m ρ _ => Cert.Kernel3.Gen.frame m ρ

/-- The same of the idealized program. -/
theorem frame_ffn_down_ideal : Cert.quiescent_Kernel3Ideal := fun m ρ _ => Cert.Kernel3Ideal.Gen.frame m ρ

/-- The same of the reference. -/
theorem frame_ffn_down_ref : Cert.quiescent_Reference3Ideal := by
  intro m ρ _
  hlo_run
  · exact fun _ => by simp
  · exact Idealize.ShloMosaic.sem_eq_zero_of_no_sems (by decide) r.2

/-- The call `ffn_down_dx` as printed: every run ends, its arguments unchanged and its counters at zero. -/
theorem frame_ffn_down_dx : Cert.quiescent_Kernel4 := fun m ρ _ => Cert.Kernel4.Gen.frame m ρ

/-- The same of the idealized program. -/
theorem frame_ffn_down_dx_ideal : Cert.quiescent_Kernel4Ideal := fun m ρ _ => Cert.Kernel4Ideal.Gen.frame m ρ

/-- The same of the reference. -/
theorem frame_ffn_down_dx_ref : Cert.quiescent_Reference4Ideal := by
  intro m ρ _
  hlo_run
  · exact fun _ => by simp
  · exact Idealize.ShloMosaic.sem_eq_zero_of_no_sems (by decide) r.2

/-- The call `out_proj` as printed: every run ends, its arguments unchanged and its counters at zero. -/
theorem frame_out_proj : Cert.quiescent_Kernel5 := fun m ρ _ => Cert.Kernel5.Gen.frame m ρ

/-- The same of the idealized program. -/
theorem frame_out_proj_ideal : Cert.quiescent_Kernel5Ideal := fun m ρ _ => Cert.Kernel5Ideal.Gen.frame m ρ

/-- The same of the reference. -/
theorem frame_out_proj_ref : Cert.quiescent_Reference5Ideal := by
  intro m ρ _
  hlo_run
  · exact fun _ => by simp
  · exact Idealize.ShloMosaic.sem_eq_zero_of_no_sems (by decide) r.2

/-- The call `out_proj_dx` as printed: every run ends, its arguments unchanged and its counters at zero. -/
theorem frame_out_proj_dx : Cert.quiescent_Kernel6 := fun m ρ _ => Cert.Kernel6.Gen.frame m ρ

/-- The same of the idealized program. -/
theorem frame_out_proj_dx_ideal : Cert.quiescent_Kernel6Ideal := fun m ρ _ => Cert.Kernel6Ideal.Gen.frame m ρ

/-- The same of the reference. -/
theorem frame_out_proj_dx_ref : Cert.quiescent_Reference6Ideal := by
  intro m ρ _
  hlo_run
  · exact fun _ => by simp
  · exact Idealize.ShloMosaic.sem_eq_zero_of_no_sems (by decide) r.2

/-- The call `ffn_up_dx` as printed: every run ends, its arguments unchanged and its counters at zero. -/
theorem frame_ffn_up_dx : Cert.quiescent_Kernel7 := fun m ρ _ => Cert.Kernel7.Gen.frame m ρ

/-- The same of the idealized program. -/
theorem frame_ffn_up_dx_ideal : Cert.quiescent_Kernel7Ideal := fun m ρ _ => Cert.Kernel7Ideal.Gen.frame m ρ

/-- The same of the reference. -/
theorem frame_ffn_up_dx_ref : Cert.quiescent_Reference7Ideal := by
  intro m ρ _
  hlo_run
  · exact fun _ => by simp
  · exact Idealize.ShloMosaic.sem_eq_zero_of_no_sems (by decide) r.2

/-- The call `ffn_up_dw` as printed: every run ends, its arguments unchanged and its counters at zero. -/
theorem frame_ffn_up_dw : Cert.quiescent_Kernel8 := fun m ρ _ => Cert.Kernel8.Gen.frame m ρ

/-- The same of the idealized program. -/
theorem frame_ffn_up_dw_ideal : Cert.quiescent_Kernel8Ideal := fun m ρ _ => Cert.Kernel8Ideal.Gen.frame m ρ

/-- The same of the reference. -/
theorem frame_ffn_up_dw_ref : Cert.quiescent_Reference8Ideal := Cert.Kernel8Ideal.Product.frame_ref

/-- The call `ffn_down_dw` as printed: every run ends, its arguments unchanged and its counters at zero. -/
theorem frame_ffn_down_dw : Cert.quiescent_Kernel9 := fun m ρ _ => Cert.Kernel9.Gen.frame m ρ

/-- The same of the idealized program. -/
theorem frame_ffn_down_dw_ideal : Cert.quiescent_Kernel9Ideal := fun m ρ _ => Cert.Kernel9Ideal.Gen.frame m ρ

/-- The same of the reference. -/
theorem frame_ffn_down_dw_ref : Cert.quiescent_Reference9Ideal := by
  intro m ρ _
  hlo_run
  · exact fun _ => by simp
  · exact Idealize.ShloMosaic.sem_eq_zero_of_no_sems (by decide) r.2

/-- The call `out_proj_dw` as printed: every run ends, its arguments unchanged and its counters at zero. -/
theorem frame_out_proj_dw : Cert.quiescent_Kernel10 := fun m ρ _ => Cert.Kernel10.Gen.frame m ρ

/-- The same of the idealized program. -/
theorem frame_out_proj_dw_ideal : Cert.quiescent_Kernel10Ideal := fun m ρ _ => Cert.Kernel10Ideal.Gen.frame m ρ

/-- The same of the reference. -/
theorem frame_out_proj_dw_ref : Cert.quiescent_Reference10Ideal := by
  intro m ρ _
  hlo_run
  · exact fun _ => by simp
  · exact Idealize.ShloMosaic.sem_eq_zero_of_no_sems (by decide) r.2

/-- The call `proj_a_dw` as printed: every run ends, its arguments unchanged and its counters at zero. -/
theorem frame_proj_a_dw : Cert.quiescent_Kernel11 := fun m ρ _ => Cert.Kernel11.Gen.frame m ρ

/-- The same of the idealized program. -/
theorem frame_proj_a_dw_ideal : Cert.quiescent_Kernel11Ideal := fun m ρ _ => Cert.Kernel11Ideal.Gen.frame m ρ

/-- The same of the reference. -/
theorem frame_proj_a_dw_ref : Cert.quiescent_Reference11Ideal := by
  intro m ρ _
  hlo_run
  · exact fun _ => by simp
  · exact Idealize.ShloMosaic.sem_eq_zero_of_no_sems (by decide) r.2

/-- The call `proj_b_dw` as printed: every run ends, its arguments unchanged and its counters at zero. -/
theorem frame_proj_b_dw : Cert.quiescent_Kernel12 := fun m ρ _ => Cert.Kernel12.Gen.frame m ρ

/-- The same of the idealized program. -/
theorem frame_proj_b_dw_ideal : Cert.quiescent_Kernel12Ideal := fun m ρ _ => Cert.Kernel12Ideal.Gen.frame m ρ

/-- The same of the reference. -/
theorem frame_proj_b_dw_ref : Cert.quiescent_Reference12Ideal := by
  intro m ρ _
  hlo_run
  · exact fun _ => by simp
  · exact Idealize.ShloMosaic.sem_eq_zero_of_no_sems (by decide) r.2

/-- The call `in_proj` as printed: every run ends, its arguments unchanged and its counters at zero. -/
theorem frame_in_proj : Cert.quiescent_Kernel13 := fun m ρ _ => Cert.Kernel13.Gen.frame m ρ

/-- The same of the idealized program. -/
theorem frame_in_proj_ideal : Cert.quiescent_Kernel13Ideal := fun m ρ _ => Cert.Kernel13Ideal.Gen.frame m ρ

/-- The same of the reference. -/
theorem frame_in_proj_ref : Cert.quiescent_Reference13Ideal := by
  intro m ρ _
  hlo_run
  · exact fun _ => by simp
  · exact Idealize.ShloMosaic.sem_eq_zero_of_no_sems (by decide) r.2

/-- The call `in_proj_dw` as printed: every run ends, its arguments unchanged and its counters at zero. -/
theorem frame_in_proj_dw : Cert.quiescent_Kernel14 := fun m ρ _ => Cert.Kernel14.Gen.frame m ρ

/-- The same of the idealized program. -/
theorem frame_in_proj_dw_ideal : Cert.quiescent_Kernel14Ideal := fun m ρ _ => Cert.Kernel14Ideal.Gen.frame m ρ

/-- The same of the reference. -/
theorem frame_in_proj_dw_ref : Cert.quiescent_Reference14Ideal := Cert.Kernel14Ideal.Product.frame_ref

/-- The call `in_proj_dx` as printed: every run ends, its arguments unchanged and its counters at zero. -/
theorem frame_in_proj_dx : Cert.quiescent_Kernel15 := fun m ρ _ => Cert.Kernel15.Gen.frame m ρ

/-- The same of the idealized program. -/
theorem frame_in_proj_dx_ideal : Cert.quiescent_Kernel15Ideal := fun m ρ _ => Cert.Kernel15Ideal.Gen.frame m ρ

/-- The same of the reference. -/
theorem frame_in_proj_dx_ref : Cert.quiescent_Reference15Ideal := Cert.Kernel15Ideal.Product.frame_ref

/-- The call `in_proj_dt` as printed: every run ends, its arguments unchanged and its counters at zero. -/
theorem frame_in_proj_dt : Cert.quiescent_Kernel16 := fun m ρ _ => Cert.Kernel16.Gen.frame m ρ

/-- The same of the idealized program. -/
theorem frame_in_proj_dt_ideal : Cert.quiescent_Kernel16Ideal := fun m ρ _ => Cert.Kernel16Ideal.Gen.frame m ρ

/-- The same of the reference. -/
theorem frame_in_proj_dt_ref : Cert.quiescent_Reference16Ideal := by
  intro m ρ _
  hlo_run
  · exact fun _ => by simp
  · exact Idealize.ShloMosaic.sem_eq_zero_of_no_sems (by decide) r.2

/-- The call `in_proj_dt_dw` as printed: every run ends, its arguments unchanged and its counters at zero. -/
theorem frame_in_proj_dt_dw : Cert.quiescent_Kernel17 := fun m ρ _ => Cert.Kernel17.Gen.frame m ρ

/-- The same of the idealized program. -/
theorem frame_in_proj_dt_dw_ideal : Cert.quiescent_Kernel17Ideal := fun m ρ _ => Cert.Kernel17Ideal.Gen.frame m ρ

/-- The same of the reference. -/
theorem frame_in_proj_dt_dw_ref : Cert.quiescent_Reference17Ideal := by
  intro m ρ _
  hlo_run
  · exact fun _ => by simp
  · exact Idealize.ShloMosaic.sem_eq_zero_of_no_sems (by decide) r.2

/-- The call `in_proj_dt_dx` as printed: every run ends, its arguments unchanged and its counters at zero. -/
theorem frame_in_proj_dt_dx : Cert.quiescent_Kernel18 := fun m ρ _ => Cert.Kernel18.Gen.frame m ρ

/-- The same of the idealized program. -/
theorem frame_in_proj_dt_dx_ideal : Cert.quiescent_Kernel18Ideal := fun m ρ _ => Cert.Kernel18Ideal.Gen.frame m ρ

/-- The same of the reference. -/
theorem frame_in_proj_dt_dx_ref : Cert.quiescent_Reference18Ideal := by
  intro m ρ _
  hlo_run
  · exact fun _ => by simp
  · exact Idealize.ShloMosaic.sem_eq_zero_of_no_sems (by decide) r.2

/-- The call `norm_bwd` as printed: every run ends, its arguments unchanged and its counters at zero. -/
theorem frame_norm_bwd : Cert.quiescent_Kernel19 := fun m ρ _ => Cert.Kernel19.Gen.frame m ρ

/-- The same of the idealized program. -/
theorem frame_norm_bwd_ideal : Cert.quiescent_Kernel19Ideal := fun m ρ _ => Cert.Kernel19Ideal.Gen.frame m ρ

/-- The same of the reference. -/
theorem frame_norm_bwd_ref : Cert.quiescent_Reference19Ideal := Cert.Kernel19Ideal.Norm.frame_ref

/-- The call `adam_w_out` as printed: every run ends, its arguments unchanged and its counters at zero. -/
theorem frame_adam_w_out : Cert.quiescent_Kernel20 := fun m ρ _ => Cert.Kernel20.Gen.frame m ρ

/-- The same of the idealized program. -/
theorem frame_adam_w_out_ideal : Cert.quiescent_Kernel20Ideal := fun m ρ _ => Cert.Kernel20Ideal.Gen.frame m ρ

/-- The same of the reference. -/
theorem frame_adam_w_out_ref : Cert.quiescent_Reference20Ideal := by
  intro m ρ _
  hlo_run
  · exact fun _ => by simp
  · exact Idealize.ShloMosaic.sem_eq_zero_of_no_sems (by decide) r.2

/-- The call `adam_w_proj_b` as printed: every run ends, its arguments unchanged and its counters at zero. -/
theorem frame_adam_w_proj_b : Cert.quiescent_Kernel21 := fun m ρ _ => Cert.Kernel21.Gen.frame m ρ

/-- The same of the idealized program. -/
theorem frame_adam_w_proj_b_ideal : Cert.quiescent_Kernel21Ideal := fun m ρ _ => Cert.Kernel21Ideal.Gen.frame m ρ

/-- The same of the reference. -/
theorem frame_adam_w_proj_b_ref : Cert.quiescent_Reference21Ideal := by
  intro m ρ _
  hlo_run
  · exact fun _ => by simp
  · exact Idealize.ShloMosaic.sem_eq_zero_of_no_sems (by decide) r.2

/-- The call `adam_ffn_w_down` as printed: every run ends, its arguments unchanged and its counters at zero. -/
theorem frame_adam_ffn_w_down : Cert.quiescent_Kernel22 := fun m ρ _ => Cert.Kernel22.Gen.frame m ρ

/-- The same of the idealized program. -/
theorem frame_adam_ffn_w_down_ideal : Cert.quiescent_Kernel22Ideal := fun m ρ _ => Cert.Kernel22Ideal.Gen.frame m ρ

/-- The same of the reference. -/
theorem frame_adam_ffn_w_down_ref : Cert.quiescent_Reference22Ideal := by
  intro m ρ _
  hlo_run
  · exact fun _ => by simp
  · exact Idealize.ShloMosaic.sem_eq_zero_of_no_sems (by decide) r.2

/-- The call `adam_ffn_w_up` as printed: every run ends, its arguments unchanged and its counters at zero. -/
theorem frame_adam_ffn_w_up : Cert.quiescent_Kernel23 := fun m ρ _ => Cert.Kernel23.Gen.frame m ρ

/-- The same of the idealized program. -/
theorem frame_adam_ffn_w_up_ideal : Cert.quiescent_Kernel23Ideal := fun m ρ _ => Cert.Kernel23Ideal.Gen.frame m ρ

/-- The same of the reference. -/
theorem frame_adam_ffn_w_up_ref : Cert.quiescent_Reference23Ideal := by
  intro m ρ _
  hlo_run
  · exact fun _ => by simp
  · exact Idealize.ShloMosaic.sem_eq_zero_of_no_sems (by decide) r.2

/-- The call `adam_w_in` as printed: every run ends, its arguments unchanged and its counters at zero. -/
theorem frame_adam_w_in : Cert.quiescent_Kernel24 := fun m ρ _ => Cert.Kernel24.Gen.frame m ρ

/-- The same of the idealized program. -/
theorem frame_adam_w_in_ideal : Cert.quiescent_Kernel24Ideal := fun m ρ _ => Cert.Kernel24Ideal.Gen.frame m ρ

/-- The same of the reference. -/
theorem frame_adam_w_in_ref : Cert.quiescent_Reference24Ideal := by
  intro m ρ _
  hlo_run
  · exact fun _ => by simp
  · exact Idealize.ShloMosaic.sem_eq_zero_of_no_sems (by decide) r.2

/-- The call `merge_fwd` as printed: every run ends, its arguments unchanged and its counters at zero. -/
theorem frame_merge_fwd : Cert.quiescent_Kernel25 := fun m ρ _ => Cert.Kernel25.Gen.frame m ρ

/-- The same of the idealized program. -/
theorem frame_merge_fwd_ideal : Cert.quiescent_Kernel25Ideal := fun m ρ _ => Cert.Kernel25Ideal.Gen.frame m ρ

/-- The same of the reference. -/
theorem frame_merge_fwd_ref : Cert.quiescent_Reference25Ideal := Cert.Kernel25Ideal.Merge.frame_ref

/-- The call `loss_head` as printed: every run ends, its arguments unchanged and its counters at zero. -/
theorem frame_loss_head : Cert.quiescent_Kernel26 := fun m ρ _ => Cert.Kernel26.Gen.frame m ρ

/-- The same of the idealized program. -/
theorem frame_loss_head_ideal : Cert.quiescent_Kernel26Ideal := fun m ρ _ => Cert.Kernel26Ideal.Gen.frame m ρ

/-- The same of the reference. -/
theorem frame_loss_head_ref : Cert.quiescent_Reference26Ideal := Cert.Kernel26Ideal.Loss.frame_ref

/-- The call `ffn_norm` as printed: every run ends, its arguments unchanged and its counters at zero. -/
theorem frame_ffn_norm : Cert.quiescent_Kernel27 := fun m ρ _ => Cert.Kernel27.Gen.frame m ρ

/-- The same of the idealized program. -/
theorem frame_ffn_norm_ideal : Cert.quiescent_Kernel27Ideal := fun m ρ _ => Cert.Kernel27Ideal.Gen.frame m ρ

/-- The same of the reference. -/
theorem frame_ffn_norm_ref : Cert.quiescent_Reference27Ideal := by
  intro m ρ _
  hlo_run
  · exact fun _ => by simp
  · exact Idealize.ShloMosaic.sem_eq_zero_of_no_sems (by decide) r.2

/-- The call `ffn_act_fwd` as printed: every run ends, its arguments unchanged and its counters at zero. -/
theorem frame_ffn_act_fwd : Cert.quiescent_Kernel28 := fun m ρ _ => Cert.Kernel28.Gen.frame m ρ

/-- The same of the idealized program. -/
theorem frame_ffn_act_fwd_ideal : Cert.quiescent_Kernel28Ideal := fun m ρ _ => Cert.Kernel28Ideal.Gen.frame m ρ

/-- The same of the reference. -/
theorem frame_ffn_act_fwd_ref : Cert.quiescent_Reference28Ideal := Cert.Kernel28Ideal.Act.frame_ref

/-- The call `ffn_act_bwd` as printed: every run ends, its arguments unchanged and its counters at zero. -/
theorem frame_ffn_act_bwd : Cert.quiescent_Kernel29 := fun m ρ _ => Cert.Kernel29.Gen.frame m ρ

/-- The same of the idealized program. -/
theorem frame_ffn_act_bwd_ideal : Cert.quiescent_Kernel29Ideal := fun m ρ _ => Cert.Kernel29Ideal.Gen.frame m ρ

/-- The same of the reference. -/
theorem frame_ffn_act_bwd_ref : Cert.quiescent_Reference29Ideal := Cert.Kernel29Ideal.Act.frame_ref

/-- The idealized program's runs end so where the precondition holds. -/
theorem frame_ffn_act_bwd_ideal_pre : Cert.quiescent_Kernel29Ideal_pre_finite_acts := fun m ρ _ => Cert.Kernel29Ideal.Gen.frame m ρ

/-- The reference's runs end so where the precondition holds. -/
theorem frame_ffn_act_bwd_ref_pre : Cert.quiescent_Reference29Ideal_pre_finite_acts := fun m ρ _ => frame_ffn_act_bwd_ref m ρ trivial

/-- The call `late_pair_sum` as printed: every run ends, its arguments unchanged and its counters at zero. -/
theorem frame_late_pair_sum : Cert.quiescent_Kernel30 := Cert.Kernel30.Sum.frame

/-- The same of the idealized program. -/
theorem frame_late_pair_sum_ideal : Cert.quiescent_Kernel30Ideal := Cert.Kernel30Ideal.Sum.frame

/-- The same of the reference. -/
theorem frame_late_pair_sum_ref : Cert.quiescent_Reference30Ideal := by
  intro m ρ _
  hlo_run
  · exact fun _ => by simp
  · exact Idealize.ShloMosaic.sem_eq_zero_of_no_sems (by decide) r.2

/-- The reference's runs end so where the precondition holds. -/
theorem frame_late_pair_sum_ref_pre : Cert.quiescent_Reference30Ideal_pre_late_core := fun m ρ _ => frame_late_pair_sum_ref m ρ trivial

/-- The call `window_pair_sum` as printed: every run ends, its arguments unchanged and its counters at zero. -/
theorem frame_window_pair_sum : Cert.quiescent_Kernel31 := Cert.Kernel31.Sum.frame

/-- The same of the idealized program. -/
theorem frame_window_pair_sum_ideal : Cert.quiescent_Kernel31Ideal := Cert.Kernel31Ideal.Sum.frame

/-- The same of the reference. -/
theorem frame_window_pair_sum_ref : Cert.quiescent_Reference31Ideal := by
  intro m ρ _
  hlo_run
  · exact fun _ => by simp
  · exact Idealize.ShloMosaic.sem_eq_zero_of_no_sems (by decide) r.2

/-- The reference's runs end so where the precondition holds. -/
theorem frame_window_pair_sum_ref_pre : Cert.quiescent_Reference31Ideal_pre_w_in_core := fun m ρ _ => frame_window_pair_sum_ref m ρ trivial

/-- The call `late_chip_sum` as printed: every run ends, its arguments unchanged and its counters at zero. -/
theorem frame_late_chip_sum : Cert.quiescent_Kernel32 := Cert.Kernel32.Sum.frame

/-- The same of the idealized program. -/
theorem frame_late_chip_sum_ideal : Cert.quiescent_Kernel32Ideal := Cert.Kernel32Ideal.Sum.frame

/-- The same of the reference. -/
theorem frame_late_chip_sum_ref : Cert.quiescent_Reference32Ideal := by
  intro m ρ _
  hlo_run
  · exact fun _ => by simp
  · exact Idealize.ShloMosaic.sem_eq_zero_of_no_sems (by decide) r.2

/-- The reference's runs end so where the precondition holds. -/
theorem frame_late_chip_sum_ref_pre : Cert.quiescent_Reference32Ideal_pre_late_chip := fun m ρ _ => frame_late_chip_sum_ref m ρ trivial

/-- The call `window_chip_sum` as printed: every run ends, its arguments unchanged and its counters at zero. -/
theorem frame_window_chip_sum : Cert.quiescent_Kernel33 := Cert.Kernel33.Sum.frame

/-- The same of the idealized program. -/
theorem frame_window_chip_sum_ideal : Cert.quiescent_Kernel33Ideal := Cert.Kernel33Ideal.Sum.frame

/-- The same of the reference. -/
theorem frame_window_chip_sum_ref : Cert.quiescent_Reference33Ideal := by
  intro m ρ _
  hlo_run
  · exact fun _ => by simp
  · exact Idealize.ShloMosaic.sem_eq_zero_of_no_sems (by decide) r.2

/-- The reference's runs end so where the precondition holds. -/
theorem frame_window_chip_sum_ref_pre : Cert.quiescent_Reference33Ideal_pre_w_in_chip := fun m ρ _ => frame_window_chip_sum_ref m ρ trivial

/-- Everything the statement claims. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts,
  Cert.Kernel6Ideal.Gen.facts, Cert.Reference6Ideal.Gen.facts, Cert.Kernel7.Gen.facts, Cert.Kernel7Ideal.Gen.facts,
  Cert.Reference7Ideal.Gen.facts, Cert.Kernel8.Gen.facts, Cert.Kernel8Ideal.Gen.facts, Cert.Reference8Ideal.Gen.facts,
  Cert.Kernel9.Gen.facts, Cert.Kernel9Ideal.Gen.facts, Cert.Reference9Ideal.Gen.facts, Cert.Kernel10.Gen.facts,
  Cert.Kernel10Ideal.Gen.facts, Cert.Reference10Ideal.Gen.facts, Cert.Kernel11.Gen.facts, Cert.Kernel11Ideal.Gen.facts,
  Cert.Reference11Ideal.Gen.facts, Cert.Kernel12.Gen.facts, Cert.Kernel12Ideal.Gen.facts, Cert.Reference12Ideal.Gen.facts,
  Cert.Kernel13.Gen.facts, Cert.Kernel13Ideal.Gen.facts, Cert.Reference13Ideal.Gen.facts, Cert.Kernel14.Gen.facts,
  Cert.Kernel14Ideal.Gen.facts, Cert.Reference14Ideal.Gen.facts, Cert.Kernel15.Gen.facts, Cert.Kernel15Ideal.Gen.facts,
  Cert.Reference15Ideal.Gen.facts, Cert.Kernel16.Gen.facts, Cert.Kernel16Ideal.Gen.facts, Cert.Reference16Ideal.Gen.facts,
  Cert.Kernel17.Gen.facts, Cert.Kernel17Ideal.Gen.facts, Cert.Reference17Ideal.Gen.facts, Cert.Kernel18.Gen.facts,
  Cert.Kernel18Ideal.Gen.facts, Cert.Reference18Ideal.Gen.facts, Cert.Kernel19.Gen.facts, Cert.Kernel19Ideal.Gen.facts,
  Cert.Reference19Ideal.Gen.facts, Cert.Kernel20.Gen.facts, Cert.Kernel20Ideal.Gen.facts, Cert.Reference20Ideal.Gen.facts,
  Cert.Kernel21.Gen.facts, Cert.Kernel21Ideal.Gen.facts, Cert.Reference21Ideal.Gen.facts, Cert.Kernel22.Gen.facts,
  Cert.Kernel22Ideal.Gen.facts, Cert.Reference22Ideal.Gen.facts, Cert.Kernel23.Gen.facts, Cert.Kernel23Ideal.Gen.facts,
  Cert.Reference23Ideal.Gen.facts, Cert.Kernel24.Gen.facts, Cert.Kernel24Ideal.Gen.facts, Cert.Reference24Ideal.Gen.facts,
  Cert.Kernel25.Gen.facts, Cert.Kernel25Ideal.Gen.facts, Cert.Reference25Ideal.Gen.facts, Cert.Kernel26.Gen.facts,
  Cert.Kernel26Ideal.Gen.facts, Cert.Reference26Ideal.Gen.facts, Cert.Kernel27.Gen.facts, Cert.Kernel27Ideal.Gen.facts,
  Cert.Reference27Ideal.Gen.facts, Cert.Kernel28.Gen.facts, Cert.Kernel28Ideal.Gen.facts, Cert.Reference28Ideal.Gen.facts,
  Cert.Kernel29.Gen.facts, Cert.Kernel29Ideal.Gen.facts, Cert.Reference29Ideal.Gen.facts, Cert.Kernel30.Gen.facts,
  Cert.Kernel30Ideal.Gen.facts, Cert.Reference30Ideal.Gen.facts, Cert.Kernel31.Gen.facts, Cert.Kernel31Ideal.Gen.facts,
  Cert.Reference31Ideal.Gen.facts, Cert.Kernel32.Gen.facts, Cert.Kernel32Ideal.Gen.facts, Cert.Reference32Ideal.Gen.facts,
  Cert.Kernel33.Gen.facts, Cert.Kernel33Ideal.Gen.facts, Cert.Reference33Ideal.Gen.facts, Cert.Pre_finite_acts.Gen.facts,
  Cert.Pre_late_core.Gen.facts, Cert.Pre_w_in_core.Gen.facts, Cert.Pre_late_chip.Gen.facts, Cert.Pre_w_in_chip.Gen.facts,
  Cert.On_gate_columns.Gen.facts,
  frame_merge, frame_merge_ideal, frame_merge_ref, frame_ffn_up,
  frame_ffn_up_ideal, frame_ffn_up_ref, frame_ffn_down, frame_ffn_down_ideal,
  frame_ffn_down_ref, frame_ffn_down_dx, frame_ffn_down_dx_ideal, frame_ffn_down_dx_ref,
  frame_out_proj, frame_out_proj_ideal, frame_out_proj_ref, frame_out_proj_dx,
  frame_out_proj_dx_ideal, frame_out_proj_dx_ref, frame_ffn_up_dx, frame_ffn_up_dx_ideal,
  frame_ffn_up_dx_ref, frame_ffn_up_dw, frame_ffn_up_dw_ideal, frame_ffn_up_dw_ref,
  frame_ffn_down_dw, frame_ffn_down_dw_ideal, frame_ffn_down_dw_ref, frame_out_proj_dw,
  frame_out_proj_dw_ideal, frame_out_proj_dw_ref, frame_proj_a_dw, frame_proj_a_dw_ideal,
  frame_proj_a_dw_ref, frame_proj_b_dw, frame_proj_b_dw_ideal, frame_proj_b_dw_ref,
  frame_in_proj, frame_in_proj_ideal, frame_in_proj_ref, frame_in_proj_dw,
  frame_in_proj_dw_ideal, frame_in_proj_dw_ref, frame_in_proj_dx, frame_in_proj_dx_ideal,
  frame_in_proj_dx_ref, frame_in_proj_dt, frame_in_proj_dt_ideal, frame_in_proj_dt_ref,
  frame_in_proj_dt_dw, frame_in_proj_dt_dw_ideal, frame_in_proj_dt_dw_ref, frame_in_proj_dt_dx,
  frame_in_proj_dt_dx_ideal, frame_in_proj_dt_dx_ref, frame_norm_bwd, frame_norm_bwd_ideal,
  frame_norm_bwd_ref, frame_adam_w_out, frame_adam_w_out_ideal, frame_adam_w_out_ref,
  frame_adam_w_proj_b, frame_adam_w_proj_b_ideal, frame_adam_w_proj_b_ref, frame_adam_ffn_w_down,
  frame_adam_ffn_w_down_ideal, frame_adam_ffn_w_down_ref, frame_adam_ffn_w_up, frame_adam_ffn_w_up_ideal,
  frame_adam_ffn_w_up_ref, frame_adam_w_in, frame_adam_w_in_ideal, frame_adam_w_in_ref,
  frame_merge_fwd, frame_merge_fwd_ideal, frame_merge_fwd_ref, frame_loss_head,
  frame_loss_head_ideal, frame_loss_head_ref, frame_ffn_norm, frame_ffn_norm_ideal,
  frame_ffn_norm_ref, frame_ffn_act_fwd, frame_ffn_act_fwd_ideal, frame_ffn_act_fwd_ref,
  frame_ffn_act_bwd, frame_ffn_act_bwd_ideal, frame_ffn_act_bwd_ideal_pre, frame_ffn_act_bwd_ref,
  frame_ffn_act_bwd_ref_pre, frame_late_pair_sum, frame_late_pair_sum_ideal, frame_late_pair_sum_ref, frame_late_pair_sum_ref_pre,
  frame_window_pair_sum, frame_window_pair_sum_ideal, frame_window_pair_sum_ref, frame_window_pair_sum_ref_pre, frame_late_chip_sum,
  frame_late_chip_sum_ideal, frame_late_chip_sum_ref, frame_late_chip_sum_ref_pre, frame_window_chip_sum, frame_window_chip_sum_ideal,
  frame_window_chip_sum_ref, frame_window_chip_sum_ref_pre,
  trivial, Cert.KernelIdeal.Merge.algebraic, trivial, Cert.Kernel2Ideal.Product.algebraic,
  trivial, Cert.Kernel3Ideal.Product.algebraic, trivial, Cert.Kernel4Ideal.Product.algebraic,
  trivial, Cert.Kernel5Ideal.Product.algebraic, trivial, Cert.Kernel6Ideal.Product.algebraic,
  trivial, Cert.Kernel7Ideal.Product.algebraic, trivial, Cert.Kernel8Ideal.Product.algebraic,
  trivial, Cert.Kernel9Ideal.Product.algebraic, trivial, Cert.Kernel10Ideal.Product.algebraic,
  trivial, Cert.Kernel11Ideal.Product.algebraic, trivial, Cert.Kernel12Ideal.Product.algebraic,
  trivial, Cert.Kernel13Ideal.Product.algebraic, trivial, Cert.Kernel14Ideal.Product.algebraic,
  trivial, Cert.Kernel15Ideal.Product.algebraic, trivial, Cert.Kernel16Ideal.Product.algebraic,
  trivial, Cert.Kernel17Ideal.Product.algebraic, trivial, Cert.Kernel18Ideal.Product.algebraic,
  trivial, Cert.Kernel19Ideal.Norm.algebraic, trivial, Cert.Adam.algebraic_20,
  trivial, Cert.Adam.algebraic_21, trivial, Cert.Adam.algebraic_22,
  trivial, Cert.Adam.algebraic_23, trivial, Cert.Adam.algebraic_24,
  trivial, Cert.Kernel25Ideal.Merge.algebraic, trivial, Cert.Kernel26Ideal.Loss.algebraic,
  trivial, Cert.Kernel27Ideal.Norm.algebraic, trivial, Cert.Kernel28Ideal.Act.algebraic,
  trivial, Cert.Kernel29Ideal.Act.algebraic, trivial, Cert.Kernel30Ideal.Sum.algebraic,
  trivial, Cert.Kernel31Ideal.Sum.algebraic, trivial, Cert.Kernel32Ideal.Sum.algebraic,
  trivial, Cert.Kernel33Ideal.Sum.algebraic⟩

end Cert.Proof

end
